-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_counts_in_range [hPre_counts_in_range : Cert.Pre_counts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_counts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_counts_in_range [hPre_counts_in_range : Cert.Pre_counts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_counts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_conditions [hPre_finite_conditions : Cert.Pre_finite_conditions.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_conditions.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_conditions.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_conditions.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_conditions [hPre_finite_conditions : Cert.Pre_finite_conditions.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_conditions.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_conditions.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_conditions.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_counts_in_range [hKernel3Ideal : Cert.Kernel3Ideal.Facts] [hPre_counts_in_range : Cert.Pre_counts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_counts_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_counts_in_range [hReference3Ideal : Cert.Reference3Ideal.Facts] [hPre_counts_in_range : Cert.Pre_counts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_counts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_conditions [hKernel5Ideal : Cert.Kernel5Ideal.Facts] [hPre_finite_conditions : Cert.Pre_finite_conditions.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_conditions m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_conditions [hReference5Ideal : Cert.Reference5Ideal.Facts] [hPre_finite_conditions : Cert.Pre_finite_conditions.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_conditions m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal_on_rows_in_use_pre_counts_in_range [hKernel3Ideal : Cert.Kernel3Ideal.Facts] [hReference3Ideal : Cert.Reference3Ideal.Facts] [hPre_counts_in_range : Cert.Pre_counts_in_range.Facts] [hOn_rows_in_use : Cert.On_rows_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_counts_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v33)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![2, 139264, 512]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v33) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![2, 139264, 512]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v201) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_conditions [hKernel5Ideal : Cert.Kernel5Ideal.Facts] [hReference5Ideal : Cert.Reference5Ideal.Facts] [hPre_finite_conditions : Cert.Pre_finite_conditions.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_conditions m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v113) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_keys : Cert.Pre_finite_queries_keys.Facts) (hPre_counts_in_range : Cert.Pre_counts_in_range.Facts) (hPre_finite_conditions : Cert.Pre_finite_conditions.Facts) (hOn_rows_in_use : Cert.On_rows_in_use.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_counts_in_range (hKernel3Ideal := hKernel3Ideal) (hPre_counts_in_range := hPre_counts_in_range)
    ∧ quiescent_Reference3Ideal (hReference3Ideal := hReference3Ideal)
    ∧ quiescent_Reference3Ideal_pre_counts_in_range (hReference3Ideal := hReference3Ideal) (hPre_counts_in_range := hPre_counts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_conditions (hKernel5Ideal := hKernel5Ideal) (hPre_finite_conditions := hPre_finite_conditions)
    ∧ quiescent_Reference5Ideal (hReference5Ideal := hReference5Ideal)
    ∧ quiescent_Reference5Ideal_pre_finite_conditions (hReference5Ideal := hReference5Ideal) (hPre_finite_conditions := hPre_finite_conditions)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_rows_in_use_pre_counts_in_range (hKernel3Ideal := hKernel3Ideal) (hReference3Ideal := hReference3Ideal) (hPre_counts_in_range := hPre_counts_in_range) (hOn_rows_in_use := hOn_rows_in_use)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_conditions (hKernel5Ideal := hKernel5Ideal) (hReference5Ideal := hReference5Ideal) (hPre_finite_conditions := hPre_finite_conditions)
    ∧ preserves_Kernel6_Kernel6Ideal
    ∧ algebraic_Kernel6Ideal_Reference6Ideal (hKernel6Ideal := hKernel6Ideal) (hReference6Ideal := hReference6Ideal)
-- ==== On_rows_in_use.lean ====
abbrev S139264x1024 : Shape := ⟨2, ![139264, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S139264 : Shape := ⟨1, ![139264]⟩
abbrev S1x139264x1 : Shape := ⟨3, ![1, 139264, 1]⟩
abbrev S2x139264x512 : Shape := ⟨3, ![2, 139264, 512]⟩

class Facts : Prop where
  bcast_S_S8 : S_.BroadcastsInDim S8 (![] : Fin 0 → Fin S8.rank)
  reducesTo_S8_S_d0 : S8.ReducesTo [0] S_
  h_S_ : 0 < S_.numel
  bcast_S_S139264 : S_.BroadcastsInDim S139264 (![] : Fin 0 → Fin S139264.rank)
  bcast_S139264_S1x139264x1_1 : S139264.BroadcastsInDim S1x139264x1 (![1] : Fin 1 → Fin S1x139264x1.rank)
  bcast_S1x139264x1_S2x139264x512_0_1_2 : S1x139264x1.BroadcastsInDim S2x139264x512 (![0, 1, 2] : Fin 3 → Fin S2x139264x512.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn {F : FTy → Type} [FloatOps F] (main_arg0 : FVec F S139264x1024 .f32) (main_arg1 : IVec S8 32) (main_arg2 : FVec F S2x8x1024x3584 .f32) (main_arg3 : FVec F S2x8x1024x3584 .f32) (main_arg4 : FVec F S2x8x3584x1024 .f32) : IVec S2x139264x512 1 :=
  let main_v0 : IVec S8 32 := negi main_arg1
  let main_c : IVec S_ 32 := constantI S_ 32 1024#32
  let main_v1 : IVec S8 32 := fn_floor_divide (F := F) main_v0 main_c
  let main_v2 : IVec S8 32 := negi main_v1
  let main_c_0 : IVec S_ 32 := constantI S_ 32 1024#32
  let main_v3 : IVec S8 32 := broadcastInDim S8 ![] bcast_S_S8 main_c_0
  let main_v4 : IVec S8 32 := muli main_v2 main_v3
  let main_c_1 : IVec S_ 32 := constantI S_ 32 0#32
  let main_v5 : IVec S_ 32 := (fun x v => Host.reduce IntOp.addi x v reducesTo_S8_S_d0 h_S_) main_v4 main_c_1
  let main_v6 : IVec S139264 32 := iotaInDim S139264 32 0
  let main_v7 : IVec S139264 32 := broadcastInDim S139264 ![] bcast_S_S139264 main_v5
  let main_v8 : IVec S139264 1 := cmpi .slt main_v6 main_v7
  let main_v9 : IVec S1x139264x1 1 := broadcastInDim S1x139264x1 ![1] bcast_S139264_S1x139264x1_1 main_v8
  let main_v10 : IVec S2x139264x512 1 := broadcastInDim S2x139264x512 ![0, 1, 2] bcast_S1x139264x1_S2x139264x512_0_1_2 main_v9
  main_v10
-- ==== Pre_counts_in_range.lean ====
abbrev S139264x1024 : Shape := ⟨2, ![139264, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S139264x1024 .f32) (main_arg1 : IVec S8 32) (main_arg2 : FVec F S2x8x1024x3584 .f32) (main_arg3 : FVec F S2x8x1024x3584 .f32) (main_arg4 : FVec F S2x8x3584x1024 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 131072#32
  let main_v2 : IVec S8 32 := broadcastInDim S8 ![] bcast_S_S8 main_c_0
  let main_v3 : IVec S8 1 := cmpi .sle main_arg1 main_v2
  let main_v4 : IVec S8 1 := andi main_v1 main_v3
  main_v4
-- ==== Pre_finite_conditions.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S4x1024x6144 : S_.BroadcastsInDim S4x1024x6144 (![] : Fin 0 → Fin S4x1024x6144.rank)

variable [Facts]

def fn {F : FTy → Type} [FloatOps F] (main_arg0 : FVec F S8x1024 .f32) (main_arg1 : FVec F S1024 .f32) (main_arg2 : FVec F S4x1024x6144 .f32) (main_arg3 : FVec F S4x6144 .f32) : IVec S8x1024 1 × IVec S1024 1 × IVec S4x1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Pre_finite_queries_keys.lean ====
abbrev S8x4x8192x192 : Shape := ⟨4, ![8, 4, 8192, 192]⟩
abbrev S8x4x192x8192 : Shape := ⟨4, ![8, 4, 192, 8192]⟩
abbrev S8x4x8192x128 : Shape := ⟨4, ![8, 4, 8192, 128]⟩
abbrev S8x4x192x256 : Shape := ⟨4, ![8, 4, 192, 256]⟩
abbrev S8x4x256x128 : Shape := ⟨4, ![8, 4, 256, 128]⟩
abbrev S_ : Shape := ⟨0, ![]⟩

class Facts : Prop where
  bitsLt_bf16_f32 : FTy.bits .bf16 < FTy.bits .f32
  bcast_S_S8x4x8192x192 : S_.BroadcastsInDim S8x4x8192x192 (![] : Fin 0 → Fin S8x4x8192x192.rank)
  bcast_S_S8x4x192x8192 : S_.BroadcastsInDim S8x4x192x8192 (![] : Fin 0 → Fin S8x4x192x8192.rank)
  bcast_S_S8x4x192x256 : S_.BroadcastsInDim S8x4x192x256 (![] : Fin 0 → Fin S8x4x192x256.rank)

variable [Facts]

def fn {F : FTy → Type} [FloatOps F] (main_arg0 : FVec F S8x4x8192x192 .bf16) (main_arg1 : FVec F S8x4x192x8192 .bf16) (main_arg2 : FVec F S8x4x8192x128 .bf16) (main_arg3 : FVec F S8x4x192x256 .bf16) (main_arg4 : FVec F S8x4x256x128 .bf16) : IVec S8x4x8192x192 1 × IVec S8x4x192x8192 1 × IVec S8x4x192x256 1 :=
  let main_v0 : FVec F S8x4x8192x192 .f32 := (extf .f32 · bitsLt_bf16_f32) main_arg0
  let main_v1 : FVec F S8x4x8192x192 .f32 := Host.absf main_v0
  let main_cst : FVec F S_ .f32 := constant S_ .f32 0x7F800000#32
  let main_v2 : FVec F S8x4x8192x192 .f32 := broadcastInDim S8x4x8192x192 ![] bcast_S_S8x4x8192x192 main_cst
  let main_v3 : IVec S8x4x8192x192 1 := cmpf .olt main_v1 main_v2
  let main_v4 : FVec F S8x4x192x8192 .f32 := (extf .f32 · bitsLt_bf16_f32) main_arg1
  let main_v5 : FVec F S8x4x192x8192 .f32 := Host.absf main_v4
  let main_cst_0 : FVec F S_ .f32 := constant S_ .f32 0x7F800000#32
  let main_v6 : FVec F S8x4x192x8192 .f32 := broadcastInDim S8x4x192x8192 ![] bcast_S_S8x4x192x8192 main_cst_0
  let main_v7 : IVec S8x4x192x8192 1 := cmpf .olt main_v5 main_v6
  let main_v8 : FVec F S8x4x192x256 .f32 := (extf .f32 · bitsLt_bf16_f32) main_arg3
  let main_v9 : FVec F S8x4x192x256 .f32 := Host.absf main_v8
  let main_cst_1 : FVec F S_ .f32 := constant S_ .f32 0x7F800000#32
  let main_v10 : FVec F S8x4x192x256 .f32 := broadcastInDim S8x4x192x256 ![] bcast_S_S8x4x192x256 main_cst_1
  let main_v11 : IVec S8x4x192x256 1 := cmpf .olt main_v9 main_v10
  (main_v3, main_v7, main_v11)
-- ==== Kernel.lean ====
abbrev S8x4x8192x192 : Shape := ⟨4, ![8, 4, 8192, 192]⟩
abbrev S8x4x192x8192 : Shape := ⟨4, ![8, 4, 192, 8192]⟩
abbrev S8x4x8192x128 : Shape := ⟨4, ![8, 4, 8192, 128]⟩
abbrev S8x4x192x256 : Shape := ⟨4, ![8, 4, 192, 256]⟩
abbrev S8x4x256x128 : Shape := ⟨4, ![8, 4, 256, 128]⟩
abbrev S8x8192x512 : Shape := ⟨3, ![8, 8192, 512]⟩
abbrev S1x1x1024x192 : Shape := ⟨4, ![1, 1, 1024, 192]⟩
abbrev S1x1x192x8192 : Shape := ⟨4, ![1, 1, 192, 8192]⟩
abbrev S1x1x8192x128 : Shape := ⟨4, ![1, 1, 8192, 128]⟩
abbrev S1x1x192x256 : Shape := ⟨4, ![1, 1, 192, 256]⟩
abbrev S1x1x256x128 : Shape := ⟨4, ![1, 1, 256, 128]⟩
abbrev S1x1024x128 : Shape := ⟨3, ![1, 1024, 128]⟩
abbrev S8192x256 : Shape := ⟨2, ![8192, 256]⟩
abbrev S256x256 : Shape := ⟨2, ![256, 256]⟩
abbrev S8192x128 : Shape := ⟨2, ![8192, 128]⟩
abbrev S256x128 : Shape := ⟨2, ![256, 128]⟩
abbrev S1024x192 : Shape := ⟨2, ![1024, 192]⟩
abbrev S1024x1 : Shape := ⟨2, ![1024, 1]⟩
abbrev S1024x256 : Shape := ⟨2, ![1024, 256]⟩
abbrev S1x1x192x1024 : Shape := ⟨4, ![1, 1, 192, 1024]⟩
abbrev S192x1024 : Shape := ⟨2, ![192, 1024]⟩
abbrev S1024x1024 : Shape := ⟨2, ![1024, 1024]⟩
abbrev S1024 : Shape := ⟨1, ![1024]⟩
abbrev S192x256 : Shape := ⟨2, ![192, 256]⟩
abbrev S1024x128 : Shape := ⟨2, ![1024, 128]⟩

abbrev nBuf : Space → Nat
  | .hbm => 6
  | .vmem => 14
  | .smem => 0
  | _ => 0

abbrev bufTy : (tb : Table) → Fin (tcTables nBuf tb) → BufTy
  | .hbm, ⟨0, _⟩ => ⟨S8x4x8192x192, .bf16⟩
  | .hbm, ⟨1, _⟩ => ⟨S8x4x192x8192, .bf16⟩
  | .hbm, ⟨2, _⟩ => ⟨S8x4x8192x128, .bf16⟩
  | .hbm, ⟨3, _⟩ => ⟨S8x4x192x256, .bf16⟩
  | .hbm, ⟨4, _⟩ => ⟨S8x4x256x128, .bf16⟩
  | .hbm, ⟨5, _⟩ => ⟨S8x8192x512, .bf16⟩
  | .local _ .vmem, ⟨0, _⟩ => ⟨S1x1x1024x192, .bf16⟩
  | .local _ .vmem, ⟨1, _⟩ => ⟨S1x1x1024x192, .bf16⟩
  | .local _ .vmem, ⟨2, _⟩ => ⟨S1x1x192x8192, .bf16⟩
  | .local _ .vmem, ⟨3, _⟩ => ⟨S1x1x192x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x192x256, .bf16⟩
  | .local _ .vmem, ⟨7, _⟩ => ⟨S1x1x192x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S8192x256, .bf16⟩
  | .local _ .vmem, ⟨13, _⟩ => ⟨S256x256, .bf16⟩
  | _, _ => ⟨S8x4x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x192x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4x8192x192 : Shape := ⟨4, ![8, 4, 8192, 192]⟩
abbrev S8x4x192x8192 : Shape := ⟨4, ![8, 4, 192, 8192]⟩
abbrev S8x4x8192x128 : Shape := ⟨4, ![8, 4, 8192, 128]⟩
abbrev S8x4x192x256 : Shape := ⟨4, ![8, 4, 192, 256]⟩
abbrev S8x4x256x128 : Shape := ⟨4, ![8, 4, 256, 128]⟩
abbrev S8x4x8192x64 : Shape := ⟨4, ![8, 4, 8192, 64]⟩
abbrev S8x4x192x8448 : Shape := ⟨4, ![8, 4, 192, 8448]⟩
abbrev S8x4x128x8448 : Shape := ⟨4, ![8, 4, 128, 8448]⟩
abbrev S8x4x64x8448 : Shape := ⟨4, ![8, 4, 64, 8448]⟩
abbrev S8x4x8448x128 : Shape := ⟨4, ![8, 4, 8448, 128]⟩
abbrev S8x4x8192x8448 : Shape := ⟨4, ![8, 4, 8192, 8448]⟩
abbrev S_ : Shape := ⟨0, ![]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x8192x4x128 : Shape := ⟨4, ![8, 8192, 4, 128]⟩
abbrev S8x8192x512 : Shape := ⟨3, ![8, 8192, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x4x8192x192, .bf16⟩
  | .hbm, ⟨1, _⟩ => ⟨S8x4x192x8192, .bf16⟩
  | .hbm, ⟨2, _⟩ => ⟨S8x4x8192x128, .bf16⟩
  | .hbm, ⟨3, _⟩ => ⟨S8x4x192x256, .bf16⟩
  | .hbm, ⟨4, _⟩ => ⟨S8x4x256x128, .bf16⟩
  | .hbm, ⟨5, _⟩ => ⟨S8x4x8192x192, .f32⟩
  | .hbm, ⟨6, _⟩ => ⟨S8x4x8192x128, .f32⟩
  | .hbm, ⟨7, _⟩ => ⟨S8x4x8192x192, .f32⟩
  | .hbm, ⟨8, _⟩ => ⟨S8x4x8192x64, .f32⟩
  | .hbm, ⟨9, _⟩ => ⟨S8x4x192x256, .f32⟩
  | .hbm, ⟨10, _⟩ => ⟨S8x4x192x8192, .f32⟩
  | .hbm, ⟨11, _⟩ => ⟨S8x4x192x8448, .f32⟩
  | .hbm, ⟨12, _⟩ => ⟨S8x4x128x8448, .f32⟩
  | .hbm, ⟨13, _⟩ => ⟨S8x4x64x8448, .f32⟩
  | .hbm, ⟨14, _⟩ => ⟨S8x4x256x128, .f32⟩
  | .hbm, ⟨15, _⟩ => ⟨S8x4x8192x128, .f32⟩
  | .hbm, ⟨16, _⟩ => ⟨S8x4x8448x128, .f32⟩
  | .hbm, ⟨17, _⟩ => ⟨S8x4x8192x8448, .f32⟩
  | .hbm, ⟨18, _⟩ => ⟨S8x4x8192x8448, .f32⟩
  | .hbm, ⟨19, _⟩ => ⟨S8x4x8192x8448, .f32⟩
  | .hbm, ⟨20, _⟩ => ⟨S8x4x8192x8448, .bf16⟩
  | .hbm, ⟨21, _⟩ => ⟨S8x4x8192x8448, .f32⟩
  | .hbm, ⟨22, _⟩ => ⟨S_, .f32⟩
  | .hbm, ⟨23, _⟩ => ⟨S8x4x8192, .f32⟩
  | .hbm, ⟨24, _⟩ => ⟨S_, .f32⟩
  | .hbm, ⟨25, _⟩ => ⟨S8x4x8192, .f32⟩
  | .hbm, ⟨26, _⟩ => ⟨S8x4x8192, .f32⟩
  | .hbm, ⟨27, _⟩ => ⟨S8x4x8192x1, .f32⟩
  | .hbm, ⟨28, _⟩ => ⟨S8x4x8192x8448, .f32⟩
  | .hbm, ⟨29, _⟩ => ⟨S8x4x8192x8448, .f32⟩
  | .hbm, ⟨30, _⟩ => ⟨S8x4x8192x8448, .f32⟩
  | .hbm, ⟨31, _⟩ => ⟨S_, .f32⟩
  | .hbm, ⟨32, _⟩ => ⟨S8x4x8192, .f32⟩
  | .hbm, ⟨33, _⟩ => ⟨S8x4x8192x1, .f32⟩
  | .hbm, ⟨34, _⟩ => ⟨S8x4x8192x8448, .f32⟩
  | .hbm, ⟨35, _⟩ => ⟨S8x4x8192x8448, .f32⟩
  | .hbm, ⟨36, _⟩ => ⟨S8x4x8192x8448, .bf16⟩
  | .hbm, ⟨37, _⟩ => ⟨S8x4x8192x8448, .f32⟩
  | .hbm, ⟨38, _⟩ => ⟨S8x4x128x8192, .f32⟩
  | .hbm, ⟨39, _⟩ => ⟨S8x8192x4x128, .f32⟩
  | .hbm, ⟨40, _⟩ => ⟨S8x8192x512, .f32⟩
  | .hbm, ⟨41, _⟩ => ⟨S8x8192x512, .bf16⟩
  | _, _ => ⟨S8x4x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S128 : Shape := ⟨1, ![128]⟩
abbrev S1024x1024 : Shape := ⟨2, ![1024, 1024]⟩
abbrev S1024 : Shape := ⟨1, ![1024]⟩
abbrev S8x1024 : Shape := ⟨2, ![8, 1024]⟩
abbrev S1024x2816 : Shape := ⟨2, ![1024, 2816]⟩
abbrev S2816x1024 : Shape := ⟨2, ![2816, 1024]⟩
abbrev S512x1024 : Shape := ⟨2, ![512, 1024]⟩
abbrev S1x128 : Shape := ⟨2, ![1, 128]⟩
abbrev S1x1024 : Shape := ⟨2, ![1, 1024]⟩
abbrev S8x1x1024 : Shape := ⟨3, ![8, 1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 33
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .bf16⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S8x1024, .f32⟩
  | .hbm, ⟨9, _⟩ => ⟨S1024, .f32⟩
  | .hbm, ⟨10, _⟩ => ⟨S8x1024, .f32⟩
  | .hbm, ⟨11, _⟩ => ⟨S8x1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1024, .f32⟩
  | .hbm, ⟨16, _⟩ => ⟨S8x1024, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1x128, .f32⟩
  | .hbm, ⟨22, _⟩ => ⟨S1x1024, .f32⟩
  | .hbm, ⟨23, _⟩ => ⟨S8x1x1024, .f32⟩
  | .hbm, ⟨24, _⟩ => ⟨S1x1024, .f32⟩
  | .hbm, ⟨25, _⟩ => ⟨S8x1x1024, .f32⟩
  | .hbm, ⟨26, _⟩ => ⟨S8x1x1024, .f32⟩
  | .hbm, ⟨27, _⟩ => ⟨S1024x2816, .bf16⟩
  | .hbm, ⟨28, _⟩ => ⟨S1024x2816, .bf16⟩
  | .hbm, ⟨29, _⟩ => ⟨S2816x1024, .bf16⟩
  | .hbm, ⟨30, _⟩ => ⟨S1x1024, .f32⟩
  | .hbm, ⟨31, _⟩ => ⟨S8x1x1024, .f32⟩
  | .hbm, ⟨32, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | .local _ .vmem, ⟨24, _⟩ => ⟨S1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x512x1024, .f32⟩
  | .local _ .vmem, ⟨28, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x8192x1024 : Shape := ⟨3, ![8, 8192, 1024]⟩
abbrev S8x8192x512 : Shape := ⟨3, ![8, 8192, 512]⟩
abbrev S128 : Shape := ⟨1, ![128]⟩
abbrev S1024x1024 : Shape := ⟨2, ![1024, 1024]⟩
abbrev S1024 : Shape := ⟨1, ![1024]⟩
abbrev S8x1024 : Shape := ⟨2, ![8, 1024]⟩
abbrev S1024x2816 : Shape := ⟨2, ![1024, 2816]⟩
abbrev S2816x1024 : Shape := ⟨2, ![2816, 1024]⟩
abbrev S8x8192x4x128 : Shape := ⟨4, ![8, 8192, 4, 128]⟩
abbrev S_ : Shape := ⟨0, ![]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩

abbrev nBuf : Space → Nat
  | .hbm => 127
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .bf16⟩
  | .hbm, ⟨5, _⟩ => ⟨S128, .f32⟩
  | .hbm, ⟨6, _⟩ => ⟨S1024x1024, .f32⟩
  | .hbm, ⟨7, _⟩ => ⟨S1024, .f32⟩
  | .hbm, ⟨8, _⟩ => ⟨S8x1024, .f32⟩
  | .hbm, ⟨9, _⟩ => ⟨S1024, .f32⟩
  | .hbm, ⟨10, _⟩ => ⟨S8x1024, .f32⟩
  | .hbm, ⟨11, _⟩ => ⟨S8x1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1024, .f32⟩
  | .hbm, ⟨16, _⟩ => ⟨S8x1024, .f32⟩
  | .hbm, ⟨17, _⟩ => ⟨S8x8192x512, .f32⟩
  | .hbm, ⟨18, _⟩ => ⟨S8x8192x4x128, .f32⟩
  | .hbm, ⟨19, _⟩ => ⟨S8x8192x4x128, .f32⟩
  | .hbm, ⟨20, _⟩ => ⟨S_, .f32⟩
  | .hbm, ⟨21, _⟩ => ⟨S8x8192x4, .f32⟩
  | .hbm, ⟨22, _⟩ => ⟨S8x8192x4x1, .f32⟩
  | .hbm, ⟨23, _⟩ => ⟨S_, .f32⟩
  | .hbm, ⟨24, _⟩ => ⟨S8x8192x4x1, .f32⟩
  | .hbm, ⟨25, _⟩ => ⟨S8x8192x4x1, .f32⟩
  | .hbm, ⟨26, _⟩ => ⟨S_, .f32⟩
  | .hbm, ⟨27, _⟩ => ⟨S8x8192x4x1, .f32⟩
  | .hbm, ⟨28, _⟩ => ⟨S8x8192x4x1, .f32⟩
  | .hbm, ⟨29, _⟩ => ⟨S8x8192x4x1, .f32⟩
  | .hbm, ⟨30, _⟩ => ⟨S8x8192x4x128, .f32⟩
  | .hbm, ⟨31, _⟩ => ⟨S8x8192x4x128, .f32⟩
  | .hbm, ⟨32, _⟩ => ⟨S1x1x1x128, .f32⟩
  | .hbm, ⟨33, _⟩ => ⟨S8x8192x4x128, .f32⟩
  | .hbm, ⟨34, _⟩ => ⟨S8x8192x4x128, .f32⟩
  | .hbm, ⟨35, _⟩ => ⟨S8x8192x512, .f32⟩
  | .hbm, ⟨36, _⟩ => ⟨S8x8192x512, .f32⟩
  | .hbm, ⟨37, _⟩ => ⟨S8x8192x512, .f32⟩
  | .hbm, ⟨38, _⟩ => ⟨S_, .f32⟩
  | .hbm, ⟨39, _⟩ => ⟨S8x8192x512, .f32⟩
  | .hbm, ⟨40, _⟩ => ⟨S8x8192x512, .f32⟩
  | .hbm, ⟨41, _⟩ => ⟨S_, .f32⟩
  | .hbm, ⟨42, _⟩ => ⟨S8x8192x512, .f32⟩
  | .hbm, ⟨43, _⟩ => ⟨S8x8192x512, .f32⟩
  | .hbm, ⟨44, _⟩ => ⟨S8x8192x512, .f32⟩
  | .hbm, ⟨45, _⟩ => ⟨S8x8192x512, .f32⟩
  | .hbm, ⟨46, _⟩ => ⟨S8x8192x512, .f32⟩
  | .hbm, ⟨47, _⟩ => ⟨S8x8192x1024, .f32⟩
  | .hbm, ⟨48, _⟩ => ⟨S8x8192x1024, .f32⟩
  | .hbm, ⟨49, _⟩ => ⟨S8x1x1024, .f32⟩
  | .hbm, ⟨50, _⟩ => ⟨S8x8192x1024, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x1, .f32⟩
  | .hbm, ⟨61, _⟩ => ⟨S8x8192x1024, .f32⟩
  | .hbm, ⟨62, _⟩ => ⟨S8x8192x1024, .f32⟩
  | .hbm, ⟨63, _⟩ => ⟨S1x1x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S_, .f32⟩
  | .hbm, ⟨74, _⟩ => ⟨S8x8192x1, .f32⟩
  | .hbm, ⟨75, _⟩ => ⟨S8x8192x1, .f32⟩
  | .hbm, ⟨76, _⟩ => ⟨S_, .f32⟩
  | .hbm, ⟨77, _⟩ => ⟨S8x8192x1, .f32⟩
  | .hbm, ⟨78, _⟩ => ⟨S8x8192x1, .f32⟩
  | .hbm, ⟨79, _⟩ => ⟨S8x8192x1, .f32⟩
  | .hbm, ⟨80, _⟩ => ⟨S8x8192x1024, .f32⟩
  | .hbm, ⟨81, _⟩ => ⟨S8x8192x1024, .f32⟩
  | .hbm, ⟨82, _⟩ => ⟨S1x1x1024, .f32⟩
  | .hbm, ⟨83, _⟩ => ⟨S8x8192x1024, .f32⟩
  | .hbm, ⟨84, _⟩ => ⟨S8x8192x1024, .f32⟩
  | .hbm, ⟨85, _⟩ => ⟨S8x1x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S8x8192x1024, .f32⟩
  | .hbm, ⟨90, _⟩ => ⟨S8x8192x1024, .f32⟩
  | .hbm, ⟨91, _⟩ => ⟨S8x1x1024, .f32⟩
  | .hbm, ⟨92, _⟩ => ⟨S8x8192x1024, .f32⟩
  | .hbm, ⟨93, _⟩ => ⟨S8x8192x1024, .f32⟩
  | .hbm, ⟨94, _⟩ => ⟨S8x8192x2816, .f32⟩
  | .hbm, ⟨95, _⟩ => ⟨S8x8192x2816, .f32⟩
  | .hbm, ⟨96, _⟩ => ⟨S8x8192x2816, .f32⟩
  | .hbm, ⟨97, _⟩ => ⟨S_, .f32⟩
  | .hbm, ⟨98, _⟩ => ⟨S8x8192x2816, .f32⟩
  | .hbm, ⟨99, _⟩ => ⟨S8x8192x2816, .f32⟩
  | .hbm, ⟨100, _⟩ => ⟨S_, .f32⟩
  | .hbm, ⟨101, _⟩ => ⟨S8x8192x2816, .f32⟩
  | .hbm, ⟨102, _⟩ => ⟨S8x8192x2816, .f32⟩
  | .hbm, ⟨103, _⟩ => ⟨S8x8192x2816, .f32⟩
  | .hbm, ⟨104, _⟩ => ⟨S8x8192x2816, .f32⟩
  | .hbm, ⟨105, _⟩ => ⟨S8x8192x2816, .f32⟩
  | .hbm, ⟨106, _⟩ => ⟨S8x8192x1024, .f32⟩
  | .hbm, ⟨107, _⟩ => ⟨S8x1x1024, .f32⟩
  | .hbm, ⟨108, _⟩ => ⟨S8x8192x1024, .f32⟩
  | .hbm, ⟨109, _⟩ => ⟨S_, .f32⟩
  | .hbm, ⟨110, _⟩ => ⟨S8x8192, .f32⟩
  | .hbm, ⟨111, _⟩ => ⟨S8x8192x1, .f32⟩
  | .hbm, ⟨112, _⟩ => ⟨S_, .f32⟩
  | .hbm, ⟨113, _⟩ => ⟨S8x8192x1, .f32⟩
  | .hbm, ⟨114, _⟩ => ⟨S8x8192x1, .f32⟩
  | .hbm, ⟨115, _⟩ => ⟨S_, .f32⟩
  | .hbm, ⟨116, _⟩ => ⟨S8x8192x1, .f32⟩
  | .hbm, ⟨117, _⟩ => ⟨S8x8192x1, .f32⟩
  | .hbm, ⟨118, _⟩ => ⟨S8x8192x1, .f32⟩
  | .hbm, ⟨119, _⟩ => ⟨S8x8192x1024, .f32⟩
  | .hbm, ⟨120, _⟩ => ⟨S8x8192x1024, .f32⟩
  | .hbm, ⟨121, _⟩ => ⟨S1x1x1024, .f32⟩
  | .hbm, ⟨122, _⟩ => ⟨S8x8192x1024, .f32⟩
  | .hbm, ⟨123, _⟩ => ⟨S8x8192x1024, .f32⟩
  | .hbm, ⟨124, _⟩ => ⟨S8x8192x1024, .f32⟩
  | .hbm, ⟨125, _⟩ => ⟨S8x8192x1024, .f32⟩
  | .hbm, ⟨126, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_9 : Ref sig .tc := ⟨.hbm, 109, rfl⟩
abbrev main_v66 : Ref sig .tc := ⟨.hbm, 110, rfl⟩
abbrev main_v67 : Ref sig .tc := ⟨.hbm, 111, rfl⟩
abbrev main_cst_10 : Ref sig .tc := ⟨.hbm, 112, rfl⟩
abbrev main_v68 : Ref sig .tc := ⟨.hbm, 113, rfl⟩
abbrev main_v69 : Ref sig .tc := ⟨.hbm, 114, rfl⟩
abbrev main_cst_11 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩

abbrev nD : Nat := 1
abbrev τ : Topo := Topo.v7x

variable {F : FTy → Type} [FloatOps F]
-- ==== Kernel3.lean ====
abbrev S139264x1024 : Shape := ⟨2, ![139264, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S1 : Shape := ⟨1, ![1]⟩
abbrev S16x1024x3584 : Shape := ⟨3, ![16, 1024, 3584]⟩
abbrev S16x3584x1024 : Shape := ⟨3, ![16, 3584, 1024]⟩
abbrev S139264x2x512 : Shape := ⟨3, ![139264, 2, 512]⟩
abbrev S2x139264x512 : Shape := ⟨3, ![2, 139264, 512]⟩
abbrev S2x1024x512 : Shape := ⟨3, ![2, 1024, 512]⟩
abbrev S1x1024x1792 : Shape := ⟨3, ![1, 1024, 1792]⟩
abbrev S1x1792x1024 : Shape := ⟨3, ![1, 1792, 1024]⟩
abbrev S1024x1024 : Shape := ⟨2, ![1024, 1024]⟩
abbrev S1x1024x512 : Shape := ⟨3, ![1, 1024, 512]⟩
abbrev S1024x512 : Shape := ⟨2, ![1024, 512]⟩
abbrev S1024x256 : Shape := ⟨2, ![1024, 256]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 80
  | .vmem => 12
  | .smem => 2
  | _ => 0

abbrev bufTy : (tb : Table) → Fin (tcTables nBuf tb) → BufTy
  | .hbm, ⟨0, _⟩ => ⟨S139264x1024, .f32⟩
  | .hbm, ⟨1, _⟩ => ⟨S8, .i32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S136, .i32⟩
  | .hbm, ⟨36, _⟩ => ⟨S136x1, .i32⟩
  | .hbm, ⟨37, _⟩ => ⟨S_, .i32⟩
  | .hbm, ⟨38, _⟩ => ⟨S136x1, .i32⟩
  | .hbm, ⟨39, _⟩ => ⟨S136x1, .i32⟩
  | .hbm, ⟨40, _⟩ => ⟨S1x8, .i32⟩
  | .hbm, ⟨41, _⟩ => ⟨S136x8, .i32⟩
  | .hbm, ⟨42, _⟩ => ⟨S136x8, .i32⟩
  | .hbm, ⟨43, _⟩ => ⟨S136x8, .i1⟩
  | .hbm, ⟨44, _⟩ => ⟨S136x8, .i32⟩
  | .hbm, ⟨45, _⟩ => ⟨S_, .i32⟩
  | .hbm, ⟨46, _⟩ => ⟨S136, .i32⟩
  | .hbm, ⟨47, _⟩ => ⟨S_, .i32⟩
  | .hbm, ⟨48, _⟩ => ⟨S136, .i32⟩
  | .hbm, ⟨49, _⟩ => ⟨S136, .i32⟩
  | .hbm, ⟨50, _⟩ => ⟨S_, .i32⟩
  | .hbm, ⟨51, _⟩ => ⟨S136, .i32⟩
  | .hbm, ⟨52, _⟩ => ⟨S1, .i32⟩
  | .hbm, ⟨53, _⟩ => ⟨S_, .i32⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S1, .i1⟩
  | .hbm, ⟨61, _⟩ => ⟨S1, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S1, .i1⟩
  | .hbm, ⟨66, _⟩ => ⟨S1, .i1⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S2x8x1024x3584, .bf16⟩
  | .hbm, ⟨71, _⟩ => ⟨S16x1024x3584, .bf16⟩
  | .hbm, ⟨72, _⟩ => ⟨S2x8x1024x3584, .bf16⟩
  | .hbm, ⟨73, _⟩ => ⟨S16x1024x3584, .bf16⟩
  | .hbm, ⟨74, _⟩ => ⟨S2x8x3584x1024, .bf16⟩
  | .hbm, ⟨75, _⟩ => ⟨S16x3584x1024, .bf16⟩
  | .hbm, ⟨76, _⟩ => ⟨S139264x1024, .bf16⟩
  | .hbm, ⟨77, _⟩ => ⟨S139264x2x512, .bf16⟩
  | .hbm, ⟨78, _⟩ => ⟨S2x139264x512, .bf16⟩
  | .hbm, ⟨79, _⟩ => ⟨S2x139264x512, .bf16⟩
  | .local _ .vmem, ⟨0, _⟩ => ⟨S2x1024x512, .bf16⟩
  | .local _ .vmem, ⟨1, _⟩ => ⟨S2x1024x512, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S2x1024x512, .bf16⟩
  | .local _ .vmem, ⟨9, _⟩ => ⟨S2x1024x512, .bf16⟩
  | .local _ .vmem, ⟨10, _⟩ => ⟨S1024x1024, .bf16⟩
  | .local _ .vmem, ⟨11, _⟩ => ⟨S1024x1024, .f32⟩
  | .local _ .smem, ⟨0, _⟩ => ⟨S136, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v22 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v21 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v21.idx, main_v23.idx], fun | 0 => main_v21.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond7 (i : grid0.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_40 : BitVec 32 := 0#32
  let v57 : BitVec 1 := Scalar.cmpi .ne v56 c0_i32_40
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S139264x1024 : Shape := ⟨2, ![139264, 1024]⟩
abbrev S8 : Shape := ⟨1, ![8]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S139264 : Shape := ⟨1, ![139264]⟩
abbrev S1 : Shape := ⟨1, ![1]⟩
abbrev S139264x1 : Shape := ⟨2, ![139264, 1]⟩
abbrev S1x1x1024x3584 : Shape := ⟨4, ![1, 1, 1024, 3584]⟩
abbrev S1024x3584 : Shape := ⟨2, ![1024, 3584]⟩
abbrev S139264x3584 : Shape := ⟨2, ![139264, 3584]⟩
abbrev S1x1x3584x1024 : Shape := ⟨4, ![1, 1, 3584, 1024]⟩
abbrev S3584x1024 : Shape := ⟨2, ![3584, 1024]⟩
abbrev S139264x2x512 : Shape := ⟨3, ![139264, 2, 512]⟩
abbrev S2x139264x512 : Shape := ⟨3, ![2, 139264, 512]⟩

abbrev nBuf : Space → Nat
  | .hbm => 301
  | .vmem => 0
  | .smem => 0
  | _ => 0

abbrev hbmTy0_0 (i : Nat) : BufTy := match i % 128 with
  | 0 => ⟨S139264x1024, .f32⟩
  | 1 => ⟨S8, .i32⟩
  | 2 => ⟨S2x8x1024x3584, .f32⟩
  | 3 => ⟨S2x8x1024x3584, .f32⟩
  | 4 => ⟨S2x8x3584x1024, .f32⟩
  | 5 => ⟨S8, .i32⟩
  | 6 => ⟨S_, .i32⟩
  | 7 => ⟨S_, .i32⟩
  | 8 => ⟨S8, .i32⟩
  | 9 => ⟨S8, .i32⟩
  | 10 => ⟨S8, .i32⟩
  | 11 => ⟨S_, .i32⟩
  | 12 => ⟨S8, .i32⟩
  | 13 => ⟨S8, .i1⟩
  | 14 => ⟨S8, .i32⟩
  | 15 => ⟨S8, .i32⟩
  | 16 => ⟨S_, .i32⟩
  | 17 => ⟨S8, .i32⟩
  | 18 => ⟨S8, .i1⟩
  | 19 => ⟨S8, .i1⟩
  | 20 => ⟨S_, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S139264, .i32⟩
  | 29 => ⟨S_, .f32⟩
  | 30 => ⟨S139264x1024, .f32⟩
  | 31 => ⟨S_, .i32⟩
  | 32 => ⟨S139264, .i32⟩
  | 33 => ⟨S139264, .i1⟩
  | 34 => ⟨S1, .i32⟩
  | 35 => ⟨S_, .i32⟩
  | 36 => ⟨S_, .i32⟩
  | 37 => ⟨S_, .i32⟩
  | 38 => ⟨S139264, .i32⟩
  | 39 => ⟨S139264, .i1⟩
  | 40 => ⟨S139264, .i1⟩
  | 41 => ⟨S139264x1, .i1⟩
  | 42 => ⟨S1x1x1024x3584, .f32⟩
  | 43 => ⟨S1024x3584, .f32⟩
  | 44 => ⟨S139264x3584, .f32⟩
  | 45 => ⟨S139264x3584, .f32⟩
  | 46 => ⟨S139264x3584, .f32⟩
  | 47 => ⟨S_, .f32⟩
  | 48 => ⟨S139264x3584, .f32⟩
  | 49 => ⟨S139264x3584, .f32⟩
  | 50 => ⟨S_, .f32⟩
  | 51 => ⟨S139264x3584, .f32⟩
  | 52 => ⟨S139264x3584, .f32⟩
  | 53 => ⟨S139264x3584, .f32⟩
  | 54 => ⟨S1x1x1024x3584, .f32⟩
  | 55 => ⟨S1024x3584, .f32⟩
  | 56 => ⟨S139264x3584, .f32⟩
  | 57 => ⟨S139264x3584, .f32⟩
  | 58 => ⟨S1x1x3584x1024, .f32⟩
  | 59 => ⟨S3584x1024, .f32⟩
  | 60 => ⟨S139264x1024, .f32⟩
  | 61 => ⟨S139264x1024, .i1⟩
  | 62 => ⟨S139264x1024, .f32⟩
  | 63 => ⟨S1, .i32⟩
  | 64 => ⟨S_, .i32⟩
  | 65 => ⟨S_, .i32⟩
  | 66 => ⟨S_, .i32⟩
  | 67 => ⟨S139264, .i32⟩
  | 68 => ⟨S139264, .i1⟩
  | 69 => ⟨S1, .i32⟩
  | 70 => ⟨S_, .i32⟩
  | 71 => ⟨S_, .i32⟩
  | 72 => ⟨S139264, .i32⟩
  | 73 => ⟨S139264, .i1⟩
  | 74 => ⟨S139264, .i1⟩
  | 75 => ⟨S139264x1, .i1⟩
  | 76 => ⟨S1x1x1024x3584, .f32⟩
  | 77 => ⟨S1024x3584, .f32⟩
  | 78 => ⟨S139264x3584, .f32⟩
  | 79 => ⟨S139264x3584, .f32⟩
  | 80 => ⟨S139264x3584, .f32⟩
  | 81 => ⟨S_, .f32⟩
  | 82 => ⟨S139264x3584, .f32⟩
  | 83 => ⟨S139264x3584, .f32⟩
  | 84 => ⟨S_, .f32⟩
  | 85 => ⟨S139264x3584, .f32⟩
  | 86 => ⟨S139264x3584, .f32⟩
  | 87 => ⟨S139264x3584, .f32⟩
  | 88 => ⟨S1x1x1024x3584, .f32⟩
  | 89 => ⟨S1024x3584, .f32⟩
  | 90 => ⟨S139264x3584, .f32⟩
  | 91 => ⟨S139264x3584, .f32⟩
  | 92 => ⟨S1x1x3584x1024, .f32⟩
  | 93 => ⟨S3584x1024, .f32⟩
  | 94 => ⟨S139264x1024, .f32⟩
  | 95 => ⟨S139264x1024, .i1⟩
  | 96 => ⟨S139264x1024, .f32⟩
  | 97 => ⟨S1, .i32⟩
  | 98 => ⟨S_, .i32⟩
  | 99 => ⟨S_, .i32⟩
  | 100 => ⟨S139264, .i32⟩
  | 101 => ⟨S139264, .i1⟩
  | 102 => ⟨S1, .i32⟩
  | 103 => ⟨S_, .i32⟩
  | 104 => ⟨S_, .i32⟩
  | 105 => ⟨S139264, .i32⟩
  | 106 => ⟨S139264, .i1⟩
  | 107 => ⟨S139264, .i1⟩
  | 108 => ⟨S139264x1, .i1⟩
  | 109 => ⟨S1x1x1024x3584, .f32⟩
  | 110 => ⟨S1024x3584, .f32⟩
  | 111 => ⟨S139264x3584, .f32⟩
  | 112 => ⟨S139264x3584, .f32⟩
  | 113 => ⟨S139264x3584, .f32⟩
  | 114 => ⟨S_, .f32⟩
  | 115 => ⟨S139264x3584, .f32⟩
  | 116 => ⟨S139264x3584, .f32⟩
  | 117 => ⟨S_, .f32⟩
  | 118 => ⟨S139264x3584, .f32⟩
  | 119 => ⟨S139264x3584, .f32⟩
  | 120 => ⟨S139264x3584, .f32⟩
  | 121 => ⟨S1x1x1024x3584, .f32⟩
  | 122 => ⟨S1024x3584, .f32⟩
  | 123 => ⟨S139264x3584, .f32⟩
  | 124 => ⟨S139264x3584, .f32⟩
  | 125 => ⟨S1x1x3584x1024, .f32⟩
  | 126 => ⟨S3584x1024, .f32⟩
  | 127 => ⟨S139264x1024, .f32⟩
  | _ => ⟨S139264x1024, .f32⟩

abbrev hbmTy0_1 (i : Nat) : BufTy := match i % 128 with
  | 0 => ⟨S139264x1024, .i1⟩
  | 1 => ⟨S139264x1024, .f32⟩
  | 2 => ⟨S1, .i32⟩
  | 3 => ⟨S_, .i32⟩
  | 4 => ⟨S_, .i32⟩
  | 5 => ⟨S139264, .i32⟩
  | 6 => ⟨S139264, .i1⟩
  | 7 => ⟨S1, .i32⟩
  | 8 => ⟨S_, .i32⟩
  | 9 => ⟨S_, .i32⟩
  | 10 => ⟨S139264, .i32⟩
  | 11 => ⟨S139264, .i1⟩
  | 12 => ⟨S139264, .i1⟩
  | 13 => ⟨S139264x1, .i1⟩
  | 14 => ⟨S1x1x1024x3584, .f32⟩
  | 15 => ⟨S1024x3584, .f32⟩
  | 16 => ⟨S139264x3584, .f32⟩
  | 17 => ⟨S139264x3584, .f32⟩
  | 18 => ⟨S139264x3584, .f32⟩
  | 19 => ⟨S_, .f32⟩
  | 20 => ⟨S139264x3584, .f32⟩
  | 21 => ⟨S139264x3584, .f32⟩
  | 22 => ⟨S_, .f32⟩
  | 23 => ⟨S139264x3584, .f32⟩
  | 24 => ⟨S139264x3584, .f32⟩
  | 25 => ⟨S139264x3584, .f32⟩
  | 26 => ⟨S1x1x1024x3584, .f32⟩
  | 27 => ⟨S1024x3584, .f32⟩
  | 28 => ⟨S139264x3584, .f32⟩
  | 29 => ⟨S139264x3584, .f32⟩
  | 30 => ⟨S1x1x3584x1024, .f32⟩
  | 31 => ⟨S3584x1024, .f32⟩
  | 32 => ⟨S139264x1024, .f32⟩
  | 33 => ⟨S139264x1024, .i1⟩
  | 34 => ⟨S139264x1024, .f32⟩
  | 35 => ⟨S1, .i32⟩
  | 36 => ⟨S_, .i32⟩
  | 37 => ⟨S_, .i32⟩
  | 38 => ⟨S139264, .i32⟩
  | 39 => ⟨S139264, .i1⟩
  | 40 => ⟨S1, .i32⟩
  | 41 => ⟨S_, .i32⟩
  | 42 => ⟨S_, .i32⟩
  | 43 => ⟨S139264, .i32⟩
  | 44 => ⟨S139264, .i1⟩
  | 45 => ⟨S139264, .i1⟩
  | 46 => ⟨S139264x1, .i1⟩
  | 47 => ⟨S1x1x1024x3584, .f32⟩
  | 48 => ⟨S1024x3584, .f32⟩
  | 49 => ⟨S139264x3584, .f32⟩
  | 50 => ⟨S139264x3584, .f32⟩
  | 51 => ⟨S139264x3584, .f32⟩
  | 52 => ⟨S_, .f32⟩
  | 53 => ⟨S139264x3584, .f32⟩
  | 54 => ⟨S139264x3584, .f32⟩
  | 55 => ⟨S_, .f32⟩
  | 56 => ⟨S139264x3584, .f32⟩
  | 57 => ⟨S139264x3584, .f32⟩
  | 58 => ⟨S139264x3584, .f32⟩
  | 59 => ⟨S1x1x1024x3584, .f32⟩
  | 60 => ⟨S1024x3584, .f32⟩
  | 61 => ⟨S139264x3584, .f32⟩
  | 62 => ⟨S139264x3584, .f32⟩
  | 63 => ⟨S1x1x3584x1024, .f32⟩
  | 64 => ⟨S3584x1024, .f32⟩
  | 65 => ⟨S139264x1024, .f32⟩
  | 66 => ⟨S139264x1024, .i1⟩
  | 67 => ⟨S139264x1024, .f32⟩
  | 68 => ⟨S1, .i32⟩
  | 69 => ⟨S_, .i32⟩
  | 70 => ⟨S_, .i32⟩
  | 71 => ⟨S139264, .i32⟩
  | 72 => ⟨S139264, .i1⟩
  | 73 => ⟨S1, .i32⟩
  | 74 => ⟨S_, .i32⟩
  | 75 => ⟨S_, .i32⟩
  | 76 => ⟨S139264, .i32⟩
  | 77 => ⟨S139264, .i1⟩
  | 78 => ⟨S139264, .i1⟩
  | 79 => ⟨S139264x1, .i1⟩
  | 80 => ⟨S1x1x1024x3584, .f32⟩
  | 81 => ⟨S1024x3584, .f32⟩
  | 82 => ⟨S139264x3584, .f32⟩
  | 83 => ⟨S139264x3584, .f32⟩
  | 84 => ⟨S139264x3584, .f32⟩
  | 85 => ⟨S_, .f32⟩
  | 86 => ⟨S139264x3584, .f32⟩
  | 87 => ⟨S139264x3584, .f32⟩
  | 88 => ⟨S_, .f32⟩
  | 89 => ⟨S139264x3584, .f32⟩
  | 90 => ⟨S139264x3584, .f32⟩
  | 91 => ⟨S139264x3584, .f32⟩
  | 92 => ⟨S1x1x1024x3584, .f32⟩
  | 93 => ⟨S1024x3584, .f32⟩
  | 94 => ⟨S139264x3584, .f32⟩
  | 95 => ⟨S139264x3584, .f32⟩
  | 96 => ⟨S1x1x3584x1024, .f32⟩
  | 97 => ⟨S3584x1024, .f32⟩
  | 98 => ⟨S139264x1024, .f32⟩
  | 99 => ⟨S139264x1024, .i1⟩
  | 100 => ⟨S139264x1024, .f32⟩
  | 101 => ⟨S1, .i32⟩
  | 102 => ⟨S_, .i32⟩
  | 103 => ⟨S_, .i32⟩
  | 104 => ⟨S139264, .i32⟩
  | 105 => ⟨S139264, .i1⟩
  | 106 => ⟨S1, .i32⟩
  | 107 => ⟨S_, .i32⟩
  | 108 => ⟨S_, .i32⟩
  | 109 => ⟨S139264, .i32⟩
  | 110 => ⟨S139264, .i1⟩
  | 111 => ⟨S139264, .i1⟩
  | 112 => ⟨S139264x1, .i1⟩
  | 113 => ⟨S1x1x1024x3584, .f32⟩
  | 114 => ⟨S1024x3584, .f32⟩
  | 115 => ⟨S139264x3584, .f32⟩
  | 116 => ⟨S139264x3584, .f32⟩
  | 117 => ⟨S139264x3584, .f32⟩
  | 118 => ⟨S_, .f32⟩
  | 119 => ⟨S139264x3584, .f32⟩
  | 120 => ⟨S139264x3584, .f32⟩
  | 121 => ⟨S_, .f32⟩
  | 122 => ⟨S139264x3584, .f32⟩
  | 123 => ⟨S139264x3584, .f32⟩
  | 124 => ⟨S139264x3584, .f32⟩
  | 125 => ⟨S1x1x1024x3584, .f32⟩
  | 126 => ⟨S1024x3584, .f32⟩
  | 127 => ⟨S139264x3584, .f32⟩
  | _ => ⟨S139264x1024, .f32⟩

abbrev hbmTy0_2 (i : Nat) : BufTy := match i % 128 with
  | 0 => ⟨S139264x3584, .f32⟩
  | 1 => ⟨S1x1x3584x1024, .f32⟩
  | 2 => ⟨S3584x1024, .f32⟩
  | 3 => ⟨S139264x1024, .f32⟩
  | 4 => ⟨S139264x1024, .i1⟩
  | 5 => ⟨S139264x1024, .f32⟩
  | 6 => ⟨S1, .i32⟩
  | 7 => ⟨S_, .i32⟩
  | 8 => ⟨S_, .i32⟩
  | 9 => ⟨S139264, .i32⟩
  | 10 => ⟨S139264, .i1⟩
  | 11 => ⟨S1, .i32⟩
  | 12 => ⟨S_, .i32⟩
  | 13 => ⟨S_, .i32⟩
  | 14 => ⟨S139264, .i32⟩
  | 15 => ⟨S139264, .i1⟩
  | 16 => ⟨S139264, .i1⟩
  | 17 => ⟨S139264x1, .i1⟩
  | 18 => ⟨S1x1x1024x3584, .f32⟩
  | 19 => ⟨S1024x3584, .f32⟩
  | 20 => ⟨S139264x3584, .f32⟩
  | 21 => ⟨S139264x3584, .f32⟩
  | 22 => ⟨S139264x3584, .f32⟩
  | 23 => ⟨S_, .f32⟩
  | 24 => ⟨S139264x3584, .f32⟩
  | 25 => ⟨S139264x3584, .f32⟩
  | 26 => ⟨S_, .f32⟩
  | 27 => ⟨S139264x3584, .f32⟩
  | 28 => ⟨S139264x3584, .f32⟩
  | 29 => ⟨S139264x3584, .f32⟩
  | 30 => ⟨S1x1x1024x3584, .f32⟩
  | 31 => ⟨S1024x3584, .f32⟩
  | 32 => ⟨S139264x3584, .f32⟩
  | 33 => ⟨S139264x3584, .f32⟩
  | 34 => ⟨S1x1x3584x1024, .f32⟩
  | 35 => ⟨S3584x1024, .f32⟩
  | 36 => ⟨S139264x1024, .f32⟩
  | 37 => ⟨S139264x1024, .i1⟩
  | 38 => ⟨S139264x1024, .f32⟩
  | 39 => ⟨S1, .i32⟩
  | 40 => ⟨S_, .i32⟩
  | 41 => ⟨S_, .i32⟩
  | 42 => ⟨S139264x1024, .bf16⟩
  | 43 => ⟨S139264x2x512, .bf16⟩
  | 44 => ⟨S2x139264x512, .bf16⟩
  | _ => ⟨S139264x1024, .f32⟩

abbrev hbmTy (i : Nat) : BufTy := match i / 128 with
  | 0 => hbmTy0_0 i
  | 1 => hbmTy0_1 i
  | 2 => hbmTy0_2 i
  | _ => ⟨S139264x1024, .f32⟩

abbrev bufTy : (tb : Table) → Fin (tcTables nBuf tb) → BufTy
  | .hbm, ⟨i, _⟩ => hbmTy i
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call2_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_3 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call4_v0 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_call6_v0 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call7_v0 : Ref sig .tc := ⟨.hbm, 145, rfl⟩
abbrev main_call7_v1 : Ref sig .tc := ⟨.hbm, 146, rfl⟩
abbrev main_call7_cst : Ref sig .tc := ⟨.hbm, 147, rfl⟩
abbrev main_call7_v2 : Ref sig .tc := ⟨.hbm, 148, rfl⟩
abbrev main_call7_v3 : Ref sig .tc := ⟨.hbm, 149, rfl⟩
abbrev main_call7_cst_0 : Ref sig .tc := ⟨.hbm, 150, rfl⟩
abbrev main_call7_v4 : Ref sig .tc := ⟨.hbm, 151, rfl⟩
abbrev main_call7_v5 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_call8_v0 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_call9_v0 : Ref sig .tc := ⟨.hbm, 178, rfl⟩
abbrev main_call9_v1 : Ref sig .tc := ⟨.hbm, 179, rfl⟩
abbrev main_call9_cst : Ref sig .tc := ⟨.hbm, 180, rfl⟩
abbrev main_call9_v2 : Ref sig .tc := ⟨.hbm, 181, rfl⟩
abbrev main_call9_v3 : Ref sig .tc := ⟨.hbm, 182, rfl⟩
abbrev main_call9_cst_0 : Ref sig .tc := ⟨.hbm, 183, rfl⟩
abbrev main_call9_v4 : Ref sig .tc := ⟨.hbm, 184, rfl⟩
abbrev main_call9_v5 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_call10_v0 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_call11_v0 : Ref sig .tc := ⟨.hbm, 211, rfl⟩
abbrev main_call11_v1 : Ref sig .tc := ⟨.hbm, 212, rfl⟩
abbrev main_call11_cst : Ref sig .tc := ⟨.hbm, 213, rfl⟩
abbrev main_call11_v2 : Ref sig .tc := ⟨.hbm, 214, rfl⟩
abbrev main_call11_v3 : Ref sig .tc := ⟨.hbm, 215, rfl⟩
abbrev main_call11_cst_0 : Ref sig .tc := ⟨.hbm, 216, rfl⟩
abbrev main_call11_v4 : Ref sig .tc := ⟨.hbm, 217, rfl⟩
abbrev main_call11_v5 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_call12_v0 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_call13_v0 : Ref sig .tc := ⟨.hbm, 244, rfl⟩
abbrev main_call13_v1 : Ref sig .tc := ⟨.hbm, 245, rfl⟩
abbrev main_call13_cst : Ref sig .tc := ⟨.hbm, 246, rfl⟩
abbrev main_call13_v2 : Ref sig .tc := ⟨.hbm, 247, rfl⟩
abbrev main_call13_v3 : Ref sig .tc := ⟨.hbm, 248, rfl⟩
abbrev main_call13_cst_0 : Ref sig .tc := ⟨.hbm, 249, rfl⟩
abbrev main_call13_v4 : Ref sig .tc := ⟨.hbm, 250, rfl⟩
abbrev main_call13_v5 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_call14_v0 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_call15_v0 : Ref sig .tc := ⟨.hbm, 277, rfl⟩
abbrev main_call15_v1 : Ref sig .tc := ⟨.hbm, 278, rfl⟩
abbrev main_call15_cst : Ref sig .tc := ⟨.hbm, 279, rfl⟩
abbrev main_call15_v2 : Ref sig .tc := ⟨.hbm, 280, rfl⟩
abbrev main_call15_v3 : Ref sig .tc := ⟨.hbm, 281, rfl⟩
abbrev main_call15_cst_0 : Ref sig .tc := ⟨.hbm, 282, rfl⟩
abbrev main_call15_v4 : Ref sig .tc := ⟨.hbm, 283, rfl⟩
abbrev main_call15_v5 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_call16_v0 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩

abbrev nD : Nat := 1
abbrev τ : Topo := Topo.v7x

variable {F : FTy → Type} [FloatOps F]
-- ==== Kernel4.lean ====
abbrev S8x8192x1024 : Shape := ⟨3, ![8, 8192, 1024]⟩
abbrev S2x8x8192x1024 : Shape := ⟨4, ![2, 8, 8192, 1024]⟩
abbrev S8x8192x2 : Shape := ⟨3, ![8, 8192, 2]⟩
abbrev S1024 : Shape := ⟨1, ![1024]⟩
abbrev S8x1024 : Shape := ⟨2, ![8, 1024]⟩
abbrev S2x8x8192x2x512 : Shape := ⟨5, ![2, 8, 8192, 2, 512]⟩
abbrev S2x2x8x8192x512 : Shape := ⟨5, ![2, 2, 8, 8192, 512]⟩
abbrev S8x8192x128 : Shape := ⟨3, ![8, 8192, 128]⟩
abbrev S_ : Shape := ⟨0, ![]⟩
abbrev S8x8192x1 : Shape := ⟨3, ![8, 8192, 1]⟩
abbrev S1x1024 : Shape := ⟨2, ![1, 1024]⟩
abbrev S8x1x1024 : Shape := ⟨3, ![8, 1, 1024]⟩
abbrev S1x512x1024 : Shape := ⟨3, ![1, 512, 1024]⟩
abbrev S2x2x1x512x512 : Shape := ⟨5, ![2, 2, 1, 512, 512]⟩
abbrev S1x512x128 : Shape := ⟨3, ![1, 512, 128]⟩
abbrev S1x1x1024 : Shape := ⟨3, ![1, 1, 1024]⟩
abbrev S512x128 : Shape := ⟨2, ![512, 128]⟩
abbrev S1x1x1x512x512 : Shape := ⟨5, ![1, 1, 1, 512, 512]⟩
abbrev S512x512 : Shape := ⟨2, ![512, 512]⟩
abbrev S512x256 : Shape := ⟨2, ![512, 256]⟩
abbrev S512x1024 : Shape := ⟨2, ![512, 1024]⟩
abbrev S512x1 : Shape := ⟨2, ![512, 1]⟩
abbrev S512 : Shape := ⟨1, ![512]⟩

abbrev nBuf : Space → Nat
  | .hbm => 19
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S2x8x8192x1024, .bf16⟩
  | .hbm, ⟨2, _⟩ => ⟨S8x8192x2, .f32⟩
  | .hbm, ⟨3, _⟩ => ⟨S1024, .f32⟩
  | .hbm, ⟨4, _⟩ => ⟨S8x1024, .f32⟩
  | .hbm, ⟨5, _⟩ => ⟨S2x8x8192x2x512, .bf16⟩
  | .hbm, ⟨6, _⟩ => ⟨S2x2x8x8192x512, .bf16⟩
  | .hbm, ⟨7, _⟩ => ⟨S8x8192x128, .i32⟩
  | .hbm, ⟨8, _⟩ => ⟨S_, .i32⟩
  | .hbm, ⟨9, _⟩ => ⟨S8x8192x128, .i32⟩
  | .hbm, ⟨10, _⟩ => ⟨S8x8192x128, .i1⟩
  | .hbm, ⟨11, _⟩ => ⟨S8x8192x1, .f32⟩
  | .hbm, ⟨12, _⟩ => ⟨S8x8192x1, .f32⟩
  | .hbm, ⟨13, _⟩ => ⟨S8x8192x128, .f32⟩
  | .hbm, ⟨14, _⟩ => ⟨S8x8192x128, .f32⟩
  | .hbm, ⟨15, _⟩ => ⟨S8x8192x128, .f32⟩
  | .hbm, ⟨16, _⟩ => ⟨S1x1024, .f32⟩
  | .hbm, ⟨17, _⟩ => ⟨S8x1x1024, .f32⟩
  | .hbm, ⟨18, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x2x1x512x512, .bf16⟩
  | .local _ .vmem, ⟨3, _⟩ => ⟨S2x2x1x512x512, .bf16⟩
  | .local _ .vmem, ⟨4, _⟩ => ⟨S1x512x128, .f32⟩
  | .local _ .vmem, ⟨5, _⟩ => ⟨S1x512x128, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x8192x1024 : Shape := ⟨3, ![8, 8192, 1024]⟩
abbrev S2x8x8192x1024 : Shape := ⟨4, ![2, 8, 8192, 1024]⟩
abbrev S8x8192x2 : Shape := ⟨3, ![8, 8192, 2]⟩
abbrev S1024 : Shape := ⟨1, ![1024]⟩
abbrev S8x1024 : Shape := ⟨2, ![8, 1024]⟩
abbrev S2x8x8192 : Shape := ⟨3, ![2, 8, 8192]⟩
abbrev S2x8x8192x1 : Shape := ⟨4, ![2, 8, 8192, 1]⟩
abbrev S_ : Shape := ⟨0, ![]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S2x8x8192x1024, .bf16⟩
  | .hbm, ⟨2, _⟩ => ⟨S8x8192x2, .f32⟩
  | .hbm, ⟨3, _⟩ => ⟨S1024, .f32⟩
  | .hbm, ⟨4, _⟩ => ⟨S8x1024, .f32⟩
  | .hbm, ⟨5, _⟩ => ⟨S2x8x8192x1024, .f32⟩
  | .hbm, ⟨6, _⟩ => ⟨S2x8x8192, .f32⟩
  | .hbm, ⟨7, _⟩ => ⟨S2x8x8192x1, .f32⟩
  | .hbm, ⟨8, _⟩ => ⟨S2x8x8192x1024, .f32⟩
  | .hbm, ⟨9, _⟩ => ⟨S2x8x8192x1024, .f32⟩
  | .hbm, ⟨10, _⟩ => ⟨S_, .f32⟩
  | .hbm, ⟨11, _⟩ => ⟨S8x8192x1024, .f32⟩
  | .hbm, ⟨12, _⟩ => ⟨S8x1x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S16x1024 : Shape := ⟨2, ![16, 1024]⟩
abbrev S1 : Shape := ⟨1, ![1]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩
abbrev S4x9x6144 : Shape := ⟨3, ![4, 9, 6144]⟩

abbrev nBuf : Space → Nat
  | .hbm => 15
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S4x1x6144, .f32⟩
  | .hbm, ⟨13, _⟩ => ⟨S4x16x6144, .f32⟩
  | .hbm, ⟨14, _⟩ => ⟨S4x9x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S9x1024 : Shape := ⟨2, ![9, 1024]⟩
abbrev S_ : Shape := ⟨0, ![]⟩
abbrev S9x4x6144 : Shape := ⟨3, ![9, 4, 6144]⟩
abbrev S4x9x6144 : Shape := ⟨3, ![4, 9, 6144]⟩
abbrev S4x1x6144 : Shape := ⟨3, ![4, 1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S9x1024, .f32⟩
  | .hbm, ⟨6, _⟩ => ⟨S9x1024, .f32⟩
  | .hbm, ⟨7, _⟩ => ⟨S9x1024, .f32⟩
  | .hbm, ⟨8, _⟩ => ⟨S_, .f32⟩
  | .hbm, ⟨9, _⟩ => ⟨S9x1024, .f32⟩
  | .hbm, ⟨10, _⟩ => ⟨S9x1024, .f32⟩
  | .hbm, ⟨11, _⟩ => ⟨S_, .f32⟩
  | .hbm, ⟨12, _⟩ => ⟨S9x1024, .f32⟩
  | .hbm, ⟨13, _⟩ => ⟨S9x1024, .f32⟩
  | .hbm, ⟨14, _⟩ => ⟨S9x1024, .f32⟩
  | .hbm, ⟨15, _⟩ => ⟨S9x4x6144, .f32⟩
  | .hbm, ⟨16, _⟩ => ⟨S4x9x6144, .f32⟩
  | .hbm, ⟨17, _⟩ => ⟨S4x1x6144, .f32⟩
  | .hbm, ⟨18, _⟩ => ⟨S4x9x6144, .f32⟩
  | .hbm, ⟨19, _⟩ => ⟨S4x9x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel6.lean ====
abbrev S8x256x1024 : Shape := ⟨3, ![8, 256, 1024]⟩
abbrev S1024 : Shape := ⟨1, ![1024]⟩
abbrev S8x1024 : Shape := ⟨2, ![8, 1024]⟩
abbrev S1024x1024 : Shape := ⟨2, ![1024, 1024]⟩
abbrev S1x1024 : Shape := ⟨2, ![1, 1024]⟩
abbrev S8x1x1024 : Shape := ⟨3, ![8, 1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512x256 : Shape := ⟨2, ![512, 256]⟩
abbrev S1x256x1024 : Shape := ⟨3, ![1, 256, 1024]⟩
abbrev S1x1x1024 : Shape := ⟨3, ![1, 1, 1024]⟩
abbrev S256x1024 : Shape := ⟨2, ![256, 1024]⟩
abbrev S512x1024 : Shape := ⟨2, ![512, 1024]⟩

abbrev nBuf : Space → Nat
  | .hbm => 64
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1024, .f32⟩
  | .hbm, ⟨5, _⟩ => ⟨S1024, .f32⟩
  | .hbm, ⟨6, _⟩ => ⟨S8x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S1024x1024, .bf16⟩
  | .hbm, ⟨11, _⟩ => ⟨S1x1024, .f32⟩
  | .hbm, ⟨12, _⟩ => ⟨S8x1x1024, .f32⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256, .i32⟩
  | .hbm, ⟨32, _⟩ => ⟨S256x1, .i32⟩
  | .hbm, ⟨33, _⟩ => ⟨S1x256, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S512x256, .f32⟩
  | .hbm, ⟨51, _⟩ => ⟨S_, .f32⟩
  | .hbm, ⟨52, _⟩ => ⟨S512x256, .f32⟩
  | .hbm, ⟨53, _⟩ => ⟨S512x256, .f32⟩
  | .hbm, ⟨54, _⟩ => ⟨S512x256, .bf16⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .bf16⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .bf16⟩
  | .hbm, ⟨63, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x256, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8x256x1024 : Shape := ⟨3, ![8, 256, 1024]⟩
abbrev S1024 : Shape := ⟨1, ![1024]⟩
abbrev S8x1024 : Shape := ⟨2, ![8, 1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x8x1024 : Shape := ⟨3, ![256, 8, 1024]⟩
abbrev S8x256x4x256 : Shape := ⟨4, ![8, 256, 4, 256]⟩

abbrev nBuf : Space → Nat
  | .hbm => 144
  | .vmem => 0
  | .smem => 0
  | _ => 0

abbrev hbmTy0_0 (i : Nat) : BufTy := match i % 128 with
  | 0 => ⟨S8x256x1024, .f32⟩
  | 1 => ⟨S1024, .f32⟩
  | 2 => ⟨S8x1024, .f32⟩
  | 3 => ⟨S8x1024, .f32⟩
  | 4 => ⟨S1024x1024, .f32⟩
  | 5 => ⟨S1024, .f32⟩
  | 6 => ⟨S8x1024, .f32⟩
  | 7 => ⟨S8x256x1024, .f32⟩
  | 8 => ⟨S_, .f32⟩
  | 9 => ⟨S8x256, .f32⟩
  | 10 => ⟨S8x256x1, .f32⟩
  | 11 => ⟨S_, .f32⟩
  | 12 => ⟨S8x256x1, .f32⟩
  | 13 => ⟨S8x256x1, .f32⟩
  | 14 => ⟨S_, .f32⟩
  | 15 => ⟨S8x256x1, .f32⟩
  | 16 => ⟨S8x256x1, .f32⟩
  | 17 => ⟨S8x256x1, .f32⟩
  | 18 => ⟨S8x256x1024, .f32⟩
  | 19 => ⟨S8x256x1024, .f32⟩
  | 20 => ⟨S1x1x1024, .f32⟩
  | 21 => ⟨S8x256x1024, .f32⟩
  | 22 => ⟨S8x256x1024, .f32⟩
  | 23 => ⟨S8x1x1024, .f32⟩
  | 24 => ⟨S_, .f32⟩
  | 25 => ⟨S8x1x1024, .f32⟩
  | 26 => ⟨S8x1x1024, .f32⟩
  | 27 => ⟨S8x256x1024, .f32⟩
  | 28 => ⟨S8x256x1024, .f32⟩
  | 29 => ⟨S8x1x1024, .f32⟩
  | 30 => ⟨S8x256x1024, .f32⟩
  | 31 => ⟨S8x256x1024, .f32⟩
  | 32 => ⟨S256, .i32⟩
  | 33 => ⟨S256x1, .i32⟩
  | 34 => ⟨S1x256, .i32⟩
  | 35 => ⟨S256x256, .i32⟩
  | 36 => ⟨S256x256, .i32⟩
  | 37 => ⟨S256x256, .i32⟩
  | 38 => ⟨S_, .i32⟩
  | 39 => ⟨S256x256, .i32⟩
  | 40 => ⟨S256x256, .i32⟩
  | 41 => ⟨S256x256, .f32⟩
  | 42 => ⟨S_, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S256x256, .f32⟩
  | 49 => ⟨S_, .f32⟩
  | 50 => ⟨S256x256, .f32⟩
  | 51 => ⟨S256x256, .f32⟩
  | 52 => ⟨S256x8x1024, .f32⟩
  | 53 => ⟨S8x256x1024, .f32⟩
  | 54 => ⟨S8x256x4x256, .f32⟩
  | 55 => ⟨S256, .i32⟩
  | 56 => ⟨S256x1, .i32⟩
  | 57 => ⟨S1x256, .i32⟩
  | 58 => ⟨S256x256, .i32⟩
  | 59 => ⟨S256x256, .i32⟩
  | 60 => ⟨S256x256, .i32⟩
  | 61 => ⟨S_, .i32⟩
  | 62 => ⟨S256x256, .i32⟩
  | 63 => ⟨S256x256, .i32⟩
  | 64 => ⟨S256x256, .f32⟩
  | 65 => ⟨S_, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S256x256, .f32⟩
  | 73 => ⟨S_, .f32⟩
  | 74 => ⟨S256x256, .f32⟩
  | 75 => ⟨S256x256, .f32⟩
  | 76 => ⟨S256x8x1024, .f32⟩
  | 77 => ⟨S8x256x1024, .f32⟩
  | 78 => ⟨S8x256x4x256, .f32⟩
  | 79 => ⟨S256, .i32⟩
  | 80 => ⟨S256x1, .i32⟩
  | 81 => ⟨S1x256, .i32⟩
  | 82 => ⟨S256x256, .i32⟩
  | 83 => ⟨S256x256, .i32⟩
  | 84 => ⟨S256x256, .i32⟩
  | 85 => ⟨S_, .i32⟩
  | 86 => ⟨S256x256, .i32⟩
  | 87 => ⟨S256x256, .i32⟩
  | 88 => ⟨S256x256, .f32⟩
  | 89 => ⟨S_, .f32⟩
  | 90 => ⟨S256x256, .f32⟩
  | 91 => ⟨S256x256, .f32⟩
  | 92 => ⟨S_, .f32⟩
  | 93 => ⟨S256x256, .f32⟩
  | 94 => ⟨S256x256, .f32⟩
  | 95 => ⟨S256x256, .f32⟩
  | 96 => ⟨S_, .f32⟩
  | 97 => ⟨S256x256, .f32⟩
  | 98 => ⟨S256x256, .f32⟩
  | 99 => ⟨S8x256x4x256, .f32⟩
  | 100 => ⟨S256, .i32⟩
  | 101 => ⟨S256x1, .i32⟩
  | 102 => ⟨S1x256, .i32⟩
  | 103 => ⟨S256x256, .i32⟩
  | 104 => ⟨S256x256, .i32⟩
  | 105 => ⟨S256x256, .i32⟩
  | 106 => ⟨S_, .i32⟩
  | 107 => ⟨S256x256, .i32⟩
  | 108 => ⟨S256x256, .i32⟩
  | 109 => ⟨S256x256, .f32⟩
  | 110 => ⟨S_, .f32⟩
  | 111 => ⟨S256x256, .f32⟩
  | 112 => ⟨S256x256, .f32⟩
  | 113 => ⟨S_, .f32⟩
  | 114 => ⟨S256x256, .f32⟩
  | 115 => ⟨S256x256, .f32⟩
  | 116 => ⟨S256x256, .f32⟩
  | 117 => ⟨S_, .f32⟩
  | 118 => ⟨S256x256, .f32⟩
  | 119 => ⟨S256x256, .f32⟩
  | 120 => ⟨S8x256x4x256, .f32⟩
  | 121 => ⟨S8x256x4x256, .f32⟩
  | 122 => ⟨S8x256x1024, .f32⟩
  | 123 => ⟨S8x256x1024, .f32⟩
  | 124 => ⟨S8x1x1024, .f32⟩
  | 125 => ⟨S8x256x1024, .f32⟩
  | 126 => ⟨S_, .f32⟩
  | 127 => ⟨S8x256, .f32⟩
  | _ => ⟨S8x256x1024, .f32⟩

abbrev hbmTy0_1 (i : Nat) : BufTy := match i % 128 with
  | 0 => ⟨S8x256x1, .f32⟩
  | 1 => ⟨S_, .f32⟩
  | 2 => ⟨S8x256x1, .f32⟩
  | 3 => ⟨S8x256x1, .f32⟩
  | 4 => ⟨S_, .f32⟩
  | 5 => ⟨S8x256x1, .f32⟩
  | 6 => ⟨S8x256x1, .f32⟩
  | 7 => ⟨S8x256x1, .f32⟩
  | 8 => ⟨S8x256x1024, .f32⟩
  | 9 => ⟨S8x256x1024, .f32⟩
  | 10 => ⟨S1x1x1024, .f32⟩
  | 11 => ⟨S8x256x1024, .f32⟩
  | 12 => ⟨S8x256x1024, .f32⟩
  | 13 => ⟨S8x256x1024, .f32⟩
  | 14 => ⟨S8x256x1024, .f32⟩
  | 15 => ⟨S8x256x1024, .f32⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_15 : Ref sig .tc := ⟨.hbm, 110, rfl⟩
abbrev main_v86 : Ref sig .tc := ⟨.hbm, 111, rfl⟩
abbrev main_v87 : Ref sig .tc := ⟨.hbm, 112, rfl⟩
abbrev main_cst_16 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_17 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_18 : Ref sig .tc := ⟨.hbm, 126, rfl⟩
abbrev main_v99 : Ref sig .tc := ⟨.hbm, 127, rfl⟩
abbrev main_v100 : Ref sig .tc := ⟨.hbm, 128, rfl⟩
abbrev main_cst_19 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩

abbrev nD : Nat := 1
abbrev τ : Topo := Topo.v7x

variable {F : FTy → Type} [FloatOps F]
-- ==== Proof.Softmax.lean ====
module
public import Idealize.ShloMosaic.PureOps.Ideal
public import Idealize.ShloMosaic.PureOps.Ideal.Laws

@[expose] public section

/-! # The running softmax, over the extended reals

A row's scores are met chunk by chunk. After the keys below `N` the kernel holds the largest score so
far and, per value column, the sum of `exp (score - largest) * value`. `Inv` says so; `Inv.step` shows
that rescaling by `exp (old largest - new largest)` and adding the chunk keeps it. No bound on the
scores is needed for that. `quotient_eq` is the closing equation, where finite scores are. -/

noncomputable section

namespace Cert.Softmax

open Idealize.ShloMosaic

/-- Moving the exponent's base point from `m` to a larger `m'` is one multiplication. -/
theorem exp_shift {s m m' : EReal} (h : s ≤ m) (h' : m ≤ m') :
    Ideal.exp (s - m) * Ideal.exp (m - m') = Ideal.exp (s - m') := by
  induction s with
  | bot => simp [sub_eq_add_neg]
  | top =>
    have e : m = ⊤ := top_le_iff.mp h
    have e' : m' = ⊤ := top_le_iff.mp (e ▸ h')
    subst e; subst e'; simp [sub_eq_add_neg]
  | coe s =>
    induction m with
    | bot => simp at h
    | top =>
      have e' : m' = ⊤ := top_le_iff.mp h'
      subst e'; simp [sub_eq_add_neg]
    | coe m =>
      induction m' with
      | bot => simp at h'
      | top => simp [sub_eq_add_neg]
      | coe m' =>
        rw [← EReal.coe_sub, ← EReal.coe_sub, ← EReal.coe_sub, Ideal.exp_coe, Ideal.exp_coe, Ideal.exp_coe,
          ← EReal.coe_mul, ← Real.exp_add]
        congr 2; ring

/-- The rescaling factor is a nonnegative real. -/
theorem exp_sub_real {m m' : EReal} (h : m ≤ m') : ∃ r : ℝ, 0 ≤ r ∧ Ideal.exp (m - m') = (r : EReal) := by
  induction m with
  | bot => exact ⟨0, le_rfl, by simp [sub_eq_add_neg]⟩
  | top =>
    have e : m' = ⊤ := top_le_iff.mp h
    subst e; exact ⟨0, le_rfl, by simp [sub_eq_add_neg]⟩
  | coe m =>
    induction m' with
    | bot => simp at h
    | top => exact ⟨0, le_rfl, by simp [sub_eq_add_neg]⟩
    | coe m' => exact ⟨Real.exp (m - m'), (Real.exp_pos _).le, by rw [← EReal.coe_sub, Ideal.exp_coe]⟩

/-- A nonnegative real factor goes into a sum of extended reals. -/
theorem sum_mul_real {ι : Type} (T : Finset ι) (f : ι → EReal) {r : ℝ} (hr : 0 ≤ r) :
    (∑ k ∈ T, f k) * (r : EReal) = ∑ k ∈ T, f k * (r : EReal) := by
  classical
  induction T using Finset.induction_on with
  | empty => simp
  | insert a T ha ih =>
    rw [Finset.sum_insert ha, Finset.sum_insert ha, ← ih,
      EReal.right_distrib_of_nonneg_of_ne_top (by exact_mod_cast hr) (EReal.coe_ne_top r)]

/-- What a row holds after the keys below `N`. -/
def Inv (s : ℕ → EReal) (v : ℕ → EReal) (N : ℕ) (m a : EReal) : Prop :=
  m = (Finset.range N).sup s ∧ a = ∑ k ∈ Finset.range N, Ideal.exp (s k - m) * v k

/-- Before any key. -/
theorem Inv.zero (s v : ℕ → EReal) : Inv s v 0 ⊥ 0 := ⟨rfl, rfl⟩

/-- One chunk of `n` keys more. -/
theorem Inv.step {s v : ℕ → EReal} {N : ℕ} {m a : EReal} (n : ℕ) (h : Inv s v N m a) :
    Inv s v (N + n) (max m (Finset.univ.fold max ⊥ fun k : Fin n => s (N + k)))
      (a * Ideal.exp (m - max m (Finset.univ.fold max ⊥ fun k : Fin n => s (N + k)))
        + ∑ k : Fin n, Ideal.exp (s (N + k) - max m (Finset.univ.fold max ⊥ fun k : Fin n => s (N + k))) * v (N + k)) := by
  have hle : m ≤ max m (Finset.univ.fold max ⊥ fun k : Fin n => s (N + k)) := le_max_left _ _
  have hsup : max m (Finset.univ.fold max ⊥ fun k : Fin n => s (N + k)) = (Finset.range (N + n)).sup s := by
    rw [h.1]
    change (Finset.range N).sup s ⊔ Finset.univ.sup (fun k : Fin n => s (N + k)) = _
    apply le_antisymm
    · refine sup_le (Finset.sup_mono (Finset.range_mono (Nat.le_add_right _ _))) (Finset.sup_le fun k _ => ?_)
      exact Finset.le_sup (f := s) (Finset.mem_range.mpr (Nat.add_lt_add_left k.isLt N))
    · refine Finset.sup_le fun k hk => ?_
      rw [Finset.mem_range] at hk
      rcases Nat.lt_or_ge k N with hN | hN
      · exact le_sup_of_le_left (Finset.le_sup (f := s) (Finset.mem_range.mpr hN))
      · refine le_sup_of_le_right ?_
        have := Finset.le_sup (f := fun j : Fin n => s (N + j)) (Finset.mem_univ ⟨k - N, by omega⟩)
        simpa [Nat.add_sub_cancel' hN] using this
  generalize hM : max m (Finset.univ.fold max ⊥ fun k : Fin n => s (N + k)) = M at *
  refine ⟨hsup, ?_⟩
  obtain ⟨r, hr, er⟩ := exp_sub_real hle
  have h2 := h.2
  rw [Finset.sum_range_add, ← Finset.sum_range (f := fun k => Ideal.exp (s (N + k) - M) * v (N + k))]
  congr 1
  rw [h2, er, sum_mul_real _ _ hr, ← er]
  refine Finset.sum_congr rfl fun k hk => ?_
  rw [mul_right_comm, exp_shift (by rw [h.1]; exact Finset.le_sup (f := s) hk) hle]

/-- Dividing every weight by the weights' sum before the sum with the values, or dividing the sum once:
    the same, since the largest score is met (its weight is one) and the weights are real. -/
theorem quotient_eq {ι : Type} [Fintype ι] (s : ι → ℝ) (v : ι → EReal) (M : EReal)
    (hM : ∃ k, M = (s k : EReal)) :
    ∑ k, Ideal.div (Ideal.exp ((s k : EReal) - M)) (∑ j, Ideal.exp ((s j : EReal) - M)) * v k
      = Ideal.div (∑ k, Ideal.exp ((s k : EReal) - M) * v k) (∑ j, Ideal.exp ((s j : EReal) - M)) := by
  obtain ⟨k0, rfl⟩ := hM
  have hx : ∀ k, Ideal.exp ((s k : EReal) - (s k0 : EReal)) = ((Real.exp (s k - s k0) : ℝ) : EReal) := fun k => by
    rw [← EReal.coe_sub, Ideal.exp_coe]
  have hL : (∑ j, Ideal.exp ((s j : EReal) - (s k0 : EReal))) = ((∑ j, Real.exp (s j - s k0) : ℝ) : EReal) := by
    rw [Finset.sum_congr rfl fun j _ => hx j]
    exact (map_sum (⟨⟨Real.toEReal, EReal.coe_zero⟩, EReal.coe_add⟩ : ℝ →+ EReal) _ _).symm
  have hpos : 0 < ∑ j, Real.exp (s j - s k0) := by
    refine Finset.sum_pos (fun j _ => Real.exp_pos _) ⟨k0, Finset.mem_univ _⟩
  rw [hL, Ideal.div_coe hpos.ne', sum_mul_real _ _ (by positivity)]
  refine Finset.sum_congr rfl fun k _ => ?_
  rw [Ideal.div_coe hpos.ne', mul_right_comm]

/-- A sum of products of reals is a real. -/
theorem sum_mul_coe {n : ℕ} (x y : Fin n → EReal) (hx : ∀ k, ∃ r : ℝ, x k = r) (hy : ∀ k, ∃ r : ℝ, y k = r) :
    ∃ r : ℝ, (∑ k, x k * y k) = (r : EReal) := by
  choose f hf using hx
  choose g hg using hy
  refine ⟨∑ k, f k * g k, ?_⟩
  rw [Finset.sum_congr rfl fun k _ => by rw [hf k, hg k, ← EReal.coe_mul]]
  exact (map_sum (⟨⟨Real.toEReal, EReal.coe_zero⟩, EReal.coe_add⟩ : ℝ →+ EReal) _ _).symm

end Cert.Softmax

end
-- ==== Proof.AttnBlock.lean ====
module
public import proofs.«01_k».proof.Proof.Softmax
public import proofs.«01_k».proof.Proof.Gen.KernelIdeal.Value
public import Idealize.ShloMosaic.Lib.Pipeline.ValueKit
public import Idealize.ShloMosaic.Lib.Pointwise

@[expose] public section

/-! # What one grid point of the attention computes

A point holds 1024 query rows of one head and walks 8 chunks of 1024 latent keys, then the 256 context
keys. `stepM` and `stepA` are one chunk's new maximum and new accumulator, `whole` the walk. -/

set_option maxRecDepth 16384

noncomputable section

namespace Cert.KernelIdeal.Attn

open Cert.KernelIdeal Cert.KernelIdeal.Gen Idealize.ShloMosaic Idealize.ShloMosaic.TcCoe Idealize.SL.Sem
open Cert.Softmax

section Generic
variable {F : FTy → Type} [FloatOps F]

/-- The scores of 1024 rows against one chunk of keys. -/
def score (q : Vec F S1x1x1024x192 .bf16) (k : Vec F S1x1x192x1024 .bf16) : FVec F S1024x1024 .f32 := k0_pay8 q k
/-- The scores against the context keys. -/
def scoreC (q : Vec F S1x1x1024x192 .bf16) (k : Vec F S1x1x192x256 .bf16) : FVec F S1024x256 .f32 := k0_pay29 (k0_pay6 q) k
/-- The running maximum after a chunk. -/
def stepM (s : FVec F S1024x1024 .f32) (m : FVec F S1024x1 .f32) : FVec F S1024x1 .f32 := k0_pay14 s m
/-- The accumulator after a chunk. -/
def stepA (s : FVec F S1024x1024 .f32) (m : FVec F S1024x1 .f32) (a : FVec F S1024x256 .f32) (v : Vec F S1024x256 .bf16) :
    FVec F S1024x256 .f32 :=
  addf (mulf a (broadcastTo S1024x256 (exp (subf m (stepM s m))) broadcasts_S1024x1_S1024x256))
    (matmul dot_S1024x1024_S1024x256_S1024x256_1_0_0_1_n_n none
      (exp (truncf .bf16 (subf s (broadcastTo S1024x1024 (stepM s m) broadcasts_S1024x1_S1024x1024)) bitsLt_bf16_f32)) v
      (constant S1024x256 .f32 0x00000000#32))
/-- The maximum after the context keys. -/
def lastM (s : FVec F S1024x256 .f32) (m : FVec F S1024x1 .f32) : FVec F S1024x1 .f32 :=
  maximumf m (shapeCast S1024x1 (multiReduction .maximumf [1] S1024 s 0xFF800000#32 reduces_S1024x256_S1024 (.inl rfl) rfl)
    shapeCasts_S1024_S1024x1)
/-- The accumulator after the context keys. -/
def lastA (s : FVec F S1024x256 .f32) (m : FVec F S1024x1 .f32) (a : FVec F S1024x256 .f32) (v : Vec F S256x256 .bf16) :
    FVec F S1024x256 .f32 :=
  addf (mulf a (broadcastTo S1024x256 (exp (subf m (lastM s m))) broadcasts_S1024x1_S1024x256))
    (matmul dot_S1024x256_S256x256_S1024x256_1_0_0_1_n_n none
      (exp (truncf .bf16 (subf s (broadcastTo S1024x256 (lastM s m) broadcasts_S1024x1_S1024x256)) bitsLt_bf16_f32)) v
      (constant S1024x256 .f32 0x00000000#32))
/-- The block stored: the first 128 columns over column 128. -/
def fin (a : FVec F S1024x256 .f32) : FVec F S1x1024x128 .bf16 :=
  shapeCast S1x1024x128 (truncf .bf16 (divf (extractStridedSlice S1024x128 ![0, 0] a slices_S1024x256_o0_0_S1024x128)
    (broadcastTo S1024x128 (extractStridedSlice S1024x1 ![0, 128] a slices_S1024x256_o0_128_S1024x1)
      broadcasts_S1024x1_S1024x128)) bitsLt_bf16_f32) shapeCasts_S1024x128_S1x1024x128

/-- The maximum after the first `n` latent chunks. -/
def runM (q : Vec F S1x1x1024x192 .bf16) (k : ℕ → Vec F S1x1x192x1024 .bf16) : ℕ → FVec F S1024x1 .f32
  | 0 => k0_pay7
  | n + 1 => stepM (score q (k n)) (runM q k n)
/-- The accumulator after the first `n` latent chunks. -/
def runA (q : Vec F S1x1x1024x192 .bf16) (k : ℕ → Vec F S1x1x192x1024 .bf16) (v : ℕ → Vec F S1024x256 .bf16) :
    ℕ → FVec F S1024x256 .f32
  | 0 => broadcast S1024x256 (Scalar.ofBits .f32 0x00000000#32)
  | n + 1 => stepA (score q (k n)) (runM q k n) (runA q k v n) (v n)
/-- The block a point stores. -/
def whole (q : Vec F S1x1x1024x192 .bf16) (k : ℕ → Vec F S1x1x192x1024 .bf16) (v : ℕ → Vec F S1024x256 .bf16)
    (kc : Vec F S1x1x192x256 .bf16) (vc : Vec F S256x256 .bf16) : FVec F S1x1024x128 .bf16 :=
  fin (lastA (scoreC q kc) (runM q k 8) (runA q k v 8) vc)

/-- Chunk `n` of a head's latent keys. -/
def keys (X : Vec F S1x1x192x8192 .bf16) (n : ℕ) : Vec F S1x1x192x1024 .bf16 :=
  fun j => X (ix4 (j 0) (j 1) (j 2) ⟨(1024 * n + (j 3).val) % 8192, Nat.mod_lt _ (by decide)⟩)
/-- Chunk `n` of the extended values. -/
def vals (X : Vec F S8192x256 .bf16) (n : ℕ) : Vec F S1024x256 .bf16 :=
  fun j => X (ix2 ⟨(1024 * n + (j 0).val) % 8192, Nat.mod_lt _ (by decide)⟩ (j 1))

/-- The extended values of a head: 128 value columns, then a column of ones and 127 of zeros. -/
def vext (X : Vec F S1x1x8192x128 .bf16) : Vec F S8192x256 .bf16 :=
  View.canon (Val := Elt F) [⟨Rect.unit (s := S8192x256) ![0, 128] ![8192, 128] inb_S8192x256_S8192x128_0_128, k0_pay3⟩,
    ⟨Rect.unit (s := S8192x256) ![0, 0] ![8192, 128] inb_S8192x256_S8192x128_0_0, k0_pay2 X⟩]
/-- The same for the context's values. -/
def vextC (X : Vec F S1x1x256x128 .bf16) : Vec F S256x256 .bf16 :=
  View.canon (Val := Elt F) [⟨Rect.unit (s := S256x256) ![0, 128] ![256, 128] inb_S256x256_S256x128_0_128, k0_pay5⟩,
    ⟨Rect.unit (s := S256x256) ![0, 0] ![256, 128] inb_S256x256_S256x128_0_0, k0_pay4 X⟩]

theorem ld_keys (X : Vec F S1x1x192x8192 .bf16) (n : ℕ) (hn : n < 8)
    (h : ∀ a, (![0, 0, 0, 1024 * n] : Fin 4 → ℕ) a + (![1, 1, 192, 1024] : Fin 4 → ℕ) a ≤ S1x1x192x8192.size a) :
    View.ld X (Rect.unit (s := S1x1x192x8192) ![0, 0, 0, 1024 * n] ![1, 1, 192, 1024] h) = keys X n := by
  funext j
  have h3 : (j 3).val < 1024 := (j 3).isLt
  refine congrArg X (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 1024 * n + 1 * (j 3).val = (1024 * n + (j 3).val) % 8192; rw [Nat.mod_eq_of_lt (by omega), Nat.one_mul]

theorem ld_vals (X : Vec F S8192x256 .bf16) (n : ℕ) (hn : n < 8)
    (h : ∀ a, (![1024 * n, 0] : Fin 2 → ℕ) a + (![1024, 256] : Fin 2 → ℕ) a ≤ S8192x256.size a) :
    View.ld X (Rect.unit (s := S8192x256) ![1024 * n, 0] ![1024, 256] h) = vals X n := by
  funext j
  have h0 : (j 0).val < 1024 := (j 0).isLt
  refine congrArg X (funext fun a => Fin.ext ?_)
  match a with
  | ⟨0, _⟩ => show 1024 * n + 1 * (j 0).val = (1024 * n + (j 0).val) % 8192; rw [Nat.mod_eq_of_lt (by omega), Nat.one_mul]
  | ⟨1, _⟩ => show 0 + 1 * (j 1).val = (j 1).val; omega

theorem ld_vext (v : View sig .tc .vmem S8192x256 .bf16) (X : Vec F S1x1x8192x128 .bf16) (n : ℕ) (hn : n < 8)
    (h : ∀ a, (![1024 * n, 0] : Fin 2 → ℕ) a + (![1024, 256] : Fin 2 → ℕ) a ≤ S8192x256.size a) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![1024 * n, 0] ![1024, 256] h).toLoadRect = vals (vext X) n := by
  rw [View.readCov_eq_canon', ← ld_vals (vext X) n hn h]
  rfl

theorem ld_vextC (v : View sig .tc .vmem S256x256 .bf16) (X : Vec F S1x1x256x128 .bf16)
    (h : ∀ a, (![0, 0] : Fin 2 → ℕ) a + (![256, 256] : Fin 2 → ℕ) a ≤ S256x256.size a) :
    v.readCov (Val := Elt F) [⟨Rect.unit (s := S256x256) ![0, 128] ![256, 128] inb_S256x256_S256x128_0_128, k0_pay5⟩,
      ⟨Rect.unit (s := S256x256) ![0, 0] ![256, 128] inb_S256x256_S256x128_0_0, k0_pay4 X⟩]
      (Rect.unit (s := S256x256) ![0, 0] ![256, 256] h).toLoadRect = vextC X := by
  rw [View.readCov_eq_canon']
  funext j
  refine congrArg (vextC X) (funext fun a => Fin.ext ?_)
  match a with
  | ⟨0, _⟩ => show 0 + 1 * (j 0).val = (j 0).val; omega
  | ⟨1, _⟩ => show 0 + 1 * (j 1).val = (j 1).val; omega

theorem ld_allC (X : Vec F S256x256 .bf16)
    (h : ∀ a, (![0, 0] : Fin 2 → ℕ) a + (![256, 256] : Fin 2 → ℕ) a ≤ S256x256.size a) :
    View.ld X (Rect.unit (s := S256x256) ![0, 0] ![256, 256] h) = X := by
  funext j
  refine congrArg X (funext fun a => Fin.ext ?_)
  match a with
  | ⟨0, _⟩ => show 0 + 1 * (j 0).val = (j 0).val; omega
  | ⟨1, _⟩ => show 0 + 1 * (j 1).val = (j 1).val; omega

theorem ld_k0 (X : Vec F S1x1x192x8192 .bf16) : View.ld X (Rect.unit (s := S1x1x192x8192) ![0, 0, 0, 0] ![1, 1, 192, 1024]
    inb_S1x1x192x8192_S1x1x192x1024_0_0_0_0) = keys X 0 := ld_keys X 0 (by decide) _
theorem ld_v0 (X : Vec F S8192x256 .bf16) : View.ld X (Rect.unit (s := S8192x256) ![0, 0] ![1024, 256]
    inb_S8192x256_S1024x256_0_0) = vals X 0 := ld_vals X 0 (by decide) _
theorem ld_w0 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![0, 0] ![1024, 256] inb_S8192x256_S1024x256_0_0).toLoadRect = vals (vext X) 0 :=
  ld_vext v X 0 (by decide) _
theorem ld_k1 (X : Vec F S1x1x192x8192 .bf16) : View.ld X (Rect.unit (s := S1x1x192x8192) ![0, 0, 0, 1024] ![1, 1, 192, 1024]
    inb_S1x1x192x8192_S1x1x192x1024_0_0_0_1024) = keys X 1 := ld_keys X 1 (by decide) _
theorem ld_v1 (X : Vec F S8192x256 .bf16) : View.ld X (Rect.unit (s := S8192x256) ![1024, 0] ![1024, 256]
    inb_S8192x256_S1024x256_1024_0) = vals X 1 := ld_vals X 1 (by decide) _
theorem ld_w1 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![1024, 0] ![1024, 256] inb_S8192x256_S1024x256_1024_0).toLoadRect = vals (vext X) 1 :=
  ld_vext v X 1 (by decide) _
theorem ld_k2 (X : Vec F S1x1x192x8192 .bf16) : View.ld X (Rect.unit (s := S1x1x192x8192) ![0, 0, 0, 2048] ![1, 1, 192, 1024]
    inb_S1x1x192x8192_S1x1x192x1024_0_0_0_2048) = keys X 2 := ld_keys X 2 (by decide) _
theorem ld_v2 (X : Vec F S8192x256 .bf16) : View.ld X (Rect.unit (s := S8192x256) ![2048, 0] ![1024, 256]
    inb_S8192x256_S1024x256_2048_0) = vals X 2 := ld_vals X 2 (by decide) _
theorem ld_w2 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![2048, 0] ![1024, 256] inb_S8192x256_S1024x256_2048_0).toLoadRect = vals (vext X) 2 :=
  ld_vext v X 2 (by decide) _
theorem ld_k3 (X : Vec F S1x1x192x8192 .bf16) : View.ld X (Rect.unit (s := S1x1x192x8192) ![0, 0, 0, 3072] ![1, 1, 192, 1024]
    inb_S1x1x192x8192_S1x1x192x1024_0_0_0_3072) = keys X 3 := ld_keys X 3 (by decide) _
theorem ld_v3 (X : Vec F S8192x256 .bf16) : View.ld X (Rect.unit (s := S8192x256) ![3072, 0] ![1024, 256]
    inb_S8192x256_S1024x256_3072_0) = vals X 3 := ld_vals X 3 (by decide) _
theorem ld_w3 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![3072, 0] ![1024, 256] inb_S8192x256_S1024x256_3072_0).toLoadRect = vals (vext X) 3 :=
  ld_vext v X 3 (by decide) _
theorem ld_k4 (X : Vec F S1x1x192x8192 .bf16) : View.ld X (Rect.unit (s := S1x1x192x8192) ![0, 0, 0, 4096] ![1, 1, 192, 1024]
    inb_S1x1x192x8192_S1x1x192x1024_0_0_0_4096) = keys X 4 := ld_keys X 4 (by decide) _
theorem ld_v4 (X : Vec F S8192x256 .bf16) : View.ld X (Rect.unit (s := S8192x256) ![4096, 0] ![1024, 256]
    inb_S8192x256_S1024x256_4096_0) = vals X 4 := ld_vals X 4 (by decide) _
theorem ld_w4 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![4096, 0] ![1024, 256] inb_S8192x256_S1024x256_4096_0).toLoadRect = vals (vext X) 4 :=
  ld_vext v X 4 (by decide) _
theorem ld_k5 (X : Vec F S1x1x192x8192 .bf16) : View.ld X (Rect.unit (s := S1x1x192x8192) ![0, 0, 0, 5120] ![1, 1, 192, 1024]
    inb_S1x1x192x8192_S1x1x192x1024_0_0_0_5120) = keys X 5 := ld_keys X 5 (by decide) _
theorem ld_v5 (X : Vec F S8192x256 .bf16) : View.ld X (Rect.unit (s := S8192x256) ![5120, 0] ![1024, 256]
    inb_S8192x256_S1024x256_5120_0) = vals X 5 := ld_vals X 5 (by decide) _
theorem ld_w5 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![5120, 0] ![1024, 256] inb_S8192x256_S1024x256_5120_0).toLoadRect = vals (vext X) 5 :=
  ld_vext v X 5 (by decide) _
theorem ld_k6 (X : Vec F S1x1x192x8192 .bf16) : View.ld X (Rect.unit (s := S1x1x192x8192) ![0, 0, 0, 6144] ![1, 1, 192, 1024]
    inb_S1x1x192x8192_S1x1x192x1024_0_0_0_6144) = keys X 6 := ld_keys X 6 (by decide) _
theorem ld_v6 (X : Vec F S8192x256 .bf16) : View.ld X (Rect.unit (s := S8192x256) ![6144, 0] ![1024, 256]
    inb_S8192x256_S1024x256_6144_0) = vals X 6 := ld_vals X 6 (by decide) _
theorem ld_w6 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![6144, 0] ![1024, 256] inb_S8192x256_S1024x256_6144_0).toLoadRect = vals (vext X) 6 :=
  ld_vext v X 6 (by decide) _
theorem ld_k7 (X : Vec F S1x1x192x8192 .bf16) : View.ld X (Rect.unit (s := S1x1x192x8192) ![0, 0, 0, 7168] ![1, 1, 192, 1024]
    inb_S1x1x192x8192_S1x1x192x1024_0_0_0_7168) = keys X 7 := ld_keys X 7 (by decide) _
theorem ld_v7 (X : Vec F S8192x256 .bf16) : View.ld X (Rect.unit (s := S8192x256) ![7168, 0] ![1024, 256]
    inb_S8192x256_S1024x256_7168_0) = vals X 7 := ld_vals X 7 (by decide) _
theorem ld_w7 (v : View sig .tc .vmem S8192x256 .bf16) (X : Vec F S1x1x8192x128 .bf16) :
    v.readCov (Val := Elt F) [⟨Rect.unit (s := S8192x256) ![0, 128] ![8192, 128] inb_S8192x256_S8192x128_0_128, k0_pay3⟩,
      ⟨Rect.unit (s := S8192x256) ![0, 0] ![8192, 128] inb_S8192x256_S8192x128_0_0, k0_pay2 X⟩]
      (Rect.unit (s := S8192x256) ![7168, 0] ![1024, 256] inb_S8192x256_S1024x256_7168_0).toLoadRect = vals (vext X) 7 :=
  ld_vext v X 7 (by decide) _

/-! The printed pieces of the body, each as steps of the walk. -/

section Pieces
variable (q : Vec F S1x1x1024x192 .bf16) (k k' : Vec F S1x1x192x1024 .bf16) (kc : Vec F S1x1x192x256 .bf16)
  (s s' : FVec F S1024x1024 .f32) (x : FVec F S1024x1 .f32) (a : FVec F S1024x256 .f32) (v v' v'' : Vec F S1024x256 .bf16)
  (vc : Vec F S256x256 .bf16)

/-- A chunk's weights before they are exponentiated. -/
def gap (s : FVec F S1024x1024 .f32) (x : FVec F S1024x1 .f32) : FVec F S1024x1024 .bf16 :=
  truncf .bf16 (subf s (broadcastTo S1024x1024 x broadcasts_S1024x1_S1024x1024)) bitsLt_bf16_f32

theorem p9 : k0_pay9 q k = score q k := rfl
theorem p10 : k0_pay10 q k = stepM (score q k) k0_pay7 := rfl
theorem p11 : k0_pay11 q k v = stepA (score q k) k0_pay7 (broadcast S1024x256 (Scalar.ofBits .f32 0x00000000#32)) v := rfl
theorem p16 : k0_pay16 (k0_pay6 q) s x (k0_pay12 k) (constant S1024x1024 .f32 0x00000000#32) = stepM (score q k) (stepM s x) := rfl
theorem p17 : k0_pay17 (k0_pay6 q) s x a (k0_pay12 k) (constant S1024x1024 .f32 0x00000000#32) v v' =
    stepA (score q k) (stepM s x) (stepA s x a v) v' := rfl
theorem p18 : k0_pay18 (k0_pay6 q) k = score q k := rfl
theorem p19 : k0_pay19 (k0_pay6 q) s x (k0_pay12 k) (constant S1024x1024 .f32 0x00000000#32) k' =
    stepM (score q k') (stepM (score q k) (stepM s x)) := rfl
theorem p20 : k0_pay20 (k0_pay6 q) s x (k0_pay12 k) (constant S1024x1024 .f32 0x00000000#32) k' =
    gap (score q k') (stepM (score q k') (stepM (score q k) (stepM s x))) := rfl
theorem p23 : k0_pay23 (k0_pay6 q) k = score q k := rfl
theorem p24 : k0_pay24 (k0_pay6 q) s x k = stepM (score q k) (stepM s x) := rfl
theorem p25 : k0_pay25 (k0_pay6 q) s x k = exp (gap (score q k) (stepM (score q k) (stepM s x))) := rfl
theorem p26 : k0_pay26 (k0_pay6 q) x a s (stepM s' x) (gap s' (stepM s' x)) v k v' =
    mulf (stepA s (stepM s' x) (stepA s' x a v) v')
      (broadcastTo S1024x256 (exp (subf (stepM s (stepM s' x)) (stepM (score q k) (stepM s (stepM s' x)))))
        broadcasts_S1024x1_S1024x256) := rfl
theorem p30 : k0_pay30 (k0_pay6 q) s x k = stepM (score q k) (stepM s x) := rfl
theorem p31 : k0_pay31 (k0_pay6 q) s (stepM s' x) (exp (gap s' (stepM s' x)))
    (mulf a (broadcastTo S1024x256 (exp (subf x (stepM s' x))) broadcasts_S1024x1_S1024x256)) v k v' v'' =
    stepA (score q k) (stepM s (stepM s' x)) (stepA s (stepM s' x) (stepA s' x a v) v') v'' := rfl
theorem p32 : k0_pay32 (k0_pay6 q) s x k kc = lastM (scoreC q kc) (stepM (score q k) (stepM s x)) := rfl
theorem p33 : k0_pay33 (k0_pay6 q) s x k kc =
    broadcastTo S1024x256 (lastM (scoreC q kc) (stepM (score q k) (stepM s x))) broadcasts_S1024x1_S1024x256 := rfl
theorem p1 : k0_pay1 (k0_pay29 (k0_pay6 q) kc) x a (lastM (scoreC q kc) x)
    (broadcastTo S1024x256 (lastM (scoreC q kc) x) broadcasts_S1024x1_S1024x256) vc = fin (lastA (scoreC q kc) x a vc) := rfl
end Pieces

theorem read0 (h : (Memref.whole cc0_scratch0).IsWhole) (X : Vec F S8192x256 .bf16) :
    View.read (Elt F) (View.whole cc0_scratch0) (h.unread X) = X := h.read_unread X
theorem read1 (h : (Memref.whole cc0_scratch1).IsWhole) (X : Vec F S256x256 .bf16) :
    View.read (Elt F) (View.whole cc0_scratch1) (h.unread X) = X := h.read_unread X

variable (m : (ℓ : Loc nD τ sig) → Buf (Elt F) ℓ)

/-- A head's first point: it fills the scratch with the extended values and stores its block. -/
theorem out_first (c : Dev nD) (t : Fin cfg0.N) (h0 : t.val % 8 = 0) :
    outsAt0 m c t.val t.isLt = (whole (iblk m c 0 t) (keys (iblk m c 1 t)) (vals (vext (iblk m c 2 t))) (iblk m c 3 t)
      (vextC (iblk m c 4 t)), vext (iblk m c 2 t), vextC (iblk m c 4 t)) := by
  rw [outsAt0_A m c t h0]
  frame_out
  refine Prod.ext ?_ (Prod.ext rfl rfl)
  simp only [ld_k0, ld_k1, ld_k2, ld_k3, ld_k4, ld_k5, ld_k6, ld_k7, ld_w0, ld_w1, ld_w2, ld_w3, ld_w4, ld_w5, ld_w6, ld_w7, ld_vextC, p9, p10, p11, p16, p17, p18, p19, p20, p23, p24, p25, p26, p30, p31, p32, p33, p1,
    read0, read1]
  rfl

/-- Any other point: the scratch stays, and the block is made from it. -/
theorem out_later (c : Dev nD) (t : Fin cfg0.N) (h0 : t.val % 8 ≠ 0) :
    outsAt0 m c t.val t.isLt = (whole (iblk m c 0 t) (keys (iblk m c 1 t))
      (vals (outsAt0 m c (t.val - 1) (Nat.lt_of_le_of_lt (Nat.sub_le t.val 1) t.isLt)).2.1) (iblk m c 3 t)
      (outsAt0 m c (t.val - 1) (Nat.lt_of_le_of_lt (Nat.sub_le t.val 1) t.isLt)).2.2,
      (outsAt0 m c (t.val - 1) (Nat.lt_of_le_of_lt (Nat.sub_le t.val 1) t.isLt)).2.1,
      (outsAt0 m c (t.val - 1) (Nat.lt_of_le_of_lt (Nat.sub_le t.val 1) t.isLt)).2.2) := by
  rw [outsAt0_B m c t h0]
  frame_out
  refine Prod.ext ?_ (Prod.ext rfl rfl)
  simp only [ld_k0, ld_k1, ld_k2, ld_k3, ld_k4, ld_k5, ld_k6, ld_k7, ld_v0, ld_v1, ld_v2, ld_v3, ld_v4, ld_v5, ld_v6, ld_v7, ld_allC, p9, p10, p11, p16, p17, p18, p19, p20, p23, p24, p25, p26, p30, p31, p32, p33, p1,
    read0, read1]
  rfl

end Generic

end Cert.KernelIdeal.Attn

end
-- ==== Proof.AttnRow.lean ====
module
public import proofs.«01_k».proof.Proof.AttnBlock

@[expose] public section

/-! # The walk over the keys, one row at a time

Every step of the walk read at one row and one column over the extended reals, and the whole walk as one softmax
quotient: the sum of the weights times the values over the sum of the weights. -/

set_option maxRecDepth 16384

noncomputable section

namespace Cert.KernelIdeal.Attn

open Cert.KernelIdeal Cert.KernelIdeal.Gen Idealize.ShloMosaic Idealize.ShloMosaic.TcCoe Idealize.SL.Sem
open Cert.Softmax

theorem minus_infinity : Ideal.ofBits .f32 0xFF800000#32 = (⊥ : EReal) := by simp [Ideal.ofBits, Ideal.ieee]

theorem score_at (q : Vec Ideal S1x1x1024x192 .bf16) (k : Vec Ideal S1x1x192x1024 .bf16) (r : Fin 1024) (n : Fin 1024) :
    (score q k (ix2 r n) : EReal) = ∑ e : Fin 192, (q (ix4 0 0 r e) : EReal) * (k (ix4 0 0 e n) : EReal) := by
  pointwise [score, k0_pay8, k0_pay6]

theorem scoreC_at (q : Vec Ideal S1x1x1024x192 .bf16) (k : Vec Ideal S1x1x192x256 .bf16) (r : Fin 1024) (n : Fin 256) :
    (scoreC q k (ix2 r n) : EReal) = ∑ e : Fin 192, (q (ix4 0 0 r e) : EReal) * (k (ix4 0 0 e n) : EReal) := by
  pointwise [scoreC, k0_pay29, k0_pay6]

theorem stepM_at (s : FVec Ideal S1024x1024 .f32) (x : FVec Ideal S1024x1 .f32) (r : Fin 1024) :
    (stepM s x (ix2 r 0) : EReal) = max (x (ix2 r 0)) (Finset.univ.fold max ⊥ fun n : Fin 1024 => (s (ix2 r n) : EReal)) := by
  rw [← minus_infinity]
  pointwise [stepM, k0_pay14]

theorem lastM_at (s : FVec Ideal S1024x256 .f32) (x : FVec Ideal S1024x1 .f32) (r : Fin 1024) :
    (lastM s x (ix2 r 0) : EReal) = max (x (ix2 r 0)) (Finset.univ.fold max ⊥ fun n : Fin 256 => (s (ix2 r n) : EReal)) := by
  rw [← minus_infinity]
  pointwise [lastM]

theorem stepA_at (s : FVec Ideal S1024x1024 .f32) (x : FVec Ideal S1024x1 .f32) (a : FVec Ideal S1024x256 .f32)
    (v : Vec Ideal S1024x256 .bf16) (r : Fin 1024) (d : Fin 256) :
    (stepA s x a v (ix2 r d) : EReal) =
      (a (ix2 r d) : EReal) * Ideal.exp ((x (ix2 r 0) : EReal) - (stepM s x (ix2 r 0) : EReal)) +
        ∑ n : Fin 1024, Ideal.exp ((s (ix2 r n) : EReal) - (stepM s x (ix2 r 0) : EReal)) * (v (ix2 n d) : EReal) := by
  unfold stepA
  generalize stepM s x = y
  pointwise

theorem lastA_at (s : FVec Ideal S1024x256 .f32) (x : FVec Ideal S1024x1 .f32) (a : FVec Ideal S1024x256 .f32)
    (v : Vec Ideal S256x256 .bf16) (r : Fin 1024) (d : Fin 256) :
    (lastA s x a v (ix2 r d) : EReal) =
      (a (ix2 r d) : EReal) * Ideal.exp ((x (ix2 r 0) : EReal) - (lastM s x (ix2 r 0) : EReal)) +
        ∑ n : Fin 256, Ideal.exp ((s (ix2 r n) : EReal) - (lastM s x (ix2 r 0) : EReal)) * (v (ix2 n d) : EReal) := by
  unfold lastA
  generalize lastM s x = y
  pointwise

theorem fin_at (a : FVec Ideal S1024x256 .f32) (r : Fin 1024) (d : Fin 128) :
    (fin a (ix3 0 r d) : EReal) = Ideal.div (a (ix2 r ⟨d.val, by omega⟩) : EReal) (a (ix2 r ⟨128, by decide⟩) : EReal) := by
  pointwise [fin]

/-- The maximum and one column of the accumulator after `n` chunks of latent keys. -/
theorem run_inv (q : Vec Ideal S1x1x1024x192 .bf16) (X : ℕ → Vec Ideal S1x1x192x1024 .bf16) (W : ℕ → Vec Ideal S1024x256 .bf16)
    (r : Fin 1024) (d : Fin 256) (s v : ℕ → EReal)
    (hs : ∀ n, n < 8 → ∀ j : Fin 1024, (score q (X n) (ix2 r j) : EReal) = s (1024 * n + j.val))
    (hv : ∀ n, n < 8 → ∀ j : Fin 1024, (W n (ix2 j d) : EReal) = v (1024 * n + j.val)) (n : ℕ) (hn : n ≤ 8) :
    Inv s v (1024 * n) (runM q X n (ix2 r 0)) (runA q X W n (ix2 r d)) := by
  induction n with
  | zero =>
    have e1 : (runM q X 0 (ix2 r 0) : EReal) = ⊥ := minus_infinity
    have e2 : (runA q X W 0 (ix2 r d) : EReal) = 0 := by
      pointwise [runA]
    have := Inv.zero s v
    rw [← e1, ← e2] at this
    exact this
  | succ n ih =>
    have hn' : n < 8 := hn
    have e1 : (runM q X (n + 1) (ix2 r 0) : EReal) =
        max (runM q X n (ix2 r 0)) (Finset.univ.fold max ⊥ fun j : Fin 1024 => s (1024 * n + j.val)) := by
      simp only [← hs n hn']
      exact stepM_at _ _ r
    have e2 : (runA q X W (n + 1) (ix2 r d) : EReal) =
        (runA q X W n (ix2 r d) : EReal) * Ideal.exp ((runM q X n (ix2 r 0) : EReal) - (runM q X (n + 1) (ix2 r 0) : EReal)) +
        ∑ j : Fin 1024, Ideal.exp (s (1024 * n + j.val) - (runM q X (n + 1) (ix2 r 0) : EReal)) * v (1024 * n + j.val) := by
      simp only [← hs n hn', ← hv n hn']
      exact stepA_at _ _ _ _ r d
    have := (ih (by omega)).step 1024
    rw [← e1, ← e2] at this
    exact this

/-- … and after the context keys. -/
theorem last_inv (q : Vec Ideal S1x1x1024x192 .bf16) (X : ℕ → Vec Ideal S1x1x192x1024 .bf16) (W : ℕ → Vec Ideal S1024x256 .bf16)
    (kc : Vec Ideal S1x1x192x256 .bf16) (vc : Vec Ideal S256x256 .bf16) (r : Fin 1024) (d : Fin 256) (s v : ℕ → EReal)
    (hs : ∀ n, n < 8 → ∀ j : Fin 1024, (score q (X n) (ix2 r j) : EReal) = s (1024 * n + j.val))
    (hsc : ∀ j : Fin 256, (scoreC q kc (ix2 r j) : EReal) = s (8192 + j.val))
    (hv : ∀ n, n < 8 → ∀ j : Fin 1024, (W n (ix2 j d) : EReal) = v (1024 * n + j.val))
    (hvc : ∀ j : Fin 256, (vc (ix2 j d) : EReal) = v (8192 + j.val)) :
    (lastA (scoreC q kc) (runM q X 8) (runA q X W 8) vc (ix2 r d) : EReal) =
      ∑ k ∈ Finset.range 8448, Ideal.exp (s k - (Finset.range 8448).sup s) * v k := by
  have e1 : (lastM (scoreC q kc) (runM q X 8) (ix2 r 0) : EReal) =
      max (runM q X 8 (ix2 r 0)) (Finset.univ.fold max ⊥ fun j : Fin 256 => s (8192 + j.val)) := by
    simp only [← hsc]
    exact lastM_at _ _ r
  have e2 : (lastA (scoreC q kc) (runM q X 8) (runA q X W 8) vc (ix2 r d) : EReal) =
      (runA q X W 8 (ix2 r d) : EReal) *
        Ideal.exp ((runM q X 8 (ix2 r 0) : EReal) - (lastM (scoreC q kc) (runM q X 8) (ix2 r 0) : EReal)) +
      ∑ j : Fin 256, Ideal.exp (s (8192 + j.val) - (lastM (scoreC q kc) (runM q X 8) (ix2 r 0) : EReal)) * v (8192 + j.val) := by
    simp only [← hsc, ← hvc]
    exact lastA_at _ _ _ _ r d
  have := (run_inv q X W r d s v hs hv 8 (le_refl 8)).step 256
  rw [show 1024 * 8 = 8192 from rfl, ← e1, ← e2] at this
  rw [this.2, this.1]

/-- The block a point stores, at a row and a column: one softmax quotient over all 8448 keys. -/
theorem whole_at (q : Vec Ideal S1x1x1024x192 .bf16) (X : ℕ → Vec Ideal S1x1x192x1024 .bf16) (W : ℕ → Vec Ideal S1024x256 .bf16)
    (kc : Vec Ideal S1x1x192x256 .bf16) (vc : Vec Ideal S256x256 .bf16) (r : Fin 1024) (d : Fin 128) (s v : ℕ → EReal)
    (hs : ∀ n, n < 8 → ∀ j : Fin 1024, (score q (X n) (ix2 r j) : EReal) = s (1024 * n + j.val))
    (hsc : ∀ j : Fin 256, (scoreC q kc (ix2 r j) : EReal) = s (8192 + j.val))
    (hv : ∀ n, n < 8 → ∀ j : Fin 1024, (W n (ix2 j ⟨d.val, by omega⟩) : EReal) = v (1024 * n + j.val))
    (hvc : ∀ j : Fin 256, (vc (ix2 j ⟨d.val, by omega⟩) : EReal) = v (8192 + j.val))
    (ho : ∀ n, n < 8 → ∀ j : Fin 1024, (W n (ix2 j ⟨128, by decide⟩) : EReal) = 1)
    (hoc : ∀ j : Fin 256, (vc (ix2 j ⟨128, by decide⟩) : EReal) = 1) :
    (whole q X W kc vc (ix3 0 r d) : EReal) =
      Ideal.div (∑ k ∈ Finset.range 8448, Ideal.exp (s k - (Finset.range 8448).sup s) * v k)
        (∑ k ∈ Finset.range 8448, Ideal.exp (s k - (Finset.range 8448).sup s)) := by
  have e := last_inv q X W kc vc r ⟨128, by decide⟩ s (fun _ => 1) hs hsc ho hoc
  simp only [mul_one] at e
  rw [← e, ← last_inv q X W kc vc r ⟨d.val, by omega⟩ s v hs hsc hv hvc]
  exact fin_at _ r d

end Cert.KernelIdeal.Attn

end
-- ==== Proof.AttnPoint.lean ====
module
public import proofs.«01_k».proof.Proof.AttnBlock

@[expose] public section

/-! # What every point finds in its scratch, and so what it stores -/

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- Where each block lies: batch, head, and row or column block. -/
theorem idx : ∀ t : Fin cfg0.N, win0_0.index t = ![t.val / 32, t.val / 8 % 4, t.val % 8, 0]
    ∧ win0_1.index t = ![t.val / 32, t.val / 8 % 4, 0, 0] ∧ win0_2.index t = ![t.val / 32, t.val / 8 % 4, 0, 0]
    ∧ win0_3.index t = ![t.val / 32, t.val / 8 % 4, 0, 0] ∧ win0_4.index t = ![t.val / 32, t.val / 8 % 4, 0, 0]
    ∧ win0_5.index t = ![t.val / 32, t.val % 8, t.val / 8 % 4] :=
  (by decide +kernel : ∀ t : Fin grid0.N, _)

theorem point_lt (t : Fin cfg0.N) : t.val < 256 := lt_of_lt_of_eq t.isLt N_0

/-- A point's batch. -/
def bat (t : Fin cfg0.N) : Fin 8 := ⟨t.val / 32, by have := point_lt t; omega⟩
/-- A point's head. -/
def hea (t : Fin cfg0.N) : Fin 4 := ⟨t.val / 8 % 4, by omega⟩
/-- A row of a point's block in the array. -/
def row (t : Fin cfg0.N) (r : Fin 1024) : Fin 8192 := ⟨t.val % 8 * 1024 + r.val, by omega⟩

section Generic
variable {F : FTy → Type} [FloatOps F] (m : (ℓ : Loc nD τ sig) → Buf (Elt F) ℓ) (c : Dev nD)

/-- The query block of a point. -/
theorem blk0 (t : Fin cfg0.N) (r : Fin 1024) (e : Fin 192) :
    iblk m c 0 t (ix4 0 0 r e) = m ((c.tc : Thread nD τ).loc main_arg0) (ix4 (bat t) (hea t) (row t r) e) := by
  blk_ext [iblk, V, idx t, bat, hea, row]
/-- The latent keys of a point. -/
theorem blk1 (t : Fin cfg0.N) (e : Fin 192) (j : Fin 8192) :
    iblk m c 1 t (ix4 0 0 e j) = m ((c.tc : Thread nD τ).loc main_arg1) (ix4 (bat t) (hea t) e j) := by
  blk_ext [iblk, V, idx t, bat, hea, row]
/-- The latent values. -/
theorem blk2 (t : Fin cfg0.N) (j : Fin 8192) (d : Fin 128) :
    iblk m c 2 t (ix4 0 0 j d) = m ((c.tc : Thread nD τ).loc main_arg2) (ix4 (bat t) (hea t) j d) := by
  blk_ext [iblk, V, idx t, bat, hea, row]
/-- The context keys. -/
theorem blk3 (t : Fin cfg0.N) (e : Fin 192) (j : Fin 256) :
    iblk m c 3 t (ix4 0 0 e j) = m ((c.tc : Thread nD τ).loc main_arg3) (ix4 (bat t) (hea t) e j) := by
  blk_ext [iblk, V, idx t, bat, hea, row]
/-- The context values. -/
theorem blk4 (t : Fin cfg0.N) (j : Fin 256) (d : Fin 128) :
    iblk m c 4 t (ix4 0 0 j d) = m ((c.tc : Thread nD τ).loc main_arg4) (ix4 (bat t) (hea t) j d) := by
  blk_ext [iblk, V, idx t, bat, hea, row]

theorem eq_ix4_00 {a b : ℕ} (i : (⟨4, ![1, 1, a, b]⟩ : Shape).Idx) : ∃ (x : Fin a) (y : Fin b), i = ix4 0 0 x y := by
  refine ⟨i 2, i 3, ?_⟩
  conv_lhs => rw [eq_ix4 i]
  congr 1 <;> exact Subsingleton.elim (α := Fin 1) _ _

/-- The points of one head read the same values. -/
theorem same2 (t t' : Fin cfg0.N) (h : t.val / 8 = t'.val / 8) : iblk m c 2 t = iblk m c 2 t' := by
  have hb : bat t = bat t' := Fin.ext (show t.val / 32 = t'.val / 32 by omega)
  have hh : hea t = hea t' := Fin.ext (show t.val / 8 % 4 = t'.val / 8 % 4 by omega)
  funext i
  obtain ⟨x, y, rfl⟩ := eq_ix4_00 (a := 8192) (b := 128) i
  rw [blk2 m c t x y, blk2 m c t' x y, hb, hh]
theorem same4 (t t' : Fin cfg0.N) (h : t.val / 8 = t'.val / 8) : iblk m c 4 t = iblk m c 4 t' := by
  have hb : bat t = bat t' := Fin.ext (show t.val / 32 = t'.val / 32 by omega)
  have hh : hea t = hea t' := Fin.ext (show t.val / 8 % 4 = t'.val / 8 % 4 by omega)
  funext i
  obtain ⟨x, y, rfl⟩ := eq_ix4_00 (a := 256) (b := 128) i
  rw [blk4 m c t x y, blk4 m c t' x y, hb, hh]

theorem scratch_first (n : ℕ) (hn : n < cfg0.N) (h : n % 8 = 0) :
    (outsAt0 m c n hn).2.1 = vext (iblk m c 2 ⟨n, hn⟩) ∧ (outsAt0 m c n hn).2.2 = vextC (iblk m c 4 ⟨n, hn⟩) := by
  have e := out_first m c ⟨n, hn⟩ h
  dsimp only at e
  generalize vext (iblk m c 2 ⟨n, hn⟩) = x at e ⊢
  generalize vextC (iblk m c 4 ⟨n, hn⟩) = y at e ⊢
  rw [e]
  exact ⟨rfl, rfl⟩

theorem scratch_later (n : ℕ) (hn : n < cfg0.N) (h : n % 8 ≠ 0) :
    (outsAt0 m c n hn).2.1 = (outsAt0 m c (n - 1) (Nat.lt_of_le_of_lt (Nat.sub_le n 1) hn)).2.1 ∧
      (outsAt0 m c n hn).2.2 = (outsAt0 m c (n - 1) (Nat.lt_of_le_of_lt (Nat.sub_le n 1) hn)).2.2 := by
  have e := out_later m c ⟨n, hn⟩ h
  dsimp only at e
  generalize outsAt0 m c (n - 1) (Nat.lt_of_le_of_lt (Nat.sub_le n 1) hn) = y at e ⊢
  rw [e]
  exact ⟨rfl, rfl⟩

/-- After any point the scratch holds the extended values of its head. -/
theorem scratch (n : ℕ) : ∀ hn : n < cfg0.N,
    (outsAt0 m c n hn).2.1 = vext (iblk m c 2 ⟨n, hn⟩) ∧ (outsAt0 m c n hn).2.2 = vextC (iblk m c 4 ⟨n, hn⟩) := by
  induction n using Nat.strong_induction_on with
  | _ n ih =>
    intro hn
    by_cases h : n % 8 = 0
    · exact scratch_first m c n hn h
    · have hl := Nat.lt_of_le_of_lt (Nat.sub_le n 1) hn
      have e := scratch_later m c n hn h
      have i := ih (n - 1) (by omega) hl
      have h8 : n / 8 = (n - 1) / 8 := by omega
      rw [same2 m c ⟨n, hn⟩ ⟨n - 1, hl⟩ h8, same4 m c ⟨n, hn⟩ ⟨n - 1, hl⟩ h8]
      exact ⟨e.1.trans i.1, e.2.trans i.2⟩

/-- What a point stores, from its five blocks. -/
theorem stored (t : Fin cfg0.N) : (outsAt0 m c t.val t.isLt).1 = whole (iblk m c 0 t) (keys (iblk m c 1 t))
    (vals (vext (iblk m c 2 t))) (iblk m c 3 t) (vextC (iblk m c 4 t)) := by
  by_cases h : t.val % 8 = 0
  · rw [out_first m c t h]
  · have hl := Nat.lt_of_le_of_lt (Nat.sub_le t.val 1) t.isLt
    have hs := scratch m c (t.val - 1) hl
    have h8 : t.val / 8 = (t.val - 1) / 8 := by omega
    have e := out_later m c t h
    generalize outsAt0 m c (t.val - 1) (Nat.lt_of_le_of_lt (Nat.sub_le t.val 1) t.isLt) = y at e hs
    rw [same2 m c t ⟨t.val - 1, hl⟩ h8, same4 m c t ⟨t.val - 1, hl⟩ h8, ← hs.1, ← hs.2, e]
end Generic

end Cert.KernelIdeal.Attn

end
-- ==== Proof.AttnSpec.lean ====
module
public import proofs.«01_k».proof.Proof.Softmax
public import Idealize.ShloMosaic.Lib.Pointwise

@[expose] public section

/-! # Attention over latent and context keys, as both programs are shown to compute it

`attend` is one element of the result: the softmax-weighted mean of a value column over all 8448 keys of a head, the
latent keys first. -/

noncomputable section

namespace Cert.AttnSpec

open Idealize.ShloMosaic

variable (q : Vec Ideal ⟨4, ![8, 4, 8192, 192]⟩ .bf16) (k : Vec Ideal ⟨4, ![8, 4, 192, 8192]⟩ .bf16)
  (v : Vec Ideal ⟨4, ![8, 4, 8192, 128]⟩ .bf16) (kc : Vec Ideal ⟨4, ![8, 4, 192, 256]⟩ .bf16)
  (vc : Vec Ideal ⟨4, ![8, 4, 256, 128]⟩ .bf16) (b : Fin 8) (h : Fin 4) (r : Fin 8192) (d : Fin 128)

/-- The score of a query row against a latent key. -/
def lat (j : Fin 8192) : EReal := ∑ e : Fin 192, (q (ix4 b h r e) : EReal) * (k (ix4 b h e j) : EReal)
/-- The score against a context key. -/
def ctx (j : Fin 256) : EReal := ∑ e : Fin 192, (q (ix4 b h r e) : EReal) * (kc (ix4 b h e j) : EReal)
/-- The score against key `n`. -/
def sco (n : ℕ) : EReal := if n < 8192 then lat q k b h r ⟨n % 8192, Nat.mod_lt _ (by decide)⟩ else
  ctx q kc b h r ⟨(n - 8192) % 256, Nat.mod_lt _ (by decide)⟩
/-- The value column's entry at key `n`. -/
def val (n : ℕ) : EReal := if n < 8192 then (v (ix4 b h ⟨n % 8192, Nat.mod_lt _ (by decide)⟩ d) : EReal) else
  (vc (ix4 b h ⟨(n - 8192) % 256, Nat.mod_lt _ (by decide)⟩ d) : EReal)
/-- The largest score. -/
def top : EReal := (Finset.range 8448).sup (sco q k kc b h r)
/-- The result at a batch, head, row and column. -/
def attend : EReal := Ideal.div
  (∑ n ∈ Finset.range 8448, Ideal.exp (sco q k kc b h r n - top q k kc b h r) * val v vc b h d n)
  (∑ n ∈ Finset.range 8448, Ideal.exp (sco q k kc b h r n - top q k kc b h r))

theorem sco_lat (n : ℕ) (hn : n < 8192) : sco q k kc b h r n = lat q k b h r ⟨n, hn⟩ := by
  have e : (⟨n % 8192, Nat.mod_lt _ (by decide)⟩ : Fin 8192) = ⟨n, hn⟩ := Fin.ext (Nat.mod_eq_of_lt hn)
  rw [sco, if_pos hn, e]
theorem sco_ctx (j : Fin 256) : sco q k kc b h r (8192 + j.val) = ctx q kc b h r j := by
  have e : (⟨(8192 + j.val - 8192) % 256, Nat.mod_lt _ (by decide)⟩ : Fin 256) = j := Fin.ext (by
    show (8192 + j.val - 8192) % 256 = j.val
    omega)
  rw [sco, if_neg (by omega), e]
theorem val_lat (n : ℕ) (hn : n < 8192) : val v vc b h d n = v (ix4 b h ⟨n, hn⟩ d) := by
  have e : (⟨n % 8192, Nat.mod_lt _ (by decide)⟩ : Fin 8192) = ⟨n, hn⟩ := Fin.ext (Nat.mod_eq_of_lt hn)
  rw [val, if_pos hn, e]
theorem val_ctx (j : Fin 256) : val v vc b h d (8192 + j.val) = vc (ix4 b h j d) := by
  have e : (⟨(8192 + j.val - 8192) % 256, Nat.mod_lt _ (by decide)⟩ : Fin 256) = j := Fin.ext (by
    show (8192 + j.val - 8192) % 256 = j.val
    omega)
  rw [val, if_neg (by omega), e]

/-- The key a place in the context-first order holds. -/
def place (n : Fin 8448) : ℕ := if n.val < 256 then 8192 + n.val else n.val - 256

theorem sum_place (f : ℕ → EReal) : ∑ n : Fin 8448, f (place n) = ∑ n ∈ Finset.range 8448, f n := by
  have h1 := Finset.sum_range_add f 8192 256
  have h2 := Finset.sum_range (n := 8448) (fun n => f (if n < 256 then 8192 + n else n - 256))
  have h0 : ∑ n ∈ Finset.range 8448, f n = _ := h1
  have h3 := Finset.sum_range_add (fun n => f (if n < 256 then 8192 + n else n - 256)) 256 8192
  have h4 : ∑ n : Fin 8448, f (place n) = ∑ n ∈ Finset.range (256 + 8192), f (if n < 256 then 8192 + n else n - 256) := h2.symm
  rw [h0, h4, h3, add_comm]
  refine congrArg₂ (· + ·) (Finset.sum_congr rfl fun n hn => ?_) (Finset.sum_congr rfl fun n hn => ?_)
  · have := Finset.mem_range.1 hn
    show f (if 256 + n < 256 then 8192 + (256 + n) else 256 + n - 256) = f n
    rw [if_neg (by omega), show 256 + n - 256 = n by omega]
  · have := Finset.mem_range.1 hn
    show f (if n < 256 then 8192 + n else n - 256) = f (8192 + n)
    rw [if_pos this]

theorem sup_place (f : ℕ → EReal) : (Finset.univ.fold max ⊥ fun n : Fin 8448 => f (place n)) = (Finset.range 8448).sup f := by
  show (Finset.univ.sup fun n : Fin 8448 => f (place n)) = _
  apply le_antisymm
  · refine Finset.sup_le fun n _ => ?_
    refine Finset.le_sup (f := f) (Finset.mem_range.2 ?_)
    unfold place
    have := n.isLt
    split <;> omega
  · refine Finset.sup_le fun n hn => ?_
    have hn := Finset.mem_range.1 hn
    by_cases h : n < 8192
    · have e : place ⟨n + 256, by omega⟩ = n := by
        show (if n + 256 < 256 then 8192 + (n + 256) else n + 256 - 256) = n
        rw [if_neg (by omega)]; omega
      have := Finset.le_sup (f := fun n : Fin 8448 => f (place n)) (Finset.mem_univ ⟨n + 256, by omega⟩)
      rwa [e] at this
    · have e : place ⟨n - 8192, by omega⟩ = n := by
        show (if n - 8192 < 256 then 8192 + (n - 8192) else n - 8192 - 256) = n
        rw [if_pos (by omega)]; omega
      have := Finset.le_sup (f := fun n : Fin 8448 => f (place n)) (Finset.mem_univ ⟨n - 8192, by omega⟩)
      rwa [e] at this

/-- With finite queries and keys every score is a real number. -/
theorem sco_real (hq : ∀ i, ∃ x : ℝ, (q i : EReal) = x) (hk : ∀ i, ∃ x : ℝ, (k i : EReal) = x)
    (hkc : ∀ i, ∃ x : ℝ, (kc i : EReal) = x) (n : ℕ) : ∃ x : ℝ, sco q k kc b h r n = x := by
  unfold sco lat ctx
  split
  · exact Cert.Softmax.sum_mul_coe _ _ (fun e => hq _) (fun e => hk _)
  · exact Cert.Softmax.sum_mul_coe _ _ (fun e => hq _) (fun e => hkc _)

/-- The result in the order of the reference, each weight divided before it meets its value. -/
theorem attend_eq (hq : ∀ i, ∃ x : ℝ, (q i : EReal) = x) (hk : ∀ i, ∃ x : ℝ, (k i : EReal) = x)
    (hkc : ∀ i, ∃ x : ℝ, (kc i : EReal) = x) :
    (∑ n : Fin 8448, Ideal.div (Ideal.exp (sco q k kc b h r (place n) - top q k kc b h r))
      (∑ n : Fin 8448, Ideal.exp (sco q k kc b h r (place n) - top q k kc b h r)) * val v vc b h d (place n)) =
      attend q k v kc vc b h r d := by
  choose s hs using fun n => sco_real q k kc b h r hq hk hkc n
  have ht : top q k kc b h r = Finset.univ.sup fun n : Fin 8448 => sco q k kc b h r (place n) :=
    (sup_place (sco q k kc b h r)).symm
  have hM : ∃ n : Fin 8448, top q k kc b h r = (s (place n) : EReal) := by
    obtain ⟨n, _, e⟩ := Finset.exists_mem_eq_sup (Finset.univ : Finset (Fin 8448)) ⟨0, Finset.mem_univ _⟩
      (fun n : Fin 8448 => sco q k kc b h r (place n))
    exact ⟨n, by rw [ht, e, hs]⟩
  have key := Cert.Softmax.quotient_eq (fun n : Fin 8448 => s (place n)) (fun n => val v vc b h d (place n)) _ hM
  unfold attend
  rw [← sum_place (fun n => Ideal.exp (sco q k kc b h r n - top q k kc b h r) * val v vc b h d n),
    ← sum_place (fun n => Ideal.exp (sco q k kc b h r n - top q k kc b h r))]
  simp only [hs]
  exact key

end Cert.AttnSpec

end
-- ==== Proof.AttnArray.lean ====
module
public import proofs.«01_k».proof.Proof.AttnRow
public import proofs.«01_k».proof.Proof.AttnPoint
public import proofs.«01_k».proof.Proof.AttnSpec

@[expose] public section

/-! # The whole array the attention leaves -/

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.AttnSpec

theorem k0_pay2_at (X : Vec Ideal S1x1x8192x128 .bf16) (j : Fin 8192) (d : Fin 128) : k0_pay2 X (ix2 j d) = X (ix4 0 0 j d) := by
  pointwise [k0_pay2]
theorem k0_pay3_at (j : Fin 8192) : (k0_pay3 (F := Ideal) (ix2 j 0) : EReal) = 1 := by
  pointwise [k0_pay3]

/-- The extended values: a value column, … -/
theorem vext_val (X : Vec Ideal S1x1x8192x128 .bf16) (j : Fin 8192) (d : Fin 128) :
    vext X (ix2 j ⟨d.val, by omega⟩) = X (ix4 0 0 j d) := by
  unfold vext
  canon_tiles x h
  · exfalso
    have e : d.val = 128 + (x 1).val := h1
    omega
  · have e0 : j = x 0 := Fin.ext h0
    have e1 : d = x 1 := Fin.ext h1
    rw [eq_ix2 x, k0_pay2_at X (x 0) (x 1), ← e0, ← e1]

/-- … or the ones. -/
theorem vext_one (X : Vec Ideal S1x1x8192x128 .bf16) (j : Fin 8192) :
    (vext X (ix2 j ⟨128, by decide⟩) : EReal) = 1 := by
  unfold vext
  canon_tiles x h
  · have e1 : x 1 = (⟨0, by decide⟩ : Fin 128) := Fin.ext (by
      have e : 128 = 128 + (x 1).val := h1
      show (x 1).val = 0
      omega)
    have e2 : x = ix2 (x 0) (⟨0, by decide⟩ : Fin 128) := by
      conv_lhs => rw [eq_ix2 x, e1]
      rfl
    rw [e2]
    exact k0_pay3_at (x 0)
  · exfalso
    have e : 128 = (x 1).val := h1
    omega

theorem k0_pay4_at (X : Vec Ideal S1x1x256x128 .bf16) (j : Fin 256) (d : Fin 128) : k0_pay4 X (ix2 j d) = X (ix4 0 0 j d) := by
  pointwise [k0_pay4]
theorem k0_pay5_at (j : Fin 256) : (k0_pay5 (F := Ideal) (ix2 j 0) : EReal) = 1 := by
  pointwise [k0_pay5]

/-- The extended values: a value column, … -/
theorem vextC_val (X : Vec Ideal S1x1x256x128 .bf16) (j : Fin 256) (d : Fin 128) :
    vextC X (ix2 j ⟨d.val, by omega⟩) = X (ix4 0 0 j d) := by
  unfold vextC
  canon_tiles x h
  · exfalso
    have e : d.val = 128 + (x 1).val := h1
    omega
  · have e0 : j = x 0 := Fin.ext h0
    have e1 : d = x 1 := Fin.ext h1
    rw [eq_ix2 x, k0_pay4_at X (x 0) (x 1), ← e0, ← e1]

/-- … or the ones. -/
theorem vextC_one (X : Vec Ideal S1x1x256x128 .bf16) (j : Fin 256) :
    (vextC X (ix2 j ⟨128, by decide⟩) : EReal) = 1 := by
  unfold vextC
  canon_tiles x h
  · have e1 : x 1 = (⟨0, by decide⟩ : Fin 128) := Fin.ext (by
      have e : 128 = 128 + (x 1).val := h1
      show (x 1).val = 0
      omega)
    have e2 : x = ix2 (x 0) (⟨0, by decide⟩ : Fin 128) := by
      conv_lhs => rw [eq_ix2 x, e1]
      rfl
    rw [e2]
    exact k0_pay5_at (x 0)
  · exfalso
    have e : 128 = (x 1).val := h1
    omega

/-- The array of results: batch, row, and the heads' columns side by side. -/
def result (m : (ℓ : Loc nD τ sig) → Buf (Elt Ideal) ℓ) (c : Dev nD) : S8x8192x512.Idx → Elt Ideal .bf16 := fun i =>
  attend (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0)
    ⟨(i 2).val / 128, by have : (i 2).val < 512 := (i 2).isLt; omega⟩ (i 1) ⟨(i 2).val % 128, Nat.mod_lt _ (by decide)⟩

variable (m : (ℓ : Loc nD τ sig) → Buf (Elt Ideal) ℓ) (c : Dev nD)

/-- What a point stores at a row and a column. -/
theorem stored_at (t : Fin cfg0.N) (r : Fin 1024) (d : Fin 128) :
    ((outsAt0 m c t.val t.isLt).1 (ix3 0 r d) : EReal) =
      attend (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (bat t) (hea t) (row t r) d := by
  rw [stored m c t]
  refine whole_at _ _ _ _ _ r d (sco (m ((c.tc : Thread nD τ).loc main_arg0)) (m ((c.tc : Thread nD τ).loc main_arg1))
    (m ((c.tc : Thread nD τ).loc main_arg3)) (bat t) (hea t) (row t r))
    (val (m ((c.tc : Thread nD τ).loc main_arg2)) (m ((c.tc : Thread nD τ).loc main_arg4)) (bat t) (hea t) d) ?_ ?_ ?_ ?_ ?_ ?_
  · intro n hn j
    rw [score_at, sco_lat _ _ _ _ _ _ _ (by omega : 1024 * n + j.val < 8192)]
    refine Finset.sum_congr rfl fun e _ => ?_
    rw [blk0 m c t r e]
    refine congrArg (HMul.hMul (α := EReal) (β := EReal) (γ := EReal) _) ?_
    have hj : (⟨(1024 * n + j.val) % 8192, Nat.mod_lt _ (by decide)⟩ : Fin 8192) = ⟨1024 * n + j.val, by omega⟩ :=
      Fin.ext (Nat.mod_eq_of_lt (by omega))
    refine Eq.trans ?_ (blk1 m c t e ⟨1024 * n + j.val, by omega⟩)
    rw [← hj]
    rfl
  · intro j
    rw [scoreC_at, sco_ctx]
    refine Finset.sum_congr rfl fun e _ => ?_
    rw [blk0 m c t r e, blk3 m c t e j]
  · intro n hn j
    rw [val_lat _ _ _ _ _ _ (by omega : 1024 * n + j.val < 8192)]
    have hj : (⟨(1024 * n + j.val) % 8192, Nat.mod_lt _ (by decide)⟩ : Fin 8192) = ⟨1024 * n + j.val, by omega⟩ :=
      Fin.ext (Nat.mod_eq_of_lt (by omega))
    refine Eq.trans ?_ (blk2 m c t ⟨1024 * n + j.val, by omega⟩ d)
    rw [← hj]
    exact vext_val _ _ d
  · intro j
    rw [val_ctx]
    exact (vextC_val _ j d).trans (blk4 m c t j d)
  · intro n hn j
    exact vext_one _ _
  · intro j
    exact vextC_one _ j

/-- The array after the run. -/
theorem array : (dats m 0 c).arrAt 5 cfg0.N = result m c := by
  refine (dats m 0 c).arrAt_eq_of_covers 5 _ (by decide +kernel) fun t _ y => ?_
  blk_simp
  rw [after0_5]
  have hb := point_lt t
  have hy2 : (y 2).val < 128 := (y 2).isLt
  have hy : y = ix3 0 (y 1) (y 2) := by
    conv_lhs => rw [eq_ix3 y]
    congr 1
    exact Subsingleton.elim (α := Fin 1) _ _
  have e0 : ((win0_5.blk t).view.emb y 0).val = t.val / 32 := by
    rw [hy]; blk_simp [idx t]; exact Nat.add_zero _
  have e1 : ((win0_5.blk t).view.emb y 1).val = t.val % 8 * 1024 + (y 1).val := by
    rw [hy]; blk_simp [idx t]
  have e2 : ((win0_5.blk t).view.emb y 2).val = t.val / 8 % 4 * 128 + (y 2).val := by
    rw [hy]; blk_simp [idx t]
  refine (congrArg (outsAt0 m c t.val t.isLt).1 hy).trans ((stored_at m c t (y 1) (y 2)).trans ?_)
  have f0 : bat t = (win0_5.blk t).view.emb y 0 := Fin.ext e0.symm
  have f1 : row t (y 1) = (win0_5.blk t).view.emb y 1 := Fin.ext e1.symm
  have f2 : hea t = (⟨((win0_5.blk t).view.emb y 2).val / 128, by omega⟩ : Fin 4) := Fin.ext (by
    show t.val / 8 % 4 = ((win0_5.blk t).view.emb y 2).val / 128
    omega)
  have f3 : y 2 = (⟨((win0_5.blk t).view.emb y 2).val % 128, Nat.mod_lt _ (by decide)⟩ : Fin 128) := Fin.ext (by
    show (y 2).val = ((win0_5.blk t).view.emb y 2).val % 128
    omega)
  unfold result
  rw [← f0, ← f1, ← f2, ← f3]

end Cert.KernelIdeal.Attn

end
-- ==== Proof.RefValue.lean ====
module
public import proofs.«01_k».proof.Proof.AttnSpec
public import proofs.«01_k».proof.Proof.Gen.ReferenceIdeal.Read
public import Idealize.ShloMosaic.Lib.Pointwise

@[expose] public section

/-! # What the reference computes, one element at a time -/

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.AttnSpec

variable (q : Vec Ideal S8x4x8192x192 .bf16) (k : Vec Ideal S8x4x192x8192 .bf16) (v : Vec Ideal S8x4x8192x128 .bf16)
  (kc : Vec Ideal S8x4x192x256 .bf16) (vc : Vec Ideal S8x4x256x128 .bf16) (b : Fin 8) (h : Fin 4) (r : Fin 8192)

theorem minus_infinity : Ideal.ofBits .f32 0xFF800000#32 = (⊥ : EReal) := by simp [Ideal.ofBits, Ideal.ieee]

/-- The key at a place, and so the score there. -/
theorem keys_at (e : Fin 192) (n : Fin 8448) : (val_main_v6 (F := Ideal) k kc (ix4 b h e n) : EReal) =
    if hn : n.val < 256 then (kc (ix4 b h e ⟨n.val, hn⟩) : EReal) else k (ix4 b h e ⟨n.val - 256, by omega⟩) := by
  pointwise [val_main_v6, val_main_v4, val_main_v5]

theorem vals_at (d : Fin 128) (n : Fin 8448) : (val_main_v11 (F := Ideal) v vc (ix4 b h n d) : EReal) = val v vc b h d (place n) := by
  have e : (val_main_v11 (F := Ideal) v vc (ix4 b h n d) : EReal) =
      if hn : n.val < 256 then (vc (ix4 b h ⟨n.val, hn⟩ d) : EReal) else v (ix4 b h ⟨n.val - 256, by omega⟩ d) := by
    pointwise [val_main_v11, val_main_v9, val_main_v10]
  rw [e]
  unfold place
  by_cases hn : n.val < 256
  · rw [dif_pos hn, if_pos hn]
    exact (val_ctx v vc b h d ⟨n.val, hn⟩).symm
  · rw [dif_neg hn, if_neg hn]
    exact (val_lat v vc b h d (n.val - 256) (by omega)).symm

theorem scores_at (n : Fin 8448) : (val_main_v16 (F := Ideal) q k kc (ix4 b h r n) : EReal) = sco q k kc b h r (place n) := by
  have e : (val_main_v16 (F := Ideal) q k kc (ix4 b h r n) : EReal) =
      (∑ e : Fin 128, (q (ix4 b h r ⟨e.val, by omega⟩) : EReal) * val_main_v6 (F := Ideal) k kc (ix4 b h ⟨e.val, by omega⟩ n)) +
      ∑ e : Fin 64, (q (ix4 b h r ⟨128 + e.val, by omega⟩) : EReal) * val_main_v6 (F := Ideal) k kc (ix4 b h ⟨128 + e.val, by omega⟩ n) := by
    unfold val_main_v16 val_main_v15 val_main_v14 val_main_v13 val_main_v12 val_main_v8 val_main_v7
    generalize val_main_v6 (F := Ideal) k kc = y
    pointwise [val_main_v1, val_main_v0, val_main_v3, val_main_v2]
  have s := Fin.sum_univ_add (M := EReal) (a := 128) (b := 64) fun e : Fin 192 => (q (ix4 b h r e) : EReal) * val_main_v6 (F := Ideal) k kc (ix4 b h e n)
  rw [e]
  refine Eq.trans s.symm ?_
  unfold place
  by_cases hn : n.val < 256
  · rw [if_pos hn]
    refine Eq.trans ?_ (sco_ctx q k kc b h r ⟨n.val, hn⟩).symm
    refine Finset.sum_congr rfl fun e _ => ?_
    rw [keys_at k kc b h e n, dif_pos hn]
  · rw [if_neg hn]
    refine Eq.trans ?_ (sco_lat q k kc b h r (n.val - 256) (by omega)).symm
    refine Finset.sum_congr rfl fun e _ => ?_
    rw [keys_at k kc b h e n, dif_neg hn]

/-- A maximum along the last of four axes, at any sizes. -/
theorem fold_at {n0 n1 n2 n3 : ℕ} {u : Shape} (y : (⟨4, ![n0, n1, n2, n3]⟩ : Shape).Idx → EReal) (z : u.Idx → EReal)
    (h : (⟨4, ![n0, n1, n2, n3]⟩ : Shape).ReducesTo [3] ⟨3, ![n0, n1, n2]⟩) (hu : 0 < u.numel) (i0 : Fin n0) (i1 : Fin n1) (i2 : Fin n2) :
    Host.reduce (max : EReal → EReal → EReal) y z h hu (ix3 i0 i1 i2) =
      Finset.univ.fold max (z (Shape.Idx.first hu)) fun n : Fin n3 => y (ix4 i0 i1 i2 n) := by
  rw [Host.reduce_eq_fold, Shape.ReducesTo.fold_fiber_r4_a3]
  rfl

theorem maximumf_eq (a b : EReal) : (FloatOps.maximumf (F := Ideal) (φ := .f32) a b : EReal) = max a b := rfl

/-- The fold's start. -/
theorem c1 : (val_main_cst (F := Ideal) (Shape.Idx.first h_S_) : EReal) = ⊥ := by
  rw [val_main_cst_apply]
  exact minus_infinity

theorem c0 : (val_main_v18 (F := Ideal) (ix3 b h r) : EReal) = ⊥ := by
  rw [val_main_v18_apply, val_main_cst_0_apply]
  exact minus_infinity

theorem v19_at : (val_main_v19 (F := Ideal) q k kc (ix3 b h r) : EReal) =
      max (val_main_v18 (F := Ideal) (ix3 b h r) : EReal) (val_main_v17 (F := Ideal) q k kc (ix3 b h r) : EReal) :=
  (val_main_v19_apply q k kc (ix3 b h r)).trans (maximumf_eq _ _)

theorem v17_at : (val_main_v17 (F := Ideal) q k kc (ix3 b h r) : EReal) =
      Finset.univ.fold max (val_main_cst (F := Ideal) (Shape.Idx.first h_S_) : EReal)
        fun n : Fin 8448 => (val_main_v16 (F := Ideal) q k kc (ix4 b h r n) : EReal) := by
  unfold val_main_v17
  generalize val_main_v16 (F := Ideal) q k kc = y
  generalize val_main_cst (F := Ideal) = z
  exact fold_at (n3 := 8448) y z reducesTo_S8x4x8192x8448_S8x4x8192_d3 h_S_ b h r

/-- The largest score. -/
theorem top_at : (val_main_v19 (F := Ideal) q k kc (ix3 b h r) : EReal) = top q k kc b h r := by
  rw [v19_at, v17_at, c0, c1]
  simp only [scores_at]
  rw [sup_place, max_eq_right bot_le, top]

/-- A weight before it is divided. -/
theorem weight_at (n : Fin 8448) : (val_main_v23 (F := Ideal) q k kc (ix4 b h r n) : EReal) =
    Ideal.exp (sco q k kc b h r (place n) - top q k kc b h r) := by
  rw [← scores_at, ← top_at]
  unfold val_main_v23 val_main_v22 val_main_v21 val_main_v20
  generalize val_main_v16 (F := Ideal) q k kc = y
  generalize val_main_v19 (F := Ideal) q k kc = z
  pointwise

/-- A divided weight. -/
theorem share_at (n : Fin 8448) : (val_main_v29 (F := Ideal) q k kc (ix4 b h r n) : EReal) =
    Ideal.div (Ideal.exp (sco q k kc b h r (place n) - top q k kc b h r))
      (∑ n : Fin 8448, Ideal.exp (sco q k kc b h r (place n) - top q k kc b h r)) := by
  simp only [← weight_at]
  unfold val_main_v29 val_main_v28 val_main_v27 val_main_v26 val_main_v25 val_main_v24
  generalize val_main_v23 (F := Ideal) q k kc = y
  pointwise [val_main_cst_1]

/-- The result at a batch, a row, a head and a column. -/
theorem result_at (hq : ∀ i, ∃ x : ℝ, (q i : EReal) = x) (hk : ∀ i, ∃ x : ℝ, (k i : EReal) = x)
    (hkc : ∀ i, ∃ x : ℝ, (kc i : EReal) = x) (j : Fin 512) :
    (val_main_v33 (F := Ideal) q k v kc vc (ix3 b r j) : EReal) =
      attend q k v kc vc b ⟨j.val / 128, by omega⟩ r ⟨j.val % 128, Nat.mod_lt _ (by decide)⟩ := by
  have e : (val_main_v33 (F := Ideal) q k v kc vc (ix3 b r j) : EReal) =
      ∑ n : Fin 8448, (val_main_v11 (F := Ideal) v vc (ix4 b ⟨j.val / 128, by omega⟩ n ⟨j.val % 128, Nat.mod_lt _ (by decide)⟩) : EReal) *
        val_main_v29 (F := Ideal) q k kc (ix4 b ⟨j.val / 128, by omega⟩ r n) := by
    unfold val_main_v33 val_main_v32 val_main_v31 val_main_v30
    generalize val_main_v11 (F := Ideal) v vc = y
    generalize val_main_v29 (F := Ideal) q k kc = z
    pointwise
  rw [e, ← attend_eq q k v kc vc _ _ _ _ hq hk hkc]
  refine Finset.sum_congr rfl fun n _ => ?_
  rw [vals_at, share_at, mul_comm]

end Cert.ReferenceIdeal.Attn

end
-- ==== Proof.Finite.lean ====
module
public import proofs.«01_k».proof.Pre_finite_queries_keys
public import Idealize.ShloMosaic.PureOps
public import Idealize.ShloMosaic.Lib.Pointwise

@[expose] public section

/-! # The precondition: queries and keys that are real numbers -/

noncomputable section

namespace Cert.Finite

open Idealize.ShloMosaic Cert.Pre_finite_queries_keys

/-- The side conditions the predicate states. -/
theorem facts : Cert.Pre_finite_queries_keys.Facts where
  bitsLt_bf16_f32 := by decide
  bcast_S_S8x4x8192x192 := by decide
  bcast_S_S8x4x192x8192 := by decide
  bcast_S_S8x4x192x256 := by decide

theorem plus_infinity : Ideal.ofBits .f32 0x7F800000#32 = (⊤ : EReal) := by simp [Ideal.ofBits, Ideal.ieee]

/-- A number whose magnitude lies below +∞ is a real. -/
theorem real_of_lt (x : EReal) (h : max x (-x) < ⊤) : ∃ y : ℝ, x = y := by
  induction x with
  | bot => simp at h
  | top => simp at h
  | coe y => exact ⟨y, rfl⟩

/-- The comparison the predicate makes, at one element. -/
theorem real_of_cmp (x : EReal) (h : (Ideal.cmp .olt (max x (-x)) (Ideal.ofBits .f32 0x7F800000#32)) = 1#1) :
    ∃ y : ℝ, x = y := by
  rw [plus_infinity] at h
  refine real_of_lt x ?_
  by_contra hn
  simp [Ideal.cmp, hn] at h

variable [Cert.Pre_finite_queries_keys.Facts]
  (q : FVec Ideal S8x4x8192x192 .bf16) (k : FVec Ideal S8x4x192x8192 .bf16) (v : FVec Ideal S8x4x8192x128 .bf16)
  (kc : FVec Ideal S8x4x192x256 .bf16) (vc : FVec Ideal S8x4x256x128 .bf16)

theorem queries (h : (fn q k v kc vc).1 = fun _ => 1#1) (i : S8x4x8192x192.Idx) : ∃ x : ℝ, (q i : EReal) = x := by
  refine real_of_cmp _ ?_
  have := congrFun h i
  exact this

theorem keys (h : (fn q k v kc vc).2.1 = fun _ => 1#1) (i : S8x4x192x8192.Idx) : ∃ x : ℝ, (k i : EReal) = x := by
  refine real_of_cmp _ ?_
  have := congrFun h i
  exact this

theorem ctx_keys (h : (fn q k v kc vc).2.2 = fun _ => 1#1) (i : S8x4x192x256.Idx) : ∃ x : ℝ, (kc i : EReal) = x := by
  refine real_of_cmp _ ?_
  have := congrFun h i
  exact this

end Cert.Finite

end
-- ==== Proof.AttnClaim.lean ====
module
public import proofs.«01_k».proof.Defs
public import proofs.«01_k».proof.Proof.AttnArray
public import proofs.«01_k».proof.Proof.RefValue
public import proofs.«01_k».proof.Proof.Finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

/-! # The claims about the attention call -/

noncomputable section

namespace Cert.Attn

open Idealize.ShloMosaic Idealize.SL.Sem Cert.AttnSpec

/-- The reference ends with its arguments kept; it declares no semaphore. -/
theorem reference_kept : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

variable [hPre : Cert.Pre_finite_queries_keys.Facts]

/-- Equal results: both arrays hold, at every batch, row and column, the attention of `AttnSpec`. -/
theorem algebraic : Cert.algebraic_KernelIdeal_ReferenceIdeal_pre_finite_queries_keys := by
  intro m g m' g' hpre hagree
  refine ⟨fun c => Cert.KernelIdeal.Attn.result m c, ?_, ?_⟩
  · refine (θ_run Cert.KernelIdeal.defs _ _).mono (fun r h c => ⟨(h c).1.trans (Cert.KernelIdeal.Attn.array m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v33_eq m' c]
    obtain ⟨a0, a1, a2, a3, a4⟩ := hagree c
    obtain ⟨h1, h2, h3⟩ := hpre c
    rw [a0, a1, a2, a3, a4]
    funext i
    rw [eq_ix3 i]
    exact Cert.ReferenceIdeal.Attn.result_at _ _ _ _ _ (i 0) (i 1) (Cert.Finite.queries _ _ _ _ _ h1) (Cert.Finite.keys _ _ _ _ _ h2)
      (Cert.Finite.ctx_keys _ _ _ _ _ h3) (i 2)

end Cert.Attn

end
-- ==== Proof.TailSpec.lean ====
module
public import Idealize.ShloMosaic.PureOps
public import Idealize.ShloMosaic.Lib.Pointwise

@[expose] public section

/-! # One row of the even layer's tail, over the extended reals -/

noncomputable section

namespace Cert.TailSpec

open Idealize.ShloMosaic

/-- The norms' small constant, the two row lengths, and one. -/
def eps : EReal := Ideal.ofBits .f32 0x358637BD#32
def w128 : EReal := Ideal.ofBits .f32 0x43000000#32
def w1024 : EReal := Ideal.ofBits .f32 0x44800000#32

/-- The RMS norm of a row of length `w`. -/
def rms {n : ℕ} (w : EReal) (f g : Fin n → EReal) (i : Fin n) : EReal :=
  f i * Ideal.rsqrt (Ideal.div (∑ k, f k * f k) w + eps) * g i

/-- `x` times its sigmoid. -/
def silu (x : EReal) : EReal := Ideal.div x (1 + Ideal.exp (-x))

theorem one_bits : Ideal.ofBits .f32 0x3F800000#32 = (1 : EReal) := by
  have h : Ideal.ofBits .f32 0x3F800000#32 = (((8388608 : ℝ) * (2 ^ 23)⁻¹ : ℝ) : EReal) := by
    simp [Ideal.ofBits, Ideal.ieee]
  rw [h]; norm_num

theorem zero_bits : Ideal.ofBits .f32 0x00000000#32 = (0 : EReal) := by
  simp [Ideal.ofBits, Ideal.ieee]

theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

theorem den_ne (x : EReal) : 1 + Ideal.exp x ≠ 0 := by
  have h := exp_nonneg x
  have : (1 : EReal) ≤ 1 + Ideal.exp x := by simpa using add_le_add_right h 1
  exact (lt_of_lt_of_le zero_lt_one this).ne'

/-- The product with the reciprocal is the quotient. -/
theorem silu_mul (x : EReal) : x * Ideal.div 1 (1 + Ideal.exp (-x)) = silu x := by
  unfold silu Ideal.div
  rw [if_neg (den_ne _), if_neg (den_ne _), one_mul]

theorem silu_sub (x : EReal) : Ideal.div x (1 + Ideal.exp (0 - x)) = silu x := by
  rw [zero_sub]; rfl

/-- A place among the heads' columns. -/
def at128 (h : Fin 4) (d : Fin 128) : Fin 512 := ⟨128 * h.val + d.val, by omega⟩

section Row
variable (x : Fin 1024 → EReal) (p q s a : Fin 512 → EReal) (gn : Fin 128 → EReal) (wo : Fin 1024 → Fin 1024 → EReal)
  (gpost ga gpre sh sc : Fin 1024 → EReal) (w1 w3 : Fin 1024 → Fin 2816 → EReal) (w2 : Fin 2816 → Fin 1024 → EReal)
  (fpost gaf : Fin 1024 → EReal)

/-- The heads' normed and gated outputs. -/
def gated (j : Fin 512) : EReal :=
  rms w128 (fun d => p (at128 ⟨j.val / 128, by omega⟩ d) + q (at128 ⟨j.val / 128, by omega⟩ d)) gn ⟨j.val % 128, Nat.mod_lt _ (by decide)⟩ * silu (s j)

/-- The two mixers' outputs side by side. -/
def mixed (k : Fin 1024) : EReal :=
  if h : k.val < 512 then gated p q s gn ⟨k.val, h⟩ else a ⟨k.val - 512, by omega⟩

/-- The mixer's output projection. -/
def proj (c : Fin 1024) : EReal := ∑ k, mixed p q s a gn k * wo k c

/-- The stream after the mixer. -/
def mid (c : Fin 1024) : EReal := x c + ga c * rms w1024 (proj p q s a gn wo) gpost c

/-- What the channel mixer reads. -/
def chan (c : Fin 1024) : EReal :=
  rms w1024 (mid x p q s a gn wo gpost ga) gpre c * (1 + sc c) + sh c

/-- One hidden unit of the SwiGLU from its input row. -/
def unit (h : Fin 1024 → EReal) (k : Fin 2816) : EReal := silu (∑ c, h c * w1 c k) * ∑ c, h c * w3 c k

/-- The SwiGLU. -/
def glu (h : Fin 1024 → EReal) (c : Fin 1024) : EReal := ∑ k, unit w1 w3 h k * w2 k c

/-- The stream after the layer. -/
def tail (c : Fin 1024) : EReal :=
  mid x p q s a gn wo gpost ga c +
    gaf c * rms w1024 (glu w1 w3 w2 (chan x p q s a gn wo gpost ga gpre sh sc)) fpost c

end Row

/-- A sum over the places of one half and of the other. -/
theorem sum_halves (m n : ℕ) (f : Fin (m + n) → EReal) :
    ∑ k, f k = (∑ k : Fin m, f ⟨k.val, by omega⟩) + ∑ k : Fin n, f ⟨m + k.val, by omega⟩ := by
  rw [Fin.sum_univ_add]; rfl

end Cert.TailSpec

end
-- ==== Proof.TailRow.lean ====
module
public import proofs.«01_k».proof.Proof.TailSpec
public import proofs.«01_k».proof.Proof.Gen.Kernel2Ideal.Skeleton

@[expose] public section

/-! # The tail's block, one row at a time -/

set_option maxRecDepth 16384

noncomputable section

namespace Cert.Kernel2Ideal.Tail

open Cert.Kernel2Ideal Cert.Kernel2Ideal.Gen Idealize.ShloMosaic Idealize.ShloMosaic.TcCoe Idealize.SL.Sem
open Cert.TailSpec

theorem sum_at (p q : Vec Ideal S1x512x512 .f32) (r j : Fin 512) :
    (k0_pay2 p q (ix2 r j) : EReal) = (p (ix3 0 r j) : EReal) + q (ix3 0 r j) := by
  pointwise [k0_pay2]

theorem head0_at (p q : Vec Ideal S1x512x512 .f32) (g : Vec Ideal S1x128 .f32) (r : Fin 512) (d : Fin 128) :
    (k0_pay3 p q g (ix2 r d) : EReal) =
      rms w128 (fun k => (k0_pay2 p q (ix2 r (at128 0 k)) : EReal)) (fun k => g (ix2 0 k)) d := by
  unfold k0_pay3
  generalize k0_pay2 p q = y
  pointwise [rms, w128, eps, at128]

theorem head1_at (p q : Vec Ideal S1x512x512 .f32) (g : Vec Ideal S1x128 .f32) (r : Fin 512) (d : Fin 128) :
    (k0_pay4 p q g (ix2 r d) : EReal) =
      rms w128 (fun k => (k0_pay2 p q (ix2 r (at128 1 k)) : EReal)) (fun k => g (ix2 0 k)) d := by
  unfold k0_pay4
  generalize k0_pay2 p q = y
  pointwise [rms, w128, eps, at128]

/-- The third head's norm, whose squares come ready. -/
def head2 (y : FVec Ideal S512x128 .f32) (g : FVec Ideal S1x128 .f32) (s : FVec Ideal S512x128 .f32) : FVec Ideal S512x128 .f32 :=
  mulf (mulf y (broadcastTo S512x128
    (rsqrt (addf (divf (shapeCast S512x1
      (multiReduction .add [1] S512 s 0x00000000#32 reduces_S512x128_S512 (.inl rfl) rfl) shapeCasts_S512_S512x1)
      (broadcast S512x1 (Scalar.ofBits .f32 0x43000000#32)))
      (broadcast S512x1 (Scalar.ofBits .f32 0x358637BD#32)))) broadcasts_S512x1_S512x128))
    (broadcastTo S512x128 g broadcasts_S1x128_S512x128)

/-- The fourth head's columns. -/
def cols3 (y : FVec Ideal S512x512 .f32) : FVec Ideal S512x128 .f32 :=
  extractStridedSlice S512x128 ![0, 384] y slices_S512x512_o0_384_S512x128

/-- The heads beside each other, gated. -/
def gate (a b c d : FVec Ideal S512x128 .f32) (s : Vec Ideal S1x512x512 .f32) : FVec Ideal S512x512 .bf16 :=
  have v67 : FVec Ideal S512x512 .f32 := shapeCast S512x512 s shapeCasts_S1x512x512_S512x512
  truncf .bf16 (mulf
    (concatenate S512x512 1 [⟨S512x128, a⟩, ⟨S512x128, b⟩, ⟨S512x128, c⟩, ⟨S512x128, d⟩]
      concatenates_S512x128_S512x128_S512x128_S512x128_S512x512_d1)
    (divf v67 (addf (broadcast S512x512 (Scalar.ofBits .f32 0x3F800000#32))
      (exp (subf (broadcast S512x512 (Scalar.ofBits .f32 0x00000000#32)) v67))))) bitsLt_bf16_f32

/-- The first half of the output projection. -/
def half (f : FVec Ideal S512x512 .bf16) (w : Vec Ideal S512x1024 .bf16) : FVec Ideal S512x1024 .f32 :=
  matmul dot_S512x512_S512x1024_S512x1024_1_0_0_1_n_n none f
    (shapeCast S512x1024 w shapeCasts_S512x1024_S512x1024 : FVec Ideal S512x1024 .bf16) (constant S512x1024 .f32 0x00000000#32)

theorem pay8_eq (y a b c : _) (g : _) (s : _) (g' : Vec Ideal S1x128 .f32) (gr : Vec Ideal S1x512x512 .f32)
    (w : Vec Ideal S512x1024 .bf16) :
    k0_pay8 (F := Ideal) y a b c g s g' gr w =
      half (gate a b (head2 c g s)
        (head2 (cols3 y) (shapeCast S1x128 g' shapeCasts_S1x128_S1x128) (mulf (cols3 y) (cols3 y))) gr) w := rfl

theorem head2_at (y s : FVec Ideal S512x128 .f32) (g : FVec Ideal S1x128 .f32) (r : Fin 512) (d : Fin 128)
    (h : ∀ k, (s (ix2 r k) : EReal) = (y (ix2 r k) : EReal) * y (ix2 r k)) :
    (head2 y g s (ix2 r d) : EReal) = rms w128 (fun k => (y (ix2 r k) : EReal)) (fun k => g (ix2 0 k)) d := by
  unfold rms
  simp only [← h]
  pointwise [head2, w128, eps]

theorem cols2_at (p q : Vec Ideal S1x512x512 .f32) (r : Fin 512) (d : Fin 128) :
    (k0_pay5 p q (ix2 r d) : EReal) = (k0_pay2 p q (ix2 r (at128 2 d)) : EReal) := by
  unfold k0_pay5
  generalize k0_pay2 p q = y
  pointwise [at128]

theorem cols3_at (y : FVec Ideal S512x512 .f32) (r : Fin 512) (d : Fin 128) :
    (cols3 y (ix2 r d) : EReal) = (y (ix2 r (at128 3 d)) : EReal) := by
  pointwise [cols3, at128]

theorem gate_at (a b c d : FVec Ideal S512x128 .f32) (s : Vec Ideal S1x512x512 .f32) (r j : Fin 512) :
    (gate a b c d s (ix2 r j) : EReal) =
      (if h0 : j.val < 128 then (a (ix2 r ⟨j.val, h0⟩) : EReal)
       else if h1 : j.val - 128 < 128 then (b (ix2 r ⟨j.val - 128, h1⟩) : EReal)
       else if h2 : j.val - 128 - 128 < 128 then (c (ix2 r ⟨j.val - 128 - 128, h2⟩) : EReal)
       else (d (ix2 r ⟨j.val - 128 - 128 - 128, by omega⟩) : EReal)) * silu (s (ix3 0 r j)) := by
  rw [← silu_sub, ← one_bits, ← zero_bits]
  pointwise [gate]

theorem half_at (f : FVec Ideal S512x512 .bf16) (w : Vec Ideal S512x1024 .bf16) (r : Fin 512) (c : Fin 1024) :
    (half f w (ix2 r c) : EReal) = ∑ k : Fin 512, (f (ix2 r k) : EReal) * w (ix2 k c) := by
  pointwise [half]

/-- The second half added to the first. -/
theorem both_at (v : FVec Ideal S512x1024 .f32) (a : Vec Ideal S1x512x512 .bf16) (w : Vec Ideal S512x1024 .bf16)
    (x : Vec Ideal S1x512x1024 .f32) (ga : Vec Ideal S1x1x1024 .f32) (gp : Vec Ideal S1x1024 .f32)
    (r : Fin 512) (c : Fin 1024) :
    (k0_pay10 v (k0_pay9 a) w x ga gp (ix2 r c) : EReal) =
      (x (ix3 0 r c) : EReal) + (ga (ix3 0 0 c) : EReal) *
        rms w1024 (fun c => (v (ix2 r c) : EReal) + ∑ k : Fin 512, (a (ix3 0 r k) : EReal) * w (ix2 k c))
          (fun c => gp (ix2 0 c)) c := by
  pointwise [k0_pay10, k0_pay9, rms, w1024, eps]

theorem chan_at (v : FVec Ideal S512x1024 .f32) (a : FVec Ideal S512x512 .bf16) (w : Vec Ideal S512x1024 .bf16)
    (x : Vec Ideal S1x512x1024 .f32) (ga : Vec Ideal S1x1x1024 .f32) (gp g : Vec Ideal S1x1024 .f32)
    (sc sh : Vec Ideal S1x1x1024 .f32) (r : Fin 512) (c : Fin 1024) :
    (k0_pay12 (k0_pay11 v a w x ga gp g) sc sh (ix2 r c) : EReal) =
      rms w1024 (fun c => (k0_pay10 v a w x ga gp (ix2 r c) : EReal)) (fun c => g (ix2 0 c)) c *
        (1 + (sc (ix3 0 0 c) : EReal)) + sh (ix3 0 0 c) := by
  rw [← one_bits]
  unfold k0_pay11
  generalize k0_pay10 v a w x ga gp = y
  pointwise [k0_pay12, rms, w1024, eps]

/-- The hidden units of the first columns, through the second product. -/
theorem glu0_at (n : FVec Ideal S512x1024 .f32) (sc sh : Vec Ideal S1x1x1024 .f32) (w1 w3 : Vec Ideal S1024x1536 .bf16)
    (w2 : Vec Ideal S1536x1024 .bf16) (r : Fin 512) (c : Fin 1024) :
    (k0_pay13 n sc sh w1 w3 w2 (ix2 r c) : EReal) =
      ∑ k : Fin 1536, (silu (∑ c, (k0_pay12 n sc sh (ix2 r c) : EReal) * w1 (ix2 c k)) *
        ∑ c, (k0_pay12 n sc sh (ix2 r c) : EReal) * w3 (ix2 c k)) * w2 (ix2 k c) := by
  simp only [← silu_sub]
  unfold k0_pay13
  generalize k0_pay12 n sc sh = h
  rw [← one_bits, ← zero_bits]
  pointwise

theorem act1_at (n : FVec Ideal S512x1024 .f32) (sc sh : Vec Ideal S1x1x1024 .f32) (w1 : Vec Ideal S1024x1280 .bf16)
    (r : Fin 512) (k : Fin 1280) :
    (k0_pay14 n sc sh w1 (ix2 r k) : EReal) = silu (∑ c, (k0_pay12 n sc sh (ix2 r c) : EReal) * w1 (ix2 c k)) := by
  simp only [← silu_sub]
  unfold k0_pay14
  generalize k0_pay12 n sc sh = h
  rw [← one_bits, ← zero_bits]
  pointwise

theorem out_at (y : FVec Ideal S512x1024 .f32) (h : FVec Ideal S512x1024 .bf16) (z : FVec Ideal S512x1024 .f32)
    (u : FVec Ideal S512x1280 .f32) (w3 : Vec Ideal S1024x1280 .bf16) (w2 : Vec Ideal S1280x1024 .bf16)
    (gaf : Vec Ideal S1x1x1024 .f32) (gp : Vec Ideal S1x1024 .f32) (r : Fin 512) (c : Fin 1024) :
    (k0_pay1 y h z u w3 w2 gaf gp (ix3 0 r c) : EReal) =
      (y (ix2 r c) : EReal) + (gaf (ix3 0 0 c) : EReal) *
        rms w1024 (fun c => (z (ix2 r c) : EReal) + ∑ k : Fin 1280, ((u (ix2 r k) : EReal) *
          ∑ c, (h (ix2 r c) : EReal) * w3 (ix2 c k)) * w2 (ix2 k c)) (fun c => gp (ix2 0 c)) c := by
  pointwise [k0_pay1, rms, w1024, eps]

end Cert.Kernel2Ideal.Tail

end
-- ==== Proof.TailBlock.lean ====
module
public import proofs.«01_k».proof.Proof.TailRow
public import proofs.«01_k».proof.Proof.Gen.Kernel2Ideal.Frame
public import Idealize.ShloMosaic.Lib.Pipeline.ValueKit.Basic

@[expose] public section

/-! # What one block of the tail computes -/

set_option maxRecDepth 16384

noncomputable section

namespace Cert.Kernel2Ideal.Tail

open Cert.Kernel2Ideal Cert.Kernel2Ideal.Gen Idealize.ShloMosaic Idealize.ShloMosaic.TcCoe Idealize.SL.Sem
open Cert.TailSpec

theorem gated_head (p q s : Fin 512 → EReal) (g : Fin 128 → EReal) (h : Fin 4) (j : Fin 512) (d : Fin 128) (e : j = at128 h d) :
    gated p q s g j = rms w128 (fun d => p (at128 h d) + q (at128 h d)) g d * silu (s j) := by
  have hj : j.val = 128 * h.val + d.val := congrArg Fin.val e
  have e1 : (⟨j.val / 128, by omega⟩ : Fin 4) = h := Fin.ext (by show j.val / 128 = h.val; omega)
  have e2 : (⟨j.val % 128, Nat.mod_lt _ (by decide)⟩ : Fin 128) = d := Fin.ext (by show j.val % 128 = d.val; omega)
  unfold gated
  rw [e1, e2]

/-- The gated heads of a row. -/
theorem heads_at (p q s : Vec Ideal S1x512x512 .f32) (g : Vec Ideal S1x128 .f32) (r j : Fin 512) :
    (gate (k0_pay3 p q g) (k0_pay4 p q g) (head2 (k0_pay5 p q) (k0_pay6 g) (k0_pay7 p q))
        (head2 (cols3 (k0_pay2 p q)) (shapeCast S1x128 g shapeCasts_S1x128_S1x128)
          (mulf (cols3 (k0_pay2 p q)) (cols3 (k0_pay2 p q)))) s (ix2 r j) : EReal) =
      gated (fun j => p (ix3 0 r j)) (fun j => q (ix3 0 r j)) (fun j => s (ix3 0 r j)) (fun d => g (ix2 0 d)) j := by
  have hj := j.isLt
  rw [gate_at]
  by_cases h0 : j.val < 128
  · rw [dif_pos h0, gated_head _ _ _ _ 0 j ⟨j.val, h0⟩ (Fin.ext (by show j.val = 128 * 0 + j.val; omega)), head0_at]
    simp only [sum_at]
  rw [dif_neg h0]
  by_cases h1 : j.val - 128 < 128
  · rw [dif_pos h1, gated_head _ _ _ _ 1 j ⟨j.val - 128, h1⟩ (Fin.ext (by show j.val = 128 * 1 + (j.val - 128); omega)), head1_at]
    simp only [sum_at]
  rw [dif_neg h1]
  by_cases h2 : j.val - 128 - 128 < 128
  · rw [dif_pos h2, gated_head _ _ _ _ 2 j ⟨j.val - 128 - 128, h2⟩ (Fin.ext (by show j.val = 128 * 2 + (j.val - 128 - 128); omega)),
      head2_at _ _ _ _ _ (fun k => rfl)]
    simp only [cols2_at, sum_at, show ∀ k, k0_pay6 g (ix2 0 k) = g (ix2 0 k) from fun k => by pointwise [k0_pay6]]
  · rw [dif_neg h2, gated_head _ _ _ _ 3 j ⟨j.val - 128 - 128 - 128, by omega⟩
      (Fin.ext (by show j.val = 128 * 3 + (j.val - 128 - 128 - 128); omega)), head2_at _ _ _ _ _ (fun k => rfl)]
    simp only [cols3_at, sum_at, show ∀ k, (shapeCast S1x128 g shapeCasts_S1x128_S1x128 : Vec Ideal S1x128 .f32) (ix2 0 k) = g (ix2 0 k) from
      fun k => by pointwise]

/-- The first and the last hidden units' columns. -/
def cols0 (X : Vec Ideal S1024x2816 .bf16) : Vec Ideal S1024x1536 .bf16 := fun j =>
  X (ix2 (j 0) ⟨(j 1).val, by have : (j 1).val < 1536 := (j 1).isLt; omega⟩)
def cols1 (X : Vec Ideal S1024x2816 .bf16) : Vec Ideal S1024x1280 .bf16 := fun j =>
  X (ix2 (j 0) ⟨1536 + (j 1).val, by have : (j 1).val < 1280 := (j 1).isLt; omega⟩)
/-- The first and the last hidden units' rows. -/
def rows0 (X : Vec Ideal S2816x1024 .bf16) : Vec Ideal S1536x1024 .bf16 := fun j =>
  X (ix2 ⟨(j 0).val, by have : (j 0).val < 1536 := (j 0).isLt; omega⟩ (j 1))
def rows1 (X : Vec Ideal S2816x1024 .bf16) : Vec Ideal S1280x1024 .bf16 := fun j =>
  X (ix2 ⟨1536 + (j 0).val, by have : (j 0).val < 1280 := (j 0).isLt; omega⟩ (j 1))

theorem ld_w0 (X : Vec Ideal S1024x2816 .bf16) : View.ld X r0_6 = cols0 X := by
  funext j
  refine congrArg X (funext fun a => Fin.ext ?_)
  match a with
  | ⟨0, _⟩ => show 0 + 1 * (j 0).val = (j 0).val; omega
  | ⟨1, _⟩ => show 0 + 1 * (j 1).val = (j 1).val; omega
theorem ld_w1 (X : Vec Ideal S1024x2816 .bf16) : View.ld X r0_8 = cols1 X := by
  funext j
  refine congrArg X (funext fun a => Fin.ext ?_)
  match a with
  | ⟨0, _⟩ => show 0 + 1 * (j 0).val = (j 0).val; omega
  | ⟨1, _⟩ => show 1536 + 1 * (j 1).val = 1536 + (j 1).val; omega
theorem ld_v0 (X : Vec Ideal S2816x1024 .bf16) : View.ld X r0_7 = rows0 X := by
  funext j
  refine congrArg X (funext fun a => Fin.ext ?_)
  match a with
  | ⟨0, _⟩ => show 0 + 1 * (j 0).val = (j 0).val; omega
  | ⟨1, _⟩ => show 0 + 1 * (j 1).val = (j 1).val; omega
theorem ld_v1 (X : Vec Ideal S2816x1024 .bf16) : View.ld X r0_9 = rows1 X := by
  funext j
  refine congrArg X (funext fun a => Fin.ext ?_)
  match a with
  | ⟨0, _⟩ => show 1536 + 1 * (j 0).val = 1536 + (j 0).val; omega
  | ⟨1, _⟩ => show 0 + 1 * (j 1).val = (j 1).val; omega

/-! A whole block loaded or stored. -/

theorem ld_0 {e : EltTy} (X : Vec Ideal S1x512x512 e) : View.ld X r0_0 = X := View.ld_unit_lit _ X (by decide)
theorem ld_1 {e : EltTy} (X : Vec Ideal S1x128 e) : View.ld X r0_1 = X := View.ld_unit_lit _ X (by decide)
theorem ld_2 {e : EltTy} (X : Vec Ideal S512x1024 e) : View.ld X r0_2 = X := View.ld_unit_lit _ X (by decide)
theorem ld_3 {e : EltTy} (X : Vec Ideal S1x512x1024 e) : View.ld X r0_3 = X := View.ld_unit_lit _ X (by decide)
theorem ld_4 {e : EltTy} (X : Vec Ideal S1x1x1024 e) : View.ld X r0_4 = X := View.ld_unit_lit _ X (by decide)
theorem ld_5 {e : EltTy} (X : Vec Ideal S1x1024 e) : View.ld X r0_5 = X := View.ld_unit_lit _ X (by decide)
theorem canon_whole (w : Vec Ideal S1x512x1024 .f32) : View.canon (Val := Elt Ideal) [⟨r0_3, w⟩] = w := View.canon_cons_unit_lit _ w [] (by decide)

section Block
variable (x0 : Vec Ideal S1x512x1024 .f32) (x1 x2 x3 : Vec Ideal S1x512x512 .f32) (x4 : Vec Ideal S1x512x512 .bf16)
  (x5 : Vec Ideal S1x128 .f32) (x6 x7 : Vec Ideal S512x1024 .bf16) (x8 : Vec Ideal S1x1024 .f32) (x9 : Vec Ideal S1x1x1024 .f32)
  (x10 : Vec Ideal S1x1024 .f32) (x11 x12 : Vec Ideal S1x1x1024 .f32) (x13 x14 : Vec Ideal S1024x2816 .bf16)
  (x15 : Vec Ideal S2816x1024 .bf16) (x16 : Vec Ideal S1x1024 .f32) (x17 : Vec Ideal S1x1x1024 .f32)

/-- The first half of the projection in a block. -/
def first : FVec Ideal S512x1024 .f32 :=
  k0_pay8 (k0_pay2 x1 x2) (k0_pay3 x1 x2 x5) (k0_pay4 x1 x2 x5) (k0_pay5 x1 x2) (k0_pay6 x5) (k0_pay7 x1 x2) x5 x3 x6

/-- The stream after the mixer, in a block. -/
def stream : FVec Ideal S512x1024 .f32 := k0_pay10 (first x1 x2 x3 x5 x6) (k0_pay9 x4) x7 x0 x9 x8

/-- Its norm. -/
def normed : FVec Ideal S512x1024 .f32 := k0_pay11 (first x1 x2 x3 x5 x6) (k0_pay9 x4) x7 x0 x9 x8 x10

theorem out_eq : out0_18 x0 x1 x2 x3 x4 x5 x6 x7 x8 x9 x10 x11 x12 x13 x14 x15 x16 x17 =
    k0_pay1 (stream x0 x1 x2 x3 x4 x5 x6 x7 x8 x9) (k0_pay12 (normed x0 x1 x2 x3 x4 x5 x6 x7 x8 x9 x10) x12 x11)
      (k0_pay13 (normed x0 x1 x2 x3 x4 x5 x6 x7 x8 x9 x10) x12 x11 (cols0 x13) (cols0 x14) (rows0 x15))
      (k0_pay14 (normed x0 x1 x2 x3 x4 x5 x6 x7 x8 x9 x10) x12 x11 (cols1 x13)) (cols1 x14) (rows1 x15) x17 x16 := by
  unfold_out out0_18
  rw [canon_whole]
  simp only [ld_0, ld_1, ld_2, ld_3, ld_4, ld_5, ld_w0, ld_w1, ld_v0, ld_v1]
  rfl

theorem first_at (r : Fin 512) (c : Fin 1024) : (first x1 x2 x3 x5 x6 (ix2 r c) : EReal) =
    ∑ k : Fin 512, gated (fun j => x1 (ix3 0 r j)) (fun j => x2 (ix3 0 r j)) (fun j => x3 (ix3 0 r j)) (fun d => x5 (ix2 0 d)) k *
      x6 (ix2 k c) := by
  unfold first
  rw [pay8_eq, half_at]
  simp only [heads_at]

theorem lo (k : Fin 512) : k.val < 1024 := by omega
theorem hi (k : Fin 512) : 512 + k.val < 1024 := by omega

variable (wo : Fin 1024 → Fin 1024 → EReal) (h6 : ∀ (k : Fin 512) c, wo ⟨k.val, lo k⟩ c = x6 (ix2 k c))
  (h7 : ∀ (k : Fin 512) c, wo ⟨512 + k.val, hi k⟩ c = x7 (ix2 k c))

include h6 h7 in
theorem proj_at (r : Fin 512) (c : Fin 1024) :
    (first x1 x2 x3 x5 x6 (ix2 r c) : EReal) + ∑ k : Fin 512, (x4 (ix3 0 r k) : EReal) * x7 (ix2 k c) =
      proj (fun j => x1 (ix3 0 r j)) (fun j => x2 (ix3 0 r j)) (fun j => x3 (ix3 0 r j)) (fun j => x4 (ix3 0 r j))
        (fun d => x5 (ix2 0 d)) wo c := by
  unfold proj
  rw [first_at, sum_halves 512 512]
  congr 1
  · refine Finset.sum_congr rfl fun k _ => ?_
    rw [h6 k c]
    unfold mixed
    rw [dif_pos k.isLt]
  · refine Finset.sum_congr rfl fun k _ => ?_
    rw [h7 k c]
    unfold mixed
    rw [dif_neg (by show ¬ 512 + k.val < 512; omega)]
    congr 4
    exact Fin.ext (by show k.val = 512 + k.val - 512; omega)

include h6 h7 in
theorem stream_at (r : Fin 512) (c : Fin 1024) : (stream x0 x1 x2 x3 x4 x5 x6 x7 x8 x9 (ix2 r c) : EReal) =
    mid (fun c => x0 (ix3 0 r c)) (fun j => x1 (ix3 0 r j)) (fun j => x2 (ix3 0 r j)) (fun j => x3 (ix3 0 r j))
      (fun j => x4 (ix3 0 r j)) (fun d => x5 (ix2 0 d)) wo (fun c => x8 (ix2 0 c)) (fun c => x9 (ix3 0 0 c)) c := by
  unfold stream mid
  rw [both_at]
  simp only [proj_at x1 x2 x3 x4 x5 x6 x7 wo h6 h7]

include h6 h7 in
theorem chan_row (r : Fin 512) (c : Fin 1024) :
    (k0_pay12 (normed x0 x1 x2 x3 x4 x5 x6 x7 x8 x9 x10) x12 x11 (ix2 r c) : EReal) =
      chan (fun c => x0 (ix3 0 r c)) (fun j => x1 (ix3 0 r j)) (fun j => x2 (ix3 0 r j)) (fun j => x3 (ix3 0 r j))
        (fun j => x4 (ix3 0 r j)) (fun d => x5 (ix2 0 d)) wo (fun c => x8 (ix2 0 c)) (fun c => x9 (ix3 0 0 c))
        (fun c => x10 (ix2 0 c)) (fun c => x11 (ix3 0 0 c)) (fun c => x12 (ix3 0 0 c)) c := by
  unfold normed chan
  rw [chan_at]
  have h := fun c => stream_at x0 x1 x2 x3 x4 x5 x6 x7 x8 x9 wo h6 h7 r c
  unfold stream at h
  simp only [h]

include h6 h7 in
/-- The block's row is the tail of its row of inputs. -/
theorem block_at (r : Fin 512) (c : Fin 1024) :
    (out0_18 x0 x1 x2 x3 x4 x5 x6 x7 x8 x9 x10 x11 x12 x13 x14 x15 x16 x17 (ix3 0 r c) : EReal) =
      tail (fun c => x0 (ix3 0 r c)) (fun j => x1 (ix3 0 r j)) (fun j => x2 (ix3 0 r j)) (fun j => x3 (ix3 0 r j))
        (fun j => x4 (ix3 0 r j)) (fun d => x5 (ix2 0 d)) wo (fun c => x8 (ix2 0 c)) (fun c => x9 (ix3 0 0 c))
        (fun c => x10 (ix2 0 c)) (fun c => x11 (ix3 0 0 c)) (fun c => x12 (ix3 0 0 c)) (fun c k => x13 (ix2 c k))
        (fun c k => x14 (ix2 c k)) (fun k c => x15 (ix2 k c)) (fun c => x16 (ix2 0 c)) (fun c => x17 (ix3 0 0 c)) c := by
  rw [out_eq, out_at]
  unfold tail
  have hz : ∀ z, (k0_pay13 (normed x0 x1 x2 x3 x4 x5 x6 x7 x8 x9 x10) x12 x11 (cols0 x13) (cols0 x14) (rows0 x15) (ix2 r z) : EReal) +
      (∑ k : Fin 1280, ((k0_pay14 (normed x0 x1 x2 x3 x4 x5 x6 x7 x8 x9 x10) x12 x11 (cols1 x13) (ix2 r k) : EReal) *
          ∑ c, (k0_pay12 (normed x0 x1 x2 x3 x4 x5 x6 x7 x8 x9 x10) x12 x11 (ix2 r c) : EReal) * cols1 x14 (ix2 c k)) *
            rows1 x15 (ix2 k z)) =
      glu (fun c k => x13 (ix2 c k)) (fun c k => x14 (ix2 c k)) (fun k c => x15 (ix2 k c))
        (chan (fun c => x0 (ix3 0 r c)) (fun j => x1 (ix3 0 r j)) (fun j => x2 (ix3 0 r j)) (fun j => x3 (ix3 0 r j))
          (fun j => x4 (ix3 0 r j)) (fun d => x5 (ix2 0 d)) wo (fun c => x8 (ix2 0 c)) (fun c => x9 (ix3 0 0 c))
          (fun c => x10 (ix2 0 c)) (fun c => x11 (ix3 0 0 c)) (fun c => x12 (ix3 0 0 c))) z := by
    intro z
    unfold glu
    rw [sum_halves 1536 1280]
    congr 1
    · rw [glu0_at]
      simp only [chan_row x0 x1 x2 x3 x4 x5 x6 x7 x8 x9 x10 x11 x12 wo h6 h7]
      rfl
    · simp only [act1_at, chan_row x0 x1 x2 x3 x4 x5 x6 x7 x8 x9 x10 x11 x12 wo h6 h7]
      rfl
  simp only [hz, stream_at x0 x1 x2 x3 x4 x5 x6 x7 x8 x9 wo h6 h7]

end Block

end Cert.Kernel2Ideal.Tail

end
-- ==== Proof.TailArray.lean ====
module
public import proofs.«01_k».proof.Proof.TailBlock
public import proofs.«01_k».proof.Proof.Gen.Kernel2Ideal.Value
public import Idealize.ShloMosaic.Lib.Pipeline.ValueKit
public import Idealize.ShloMosaic.Lib.StableHlo.Run

@[expose] public section

/-! # The whole array the tail leaves -/

set_option maxRecDepth 16384

noncomputable section

namespace Cert.Kernel2Ideal.Tail

open Cert.Kernel2Ideal Cert.Kernel2Ideal.Gen Idealize.ShloMosaic Idealize.ShloMosaic.TcCoe Idealize.SL.Sem
open Idealize.ShloMosaic.Pipeline (Dat)
open Cert.TailSpec

/-- Where each block lies: batch, and row block. -/
theorem idx : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 0]
    ∧ win0_5.index t = ![0, 0]
    ∧ win0_6.index t = ![0, 0]
    ∧ win0_7.index t = ![0, 0]
    ∧ win0_8.index t = ![0, 0]
    ∧ win0_9.index t = ![t.val / 16, 0, 0]
    ∧ win0_10.index t = ![0, 0]
    ∧ win0_11.index t = ![t.val / 16, 0, 0]
    ∧ win0_12.index t = ![t.val / 16, 0, 0]
    ∧ win0_13.index t = ![0, 0]
    ∧ win0_14.index t = ![0, 0]
    ∧ win0_15.index t = ![0, 0]
    ∧ win0_16.index t = ![0, 0]
    ∧ win0_17.index t = ![t.val / 16, 0, 0]
    ∧ win0_18.index t = ![t.val / 16, t.val % 16, 0] :=
  (by decide +kernel : ∀ t : Fin grid0.N, _)

theorem point_lt (t : Fin cfg0.N) : t.val < 128 := lt_of_lt_of_eq t.isLt N_0

/-- A point's batch. -/
def bat (t : Fin cfg0.N) : Fin 8 := ⟨t.val / 16, by have := point_lt t; omega⟩
/-- A row of a point's block in the array. -/
def row (t : Fin cfg0.N) (r : Fin 512) : Fin 8192 := ⟨t.val % 16 * 512 + r.val, by omega⟩

variable (m : (ℓ : Loc nD τ sig) → Buf (Elt Ideal) ℓ) (c : Dev nD)

/-! What the host prepares. -/

theorem V_v1 : V m c main_v1 = truncf .bf16 (extractStridedSlice S512x1024 ![0, 0] (m ((c.tc : Thread nD τ).loc main_arg6)) slices_S1024x1024_S512x1024_0_0 : FVec Ideal S512x1024 .f32) bitsLt_bf16_f32 := by
  unfold V
  after_results_simp <;> rfl
theorem V_v3 : V m c main_v3 = truncf .bf16 (extractStridedSlice S512x1024 ![512, 0] (m ((c.tc : Thread nD τ).loc main_arg6)) slices_S1024x1024_S512x1024_512_0 : FVec Ideal S512x1024 .f32) bitsLt_bf16_f32 := by
  unfold V
  after_results_simp <;> rfl
theorem V_v4 : V m c main_v4 = broadcastInDim S1x128 ![1] bcast_S128_S1x128_1 (m ((c.tc : Thread nD τ).loc main_arg5)) := by
  unfold V
  after_results_simp <;> rfl
theorem V_v5 : V m c main_v5 = broadcastInDim S1x1024 ![1] bcast_S1024_S1x1024_1 (m ((c.tc : Thread nD τ).loc main_arg7)) := by
  unfold V
  after_results_simp <;> rfl
theorem V_v6 : V m c main_v6 = broadcastInDim S8x1x1024 ![0, 2] bcast_S8x1024_S8x1x1024_0_2 (m ((c.tc : Thread nD τ).loc main_arg8)) := by
  unfold V
  after_results_simp <;> rfl
theorem V_v7 : V m c main_v7 = broadcastInDim S1x1024 ![1] bcast_S1024_S1x1024_1 (m ((c.tc : Thread nD τ).loc main_arg9)) := by
  unfold V
  after_results_simp <;> rfl
theorem V_v8 : V m c main_v8 = broadcastInDim S8x1x1024 ![0, 2] bcast_S8x1024_S8x1x1024_0_2 (m ((c.tc : Thread nD τ).loc main_arg10)) := by
  unfold V
  after_results_simp <;> rfl
theorem V_v9 : V m c main_v9 = broadcastInDim S8x1x1024 ![0, 2] bcast_S8x1024_S8x1x1024_0_2 (m ((c.tc : Thread nD τ).loc main_arg11)) := by
  unfold V
  after_results_simp <;> rfl
theorem V_v10 : V m c main_v10 = (truncf .bf16 ((m ((c.tc : Thread nD τ).loc main_arg12)) : FVec Ideal S1024x2816 .f32) bitsLt_bf16_f32 : FVec Ideal S1024x2816 .bf16) := by
  unfold V
  after_results_simp <;> rfl
theorem V_v11 : V m c main_v11 = (truncf .bf16 ((m ((c.tc : Thread nD τ).loc main_arg13)) : FVec Ideal S1024x2816 .f32) bitsLt_bf16_f32 : FVec Ideal S1024x2816 .bf16) := by
  unfold V
  after_results_simp <;> rfl
theorem V_v12 : V m c main_v12 = (truncf .bf16 ((m ((c.tc : Thread nD τ).loc main_arg14)) : FVec Ideal S2816x1024 .f32) bitsLt_bf16_f32 : FVec Ideal S2816x1024 .bf16) := by
  unfold V
  after_results_simp <;> rfl
theorem V_v13 : V m c main_v13 = broadcastInDim S1x1024 ![1] bcast_S1024_S1x1024_1 (m ((c.tc : Thread nD τ).loc main_arg15)) := by
  unfold V
  after_results_simp <;> rfl
theorem V_v14 : V m c main_v14 = broadcastInDim S8x1x1024 ![0, 2] bcast_S8x1024_S8x1x1024_0_2 (m ((c.tc : Thread nD τ).loc main_arg16)) := by
  unfold V
  after_results_simp <;> rfl

/-! The blocks of a point. -/

theorem blk0 (t : Fin cfg0.N) (r : Fin 512) (j : Fin 1024) :
    (iblk m c 0 t (ix3 0 r j) : EReal) = (m ((c.tc : Thread nD τ).loc main_arg0)) (ix3 (bat t) (row t r) j) := by
  rw [← V_main_arg0 m c]
  blk_ext [iblk, idx t, bat, row]
theorem blk1 (t : Fin cfg0.N) (r : Fin 512) (j : Fin 512) :
    (iblk m c 1 t (ix3 0 r j) : EReal) = (m ((c.tc : Thread nD τ).loc main_arg1)) (ix3 (bat t) (row t r) j) := by
  rw [← V_main_arg1 m c]
  blk_ext [iblk, idx t, bat, row]
theorem blk2 (t : Fin cfg0.N) (r : Fin 512) (j : Fin 512) :
    (iblk m c 2 t (ix3 0 r j) : EReal) = (m ((c.tc : Thread nD τ).loc main_arg2)) (ix3 (bat t) (row t r) j) := by
  rw [← V_main_arg2 m c]
  blk_ext [iblk, idx t, bat, row]
theorem blk3 (t : Fin cfg0.N) (r : Fin 512) (j : Fin 512) :
    (iblk m c 3 t (ix3 0 r j) : EReal) = (m ((c.tc : Thread nD τ).loc main_arg3)) (ix3 (bat t) (row t r) j) := by
  rw [← V_main_arg3 m c]
  blk_ext [iblk, idx t, bat, row]
theorem blk4 (t : Fin cfg0.N) (r : Fin 512) (j : Fin 512) :
    (iblk m c 4 t (ix3 0 r j) : EReal) = (m ((c.tc : Thread nD τ).loc main_arg4)) (ix3 (bat t) (row t r) j) := by
  rw [← V_main_arg4 m c]
  blk_ext [iblk, idx t, bat, row]
theorem blk5 (t : Fin cfg0.N) (j : Fin 128) :
    (iblk m c 5 t (ix2 0 j) : EReal) = (m ((c.tc : Thread nD τ).loc main_arg5)) (ix1 j) := by
  have e : iblk m c 5 t (ix2 0 j) = V m c main_v4 (ix2 0 j) := by blk_ext [iblk, idx t]
  rw [e, V_v4]
  pointwise
theorem blk8 (t : Fin cfg0.N) (j : Fin 1024) :
    (iblk m c 8 t (ix2 0 j) : EReal) = (m ((c.tc : Thread nD τ).loc main_arg7)) (ix1 j) := by
  have e : iblk m c 8 t (ix2 0 j) = V m c main_v5 (ix2 0 j) := by blk_ext [iblk, idx t]
  rw [e, V_v5]
  pointwise
theorem blk10 (t : Fin cfg0.N) (j : Fin 1024) :
    (iblk m c 10 t (ix2 0 j) : EReal) = (m ((c.tc : Thread nD τ).loc main_arg9)) (ix1 j) := by
  have e : iblk m c 10 t (ix2 0 j) = V m c main_v7 (ix2 0 j) := by blk_ext [iblk, idx t]
  rw [e, V_v7]
  pointwise
theorem blk16 (t : Fin cfg0.N) (j : Fin 1024) :
    (iblk m c 16 t (ix2 0 j) : EReal) = (m ((c.tc : Thread nD τ).loc main_arg15)) (ix1 j) := by
  have e : iblk m c 16 t (ix2 0 j) = V m c main_v13 (ix2 0 j) := by blk_ext [iblk, idx t]
  rw [e, V_v13]
  pointwise
theorem blk9 (t : Fin cfg0.N) (j : Fin 1024) :
    (iblk m c 9 t (ix3 0 0 j) : EReal) = (m ((c.tc : Thread nD τ).loc main_arg8)) (ix2 (bat t) j) := by
  have e : iblk m c 9 t (ix3 0 0 j) = V m c main_v6 (ix3 (bat t) 0 j) := by blk_ext [iblk, idx t, bat]
  rw [e, V_v6]
  pointwise
theorem blk11 (t : Fin cfg0.N) (j : Fin 1024) :
    (iblk m c 11 t (ix3 0 0 j) : EReal) = (m ((c.tc : Thread nD τ).loc main_arg10)) (ix2 (bat t) j) := by
  have e : iblk m c 11 t (ix3 0 0 j) = V m c main_v8 (ix3 (bat t) 0 j) := by blk_ext [iblk, idx t, bat]
  rw [e, V_v8]
  pointwise
theorem blk12 (t : Fin cfg0.N) (j : Fin 1024) :
    (iblk m c 12 t (ix3 0 0 j) : EReal) = (m ((c.tc : Thread nD τ).loc main_arg11)) (ix2 (bat t) j) := by
  have e : iblk m c 12 t (ix3 0 0 j) = V m c main_v9 (ix3 (bat t) 0 j) := by blk_ext [iblk, idx t, bat]
  rw [e, V_v9]
  pointwise
theorem blk17 (t : Fin cfg0.N) (j : Fin 1024) :
    (iblk m c 17 t (ix3 0 0 j) : EReal) = (m ((c.tc : Thread nD τ).loc main_arg16)) (ix2 (bat t) j) := by
  have e : iblk m c 17 t (ix3 0 0 j) = V m c main_v14 (ix3 (bat t) 0 j) := by blk_ext [iblk, idx t, bat]
  rw [e, V_v14]
  pointwise
theorem blk13 (t : Fin cfg0.N) (i : Fin 1024) (j : Fin 2816) :
    (iblk m c 13 t (ix2 i j) : EReal) = (m ((c.tc : Thread nD τ).loc main_arg12)) (ix2 i j) := by
  have e : iblk m c 13 t (ix2 i j) = V m c main_v10 (ix2 i j) := by blk_ext [iblk, idx t]
  rw [e, V_v10]
  pointwise
theorem blk14 (t : Fin cfg0.N) (i : Fin 1024) (j : Fin 2816) :
    (iblk m c 14 t (ix2 i j) : EReal) = (m ((c.tc : Thread nD τ).loc main_arg13)) (ix2 i j) := by
  have e : iblk m c 14 t (ix2 i j) = V m c main_v11 (ix2 i j) := by blk_ext [iblk, idx t]
  rw [e, V_v11]
  pointwise
theorem blk15 (t : Fin cfg0.N) (i : Fin 2816) (j : Fin 1024) :
    (iblk m c 15 t (ix2 i j) : EReal) = (m ((c.tc : Thread nD τ).loc main_arg14)) (ix2 i j) := by
  have e : iblk m c 15 t (ix2 i j) = V m c main_v12 (ix2 i j) := by blk_ext [iblk, idx t]
  rw [e, V_v12]
  pointwise
theorem blk6 (t : Fin cfg0.N) (k : Fin 512) (j : Fin 1024) :
    ((m ((c.tc : Thread nD τ).loc main_arg6)) (ix2 ⟨k.val, lo k⟩ j) : EReal) = iblk m c 6 t (ix2 k j) := by
  have e : iblk m c 6 t (ix2 k j) = V m c main_v1 (ix2 k j) := by blk_ext [iblk, idx t]
  rw [e, V_v1]
  pointwise
theorem blk7 (t : Fin cfg0.N) (k : Fin 512) (j : Fin 1024) :
    ((m ((c.tc : Thread nD τ).loc main_arg6)) (ix2 ⟨512 + k.val, hi k⟩ j) : EReal) = iblk m c 7 t (ix2 k j) := by
  have e : iblk m c 7 t (ix2 k j) = V m c main_v3 (ix2 k j) := by blk_ext [iblk, idx t]
  rw [e, V_v3]
  pointwise

/-- The array of results: batch, row and column. -/
def result : S8x8192x1024.Idx → Elt Ideal .f32 := fun i =>
  tail (fun c' => (m ((c.tc : Thread nD τ).loc main_arg0)) (ix3 (i 0) (i 1) c')) (fun j => (m ((c.tc : Thread nD τ).loc main_arg1)) (ix3 (i 0) (i 1) j))
    (fun j => (m ((c.tc : Thread nD τ).loc main_arg2)) (ix3 (i 0) (i 1) j)) (fun j => (m ((c.tc : Thread nD τ).loc main_arg3)) (ix3 (i 0) (i 1) j))
    (fun j => (m ((c.tc : Thread nD τ).loc main_arg4)) (ix3 (i 0) (i 1) j)) (fun d => (m ((c.tc : Thread nD τ).loc main_arg5)) (ix1 d)) (fun k c' => (m ((c.tc : Thread nD τ).loc main_arg6)) (ix2 k c'))
    (fun c' => (m ((c.tc : Thread nD τ).loc main_arg7)) (ix1 c')) (fun c' => (m ((c.tc : Thread nD τ).loc main_arg8)) (ix2 (i 0) c')) (fun c' => (m ((c.tc : Thread nD τ).loc main_arg9)) (ix1 c'))
    (fun c' => (m ((c.tc : Thread nD τ).loc main_arg10)) (ix2 (i 0) c')) (fun c' => (m ((c.tc : Thread nD τ).loc main_arg11)) (ix2 (i 0) c'))
    (fun c' k => (m ((c.tc : Thread nD τ).loc main_arg12)) (ix2 c' k)) (fun c' k => (m ((c.tc : Thread nD τ).loc main_arg13)) (ix2 c' k)) (fun k c' => (m ((c.tc : Thread nD τ).loc main_arg14)) (ix2 k c'))
    (fun c' => (m ((c.tc : Thread nD τ).loc main_arg15)) (ix1 c')) (fun c' => (m ((c.tc : Thread nD τ).loc main_arg16)) (ix2 (i 0) c')) (i 2)

/-- What a point leaves at a row and a column. -/
theorem stored_at (t : Fin cfg0.N) (r : Fin 512) (j : Fin 1024) :
    ((dats m 0 c).after 18 t (ix3 0 r j) : EReal) = result m c (ix3 (bat t) (row t r) j) := by
  rw [after0_18]
  refine (block_at _ _ _ _ _ _ _ _ _ _ _ _ _ _ _ _ _ _ (fun k c' => (m ((c.tc : Thread nD τ).loc main_arg6)) (ix2 k c')) (blk6 m c t) (blk7 m c t) r j).trans ?_
  simp only [blk0 m c t, blk1 m c t, blk2 m c t, blk3 m c t, blk4 m c t, blk5 m c t, blk8 m c t, blk9 m c t, blk10 m c t, blk11 m c t, blk12 m c t, blk13 m c t, blk14 m c t, blk15 m c t, blk16 m c t, blk17 m c t]
  rfl

/-- The array after the run. -/
theorem array : (dats m 0 c).arrAt 18 cfg0.N = result m c := by
  refine (dats m 0 c).arrAt_eq_of_covers 18 _ (by decide +kernel) fun t _ y => ?_
  have hy : y = ix3 0 (y 1) (y 2) := by
    conv_lhs => rw [eq_ix3 y]
    congr 1
    exact Subsingleton.elim (α := Fin 1) _ _
  blk_simp
  refine (congrArg ((dats m 0 c).after 18 t) hy).trans ((stored_at m c t (y 1) (y 2)).trans (congrArg (result m c) ?_))
  refine (funext fun a => Fin.ext ?_)
  match a with
  | ⟨0, _⟩ => show t.val / 16 = ((win0_18.blk t).view.emb y 0).val; rw [hy]; blk_simp [idx t]; exact (Nat.add_zero _).symm
  | ⟨1, _⟩ => show t.val % 16 * 512 + (y 1).val = ((win0_18.blk t).view.emb y 1).val; rw [hy]; blk_simp [idx t]
  | ⟨2, _⟩ => show (y 2).val = ((win0_18.blk t).view.emb y 2).val; rw [hy]; blk_simp [idx t]

end Cert.Kernel2Ideal.Tail

end
-- ==== Proof.TailRef.lean ====
module
public import proofs.«01_k».proof.Proof.TailSpec
public import proofs.«01_k».proof.Proof.Gen.Reference2Ideal.Read
public import Idealize.ShloMosaic.Lib.Pointwise

@[expose] public section

/-! # What the tail's reference computes, one element at a time -/

set_option maxRecDepth 16384

noncomputable section

namespace Cert.Reference2Ideal.Tail

open Cert.Reference2Ideal Cert.Reference2Ideal.Gen Cert.Reference2Ideal.Read Idealize.ShloMosaic Idealize.ShloMosaic.TcCoe Idealize.SL.Sem
open Cert.TailSpec

variable (x0 : Vec Ideal S8x8192x1024 .f32) (x1 x2 x3 : Vec Ideal S8x8192x512 .f32) (x4 : Vec Ideal S8x8192x512 .bf16)
  (x5 : Vec Ideal S128 .f32) (x6 : Vec Ideal S1024x1024 .f32) (x7 : Vec Ideal S1024 .f32) (x8 : Vec Ideal S8x1024 .f32)
  (x9 : Vec Ideal S1024 .f32) (x10 x11 : Vec Ideal S8x1024 .f32) (x12 x13 : Vec Ideal S1024x2816 .f32)
  (x14 : Vec Ideal S2816x1024 .f32) (x15 : Vec Ideal S1024 .f32) (x16 : Vec Ideal S8x1024 .f32) (b : Fin 8) (r : Fin 8192)

theorem sum_at (j : Fin 512) : (val_main_v0 (F := Ideal) x1 x2 (ix3 b r j) : EReal) = (x1 (ix3 b r j) : EReal) + x2 (ix3 b r j) := by
  pointwise [val_main_v0]

theorem silu_at (j : Fin 512) : (val_main_v16 (F := Ideal) x3 (ix3 b r j) : EReal) = silu (x3 (ix3 b r j)) := by
  rw [← silu_mul, ← one_bits]
  pointwise [val_main_v16, val_main_call0_v5, val_main_call0_v4, val_main_call0_v3, val_main_call0_v2, val_main_call0_v1,
    val_main_call0_v0, val_main_call0_cst, val_main_call0_cst_0]

theorem head_at (h : Fin 4) (d : Fin 128) : (val_main_v14 (F := Ideal) x1 x2 x5 (ix4 b r h d) : EReal) =
    rms w128 (fun d => (val_main_v0 (F := Ideal) x1 x2 (ix3 b r (at128 h d)) : EReal)) (fun d => x5 (ix1 d)) d := by
  unfold val_main_v14 val_main_v11 val_main_v10 val_main_v9 val_main_v8 val_main_v6 val_main_v4 val_main_v3 val_main_v2 val_main_v1
  generalize val_main_v0 (F := Ideal) x1 x2 = y
  pointwise [val_main_v13, val_main_v12, val_main_v5, val_main_v7, val_main_cst, val_main_cst_0, val_main_cst_1, rms, w128, eps, at128]
  simp only [Nat.mul_comm _ 128]

theorem norm1_at (c : Fin 1024) : (val_main_v34 (F := Ideal) x1 x2 x3 x4 x5 x6 x7 (ix3 b r c) : EReal) =
    rms w1024 (fun c => (val_main_v20 (F := Ideal) x1 x2 x3 x4 x5 x6 (ix3 b r c) : EReal)) (fun c => x7 (ix1 c)) c := by
  unfold val_main_v34 val_main_v31 val_main_v30 val_main_v29 val_main_v28 val_main_v26 val_main_v24 val_main_v23 val_main_v22
  generalize val_main_v20 (F := Ideal) x1 x2 x3 x4 x5 x6 = y
  pointwise [val_main_v33, val_main_v32, val_main_v27, val_main_v25, val_main_cst_2, val_main_cst_3, val_main_cst_4, rms, w1024, eps]

theorem norm2_at (c : Fin 1024) : (val_main_v50 (F := Ideal) x0 x1 x2 x3 x4 x5 x6 x7 x8 x9 (ix3 b r c) : EReal) =
    rms w1024 (fun c => (val_main_v37 (F := Ideal) x0 x1 x2 x3 x4 x5 x6 x7 x8 (ix3 b r c) : EReal)) (fun c => x9 (ix1 c)) c := by
  unfold val_main_v50 val_main_v47 val_main_v46 val_main_v45 val_main_v44 val_main_v42 val_main_v40 val_main_v39 val_main_v38
  generalize val_main_v37 (F := Ideal) x0 x1 x2 x3 x4 x5 x6 x7 x8 = y
  pointwise [val_main_v49, val_main_v48, val_main_v43, val_main_v41, val_main_cst_5, val_main_cst_6, val_main_cst_7, rms, w1024, eps]

theorem norm3_at (c : Fin 1024) : (val_main_v77 (F := Ideal) x0 x1 x2 x3 x4 x5 x6 x7 x8 x9 x10 x11 x12 x13 x14 x15 (ix3 b r c) : EReal) =
    rms w1024 (fun c => (val_main_v63 (F := Ideal) x0 x1 x2 x3 x4 x5 x6 x7 x8 x9 x10 x11 x12 x13 x14 (ix3 b r c) : EReal))
      (fun c => x15 (ix1 c)) c := by
  unfold val_main_v77 val_main_v74 val_main_v73 val_main_v72 val_main_v71 val_main_v69 val_main_v67 val_main_v66 val_main_v65
  generalize val_main_v63 (F := Ideal) x0 x1 x2 x3 x4 x5 x6 x7 x8 x9 x10 x11 x12 x13 x14 = y
  pointwise [val_main_v76, val_main_v75, val_main_v70, val_main_v68, val_main_cst_9, val_main_cst_10, val_main_cst_11, rms, w1024, eps]

/-- The heads' gated outputs. -/
theorem gated_at (j : Fin 512) : (val_main_v17 (F := Ideal) x1 x2 x3 x5 (ix3 b r j) : EReal) =
    gated (fun j => x1 (ix3 b r j)) (fun j => x2 (ix3 b r j)) (fun j => x3 (ix3 b r j)) (fun d => x5 (ix1 d)) j := by
  have e : (val_main_v17 (F := Ideal) x1 x2 x3 x5 (ix3 b r j) : EReal) =
      (val_main_v14 (F := Ideal) x1 x2 x5 (ix4 b r ⟨j.val / 128, by omega⟩ ⟨j.val % 128, Nat.mod_lt _ (by decide)⟩) : EReal) *
        val_main_v16 (F := Ideal) x3 (ix3 b r j) := by
    unfold val_main_v17 val_main_v15
    generalize val_main_v14 (F := Ideal) x1 x2 x5 = y
    generalize val_main_v16 (F := Ideal) x3 = z
    pointwise
  rw [e, silu_at, head_at]
  simp only [sum_at]
  rfl

/-- The mixers side by side. -/
theorem mixed_at (k : Fin 1024) : (val_main_v19 (F := Ideal) x1 x2 x3 x4 x5 (ix3 b r k) : EReal) =
    mixed (fun j => x1 (ix3 b r j)) (fun j => x2 (ix3 b r j)) (fun j => x3 (ix3 b r j)) (fun j => x4 (ix3 b r j))
      (fun d => x5 (ix1 d)) k := by
  have e : (val_main_v19 (F := Ideal) x1 x2 x3 x4 x5 (ix3 b r k) : EReal) =
      if h : k.val < 512 then (val_main_v17 (F := Ideal) x1 x2 x3 x5 (ix3 b r ⟨k.val, h⟩) : EReal)
      else x4 (ix3 b r ⟨k.val - 512, by omega⟩) := by
    unfold val_main_v19
    generalize val_main_v17 (F := Ideal) x1 x2 x3 x5 = y
    pointwise [val_main_v18]
  rw [e]
  simp only [gated_at]
  rfl

theorem proj_at (c : Fin 1024) : (val_main_v20 (F := Ideal) x1 x2 x3 x4 x5 x6 (ix3 b r c) : EReal) =
    proj (fun j => x1 (ix3 b r j)) (fun j => x2 (ix3 b r j)) (fun j => x3 (ix3 b r j)) (fun j => x4 (ix3 b r j))
      (fun d => x5 (ix1 d)) (fun k c => x6 (ix2 k c)) c := by
  have e : (val_main_v20 (F := Ideal) x1 x2 x3 x4 x5 x6 (ix3 b r c) : EReal) =
      ∑ k : Fin 1024, (val_main_v19 (F := Ideal) x1 x2 x3 x4 x5 (ix3 b r k) : EReal) * x6 (ix2 k c) := by
    unfold val_main_v20
    generalize val_main_v19 (F := Ideal) x1 x2 x3 x4 x5 = y
    pointwise
  rw [e]
  simp only [mixed_at]
  rfl

/-- The stream after the mixer. -/
theorem mid_at (c : Fin 1024) : (val_main_v37 (F := Ideal) x0 x1 x2 x3 x4 x5 x6 x7 x8 (ix3 b r c) : EReal) =
    mid (fun c => x0 (ix3 b r c)) (fun j => x1 (ix3 b r j)) (fun j => x2 (ix3 b r j)) (fun j => x3 (ix3 b r j)) (fun j => x4 (ix3 b r j))
      (fun d => x5 (ix1 d)) (fun k c => x6 (ix2 k c)) (fun c => x7 (ix1 c)) (fun c => x8 (ix2 b c)) c := by
  have e : (val_main_v37 (F := Ideal) x0 x1 x2 x3 x4 x5 x6 x7 x8 (ix3 b r c) : EReal) =
      (x0 (ix3 b r c) : EReal) + (x8 (ix2 b c) : EReal) * val_main_v34 (F := Ideal) x1 x2 x3 x4 x5 x6 x7 (ix3 b r c) := by
    unfold val_main_v37 val_main_v36
    generalize val_main_v34 (F := Ideal) x1 x2 x3 x4 x5 x6 x7 = y
    pointwise [val_main_v35, val_main_v21]
  rw [e, norm1_at]
  simp only [proj_at]
  rfl

/-- What the channel mixer reads. -/
theorem chan_at (c : Fin 1024) : (val_main_v58 (F := Ideal) x0 x1 x2 x3 x4 x5 x6 x7 x8 x9 x10 x11 (ix3 b r c) : EReal) =
    chan (fun c => x0 (ix3 b r c)) (fun j => x1 (ix3 b r j)) (fun j => x2 (ix3 b r j)) (fun j => x3 (ix3 b r j)) (fun j => x4 (ix3 b r j))
      (fun d => x5 (ix1 d)) (fun k c => x6 (ix2 k c)) (fun c => x7 (ix1 c)) (fun c => x8 (ix2 b c)) (fun c => x9 (ix1 c))
      (fun c => x10 (ix2 b c)) (fun c => x11 (ix2 b c)) c := by
  have e : (val_main_v58 (F := Ideal) x0 x1 x2 x3 x4 x5 x6 x7 x8 x9 x10 x11 (ix3 b r c) : EReal) =
      (val_main_v50 (F := Ideal) x0 x1 x2 x3 x4 x5 x6 x7 x8 x9 (ix3 b r c) : EReal) * (1 + (x11 (ix2 b c) : EReal)) + x10 (ix2 b c) := by
    rw [← one_bits]
    unfold val_main_v58 val_main_v55
    generalize val_main_v50 (F := Ideal) x0 x1 x2 x3 x4 x5 x6 x7 x8 x9 = y
    pointwise [val_main_v57, val_main_v56, val_main_v54, val_main_v53, val_main_v52, val_main_v51, val_main_cst_8]
  rw [e, norm2_at]
  simp only [mid_at]
  rfl

theorem unit_at (k : Fin 2816) : (val_main_v62 (F := Ideal) x0 x1 x2 x3 x4 x5 x6 x7 x8 x9 x10 x11 x12 x13 (ix3 b r k) : EReal) =
    unit (fun c k => x12 (ix2 c k)) (fun c k => x13 (ix2 c k))
      (fun c => (val_main_v58 (F := Ideal) x0 x1 x2 x3 x4 x5 x6 x7 x8 x9 x10 x11 (ix3 b r c) : EReal)) k := by
  unfold unit
  rw [← silu_mul, ← one_bits]
  unfold val_main_v62 val_main_v60 val_main_call1_v5 val_main_call1_v3 val_main_call1_v1 val_main_call1_v0 val_main_v61 val_main_v59
  generalize val_main_v58 (F := Ideal) x0 x1 x2 x3 x4 x5 x6 x7 x8 x9 x10 x11 = y
  pointwise [val_main_call1_v4, val_main_call1_v2, val_main_call1_cst, val_main_call1_cst_0]

theorem glu_at (c : Fin 1024) : (val_main_v63 (F := Ideal) x0 x1 x2 x3 x4 x5 x6 x7 x8 x9 x10 x11 x12 x13 x14 (ix3 b r c) : EReal) =
    glu (fun c k => x12 (ix2 c k)) (fun c k => x13 (ix2 c k)) (fun k c => x14 (ix2 k c))
      (fun c => (val_main_v58 (F := Ideal) x0 x1 x2 x3 x4 x5 x6 x7 x8 x9 x10 x11 (ix3 b r c) : EReal)) c := by
  have e : (val_main_v63 (F := Ideal) x0 x1 x2 x3 x4 x5 x6 x7 x8 x9 x10 x11 x12 x13 x14 (ix3 b r c) : EReal) =
      ∑ k : Fin 2816, (val_main_v62 (F := Ideal) x0 x1 x2 x3 x4 x5 x6 x7 x8 x9 x10 x11 x12 x13 (ix3 b r k) : EReal) * x14 (ix2 k c) := by
    unfold val_main_v63
    generalize val_main_v62 (F := Ideal) x0 x1 x2 x3 x4 x5 x6 x7 x8 x9 x10 x11 x12 x13 = y
    pointwise
  rw [e]
  simp only [unit_at]
  rfl

/-- The reference's element is the tail of its row. -/
theorem result_at (c : Fin 1024) :
    (val_main_v80 (F := Ideal) x0 x1 x2 x3 x4 x5 x6 x7 x8 x9 x10 x11 x12 x13 x14 x15 x16 (ix3 b r c) : EReal) =
    tail (fun c => x0 (ix3 b r c)) (fun j => x1 (ix3 b r j)) (fun j => x2 (ix3 b r j)) (fun j => x3 (ix3 b r j)) (fun j => x4 (ix3 b r j))
      (fun d => x5 (ix1 d)) (fun k c => x6 (ix2 k c)) (fun c => x7 (ix1 c)) (fun c => x8 (ix2 b c)) (fun c => x9 (ix1 c))
      (fun c => x10 (ix2 b c)) (fun c => x11 (ix2 b c)) (fun c k => x12 (ix2 c k)) (fun c k => x13 (ix2 c k)) (fun k c => x14 (ix2 k c))
      (fun c => x15 (ix1 c)) (fun c => x16 (ix2 b c)) c := by
  have e : (val_main_v80 (F := Ideal) x0 x1 x2 x3 x4 x5 x6 x7 x8 x9 x10 x11 x12 x13 x14 x15 x16 (ix3 b r c) : EReal) =
      (val_main_v37 (F := Ideal) x0 x1 x2 x3 x4 x5 x6 x7 x8 (ix3 b r c) : EReal) +
        (x16 (ix2 b c) : EReal) * val_main_v77 (F := Ideal) x0 x1 x2 x3 x4 x5 x6 x7 x8 x9 x10 x11 x12 x13 x14 x15 (ix3 b r c) := by
    unfold val_main_v80 val_main_v79
    generalize val_main_v77 (F := Ideal) x0 x1 x2 x3 x4 x5 x6 x7 x8 x9 x10 x11 x12 x13 x14 x15 = y
    generalize val_main_v37 (F := Ideal) x0 x1 x2 x3 x4 x5 x6 x7 x8 = z
    pointwise [val_main_v78, val_main_v64]
  rw [e, norm3_at]
  simp only [glu_at, chan_at, mid_at]
  rfl

end Cert.Reference2Ideal.Tail

end
-- ==== Proof.TailClaim.lean ====
module
public import proofs.«01_k».proof.Defs
public import proofs.«01_k».proof.Proof.TailArray
public import proofs.«01_k».proof.Proof.TailRef
public import proofs.«01_k».proof.Proof.Gen.Reference2Ideal.Run
public import Idealize.ShloMosaic.Lib.Quiescent

@[expose] public section

/-! # The claims about the even layer's tail -/

noncomputable section

namespace Cert.Tail

open Idealize.ShloMosaic Idealize.SL.Sem

/-- The reference ends with its arguments kept; it declares no semaphore. -/
theorem reference_kept : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Equal results: both arrays hold, at every batch, row and column, the tail of `TailSpec`. -/
theorem algebraic : Cert.algebraic_Kernel2Ideal_Reference2Ideal := by
  intro m g m' g' _ hagree
  refine ⟨fun c => Cert.Kernel2Ideal.Tail.result m c, ?_, ?_⟩
  · refine (θ_run Cert.Kernel2Ideal.defs _ _).mono (fun r h c => ⟨(h c).1.trans (Cert.Kernel2Ideal.Tail.array m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    refine (Cert.Reference2Ideal.Read.val_main_v80_eq (fun b => m' (c, b))).trans ?_
    obtain ⟨a0, a1, a2, a3, a4, a5, a6, a7, a8, a9, a10, a11, a12, a13, a14, a15, a16⟩ := hagree c
    rw [a0, a1, a2, a3, a4, a5, a6, a7, a8, a9, a10, a11, a12, a13, a14, a15, a16]
    funext i
    rw [eq_ix3 i]
    exact Cert.Reference2Ideal.Tail.result_at _ _ _ _ _ _ _ _ _ _ _ _ _ _ _ _ _ (i 0) (i 1) (i 2)

end Cert.Tail

end
-- ==== Proof.MoeSpec.lean ====
module
public import proofs.«01_k».proof.Proof.TailSpec
public import Idealize.ShloMosaic.Lib.Routing.Words

@[expose] public section

/-! # The experts' SwiGLU, and which expert a tile of rows belongs to -/

noncomputable section

namespace Cert.MoeSpec

open Idealize.ShloMosaic
open Cert.TailSpec

/-! ## The tiles of the experts -/

/-- The number of tiles of 1024 rows an expert's rows take. -/
def tiles (f : ℕ → ℕ) (e : ℕ) : ℕ := (f e + 1023) / 1024

/-- The number of tiles before an expert's. -/
def upto (f : ℕ → ℕ) (k : ℕ) : ℕ := ((List.range k).map (tiles f)).sum

theorem upto_zero (f : ℕ → ℕ) : upto f 0 = 0 := rfl

theorem upto_succ (f : ℕ → ℕ) (k : ℕ) : upto f (k + 1) = upto f k + tiles f k := by
  unfold upto
  rw [List.range_succ, List.map_append, List.sum_append]
  simp

theorem upto_mono (f : ℕ → ℕ) {a b : ℕ} (h : a ≤ b) : upto f a ≤ upto f b := by
  induction h with
  | refl => exact le_refl _
  | step _ ih => exact ih.trans (by rw [upto_succ]; exact Nat.le_add_right _ _)

theorem tiles_le (f : ℕ → ℕ) (e : ℕ) (h : f e ≤ 131072) : tiles f e ≤ 128 := by
  unfold tiles; omega

theorem upto_le (f : ℕ → ℕ) (h : ∀ e, f e ≤ 131072) (k : ℕ) : upto f k ≤ 128 * k := by
  induction k with
  | zero => exact le_refl _
  | succ k ih => have := tiles_le f k (h k); rw [upto_succ]; omega

/-- A sum of tiles in rows is that sum in tiles, times 1024. -/
theorem sum_rows (f : ℕ → ℕ) (k : ℕ) : ((List.range k).map fun e => tiles f e * 1024).sum = upto f k * 1024 := by
  induction k with
  | zero => rfl
  | succ k ih => rw [upto_succ, List.range_succ, List.map_append, List.sum_append, ih]; simp [Nat.add_mul]

/-- The expert a tile belongs to: how many experts end at or before it. -/
def expertOf (f : ℕ → ℕ) (i : ℕ) : ℕ := Nat.count (fun e => upto f (e + 1) ≤ i) 8

theorem count_mono (p : ℕ → Prop) [DecidablePred p] (hp : ∀ a b, a ≤ b → p b → p a) (k n : ℕ) (hk : k ≤ n) (h1 : ∀ a < k, p a) (h2 : k < n → ¬ p k) :
    Nat.count p n = k := by
  induction n with
  | zero => simp only [Nat.count_zero]; omega
  | succ n ih =>
    rw [Nat.count_succ]
    by_cases h : k ≤ n
    · have hn : ¬ p n := fun hn => h2 (by omega) (hp k n h hn)
      rw [ih h (fun hk => h2 (by omega)), if_neg hn, Nat.add_zero]
    · have e : k = n + 1 := by omega
      subst e
      rw [if_pos (h1 n (by omega)), (Nat.count_iff_forall).mpr fun a ha => h1 a (by omega)]

/-- A tile between the bounds of expert `e` is expert `e`'s. -/
theorem expertOf_eq (f : ℕ → ℕ) (i e : ℕ) (he : e < 8) (h1 : upto f e ≤ i) (h2 : i < upto f (e + 1)) : expertOf f i = e :=
  count_mono _ (fun a b hab h => (upto_mono f (by omega)).trans h) e 8 he.le
    (fun a ha => (upto_mono f (by omega : a + 1 ≤ e)).trans h1) (fun _ h => by omega)

/-- A tile before the last expert's end lies between the bounds of its expert. -/
theorem exists_expert (f : ℕ → ℕ) (i : ℕ) (h : i < upto f 8) : ∃ e < 8, upto f e ≤ i ∧ i < upto f (e + 1) := by
  have key : ∀ k, i < upto f k → ∃ e < k, upto f e ≤ i ∧ i < upto f (e + 1) := by
    intro k
    induction k with
    | zero => intro h; rw [upto_zero] at h; omega
    | succ k ih =>
      intro h
      by_cases hk : i < upto f k
      · obtain ⟨e, he, h'⟩ := ih hk; exact ⟨e, by omega, h'⟩
      · exact ⟨k, by omega, by omega, h⟩
  exact key 8 h

theorem expertOf_lt (f : ℕ → ℕ) (i : ℕ) (h : i < upto f 8) : expertOf f i < 8 := by
  obtain ⟨e, he, h1, h2⟩ := exists_expert f i h
  rw [expertOf_eq f i e he h1 h2]; exact he

/-! ## The SwiGLU of a row -/

section Row
variable {n : ℕ} (w1 w3 : Fin 1024 → Fin n → EReal) (w2 : Fin n → Fin 1024 → EReal) (h : Fin 1024 → EReal)

/-- A hiddenUnit hiddenUnit of a row, times its weights' row. -/
def hiddenUnit (k : Fin n) : EReal := silu (∑ d, h d * w1 d k) * ∑ d, h d * w3 d k

/-- The SwiGLU of a row at a column. -/
def swiglu (c : Fin 1024) : EReal := ∑ k, hiddenUnit w1 w3 h k * w2 k c

end Row

/-- The SwiGLU over all hidden units is that of the first half plus that of the second. -/
theorem swiglu_halves (w1 w3 : Fin 1024 → Fin 3584 → EReal) (w2 : Fin 3584 → Fin 1024 → EReal) (h : Fin 1024 → EReal) (c : Fin 1024) :
    swiglu w1 w3 w2 h c =
      swiglu (fun d (k : Fin 1792) => w1 d ⟨k.val, by omega⟩) (fun d k => w3 d ⟨k.val, by omega⟩) (fun k c => w2 ⟨k.val, by omega⟩ c) h c
        + swiglu (fun d (k : Fin 1792) => w1 d ⟨1792 + k.val, by omega⟩) (fun d k => w3 d ⟨1792 + k.val, by omega⟩)
            (fun k c => w2 ⟨1792 + k.val, by omega⟩ c) h c :=
  sum_halves 1792 1792 fun k => hiddenUnit w1 w3 h k * w2 k c

/-- An expert of the layer's (the second of two stacked) at a row and a column: the SwiGLU of the row by the expert's weights. -/
def expertAt (x : Vec Ideal ⟨2, ![139264, 1024]⟩ .f32) (w1 w3 : Vec Ideal ⟨4, ![2, 8, 1024, 3584]⟩ .f32) (w2 : Vec Ideal ⟨4, ![2, 8, 3584, 1024]⟩ .f32)
    (e : Fin 8) (r : Fin 139264) (c : Fin 1024) : EReal :=
  swiglu (fun d k => w1 (ValueIdx.ix4 (1 : Fin 2) e d k)) (fun d k => w3 (ValueIdx.ix4 (1 : Fin 2) e d k)) (fun k c => w2 (ValueIdx.ix4 (1 : Fin 2) e k c))
    (fun d => x (ValueIdx.ix2 r d)) c

/-- Column `j` of plane `p`, among a row's columns. -/
def planeCol (p : Fin 2) (j : Fin 512) : Fin 1024 := ⟨512 * p.val + j.val, by omega⟩

end Cert.MoeSpec

end
-- ==== Proof.MoeBody.lean ====
/-
  One point of the expert layer's grid: what the kernel body stores. At a tile in use the first half of the hidden
  columns unpacks the rows and starts the accumulator; the second half adds its contribution and packs the result;
  a tile not in use stores nothing.
-/
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Moe

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- The two halves of a tile's 1024 rows. -/
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
/-- A whole tile. -/
abbrev rAll : Rect S1024x1024 := Rect.unit (s := S1024x1024) ![0, 0] S1024x1024.size inb_S1024x1024_S1024x1024_0_0
/-- The two planes of a tile's packed rows. -/
abbrev rPl0 : Rect S2x1024x512 := Rect.unit (s := S2x1024x512) ![0, 0, 0] S1x1024x512.size inb_S2x1024x512_S1x1024x512_0_0_0
abbrev rPl1 : Rect S2x1024x512 := Rect.unit (s := S2x1024x512) ![1, 0, 0] S1x1024x512.size inb_S2x1024x512_S1x1024x512_1_0_0
/-- A whole block of a weight. -/
abbrev rUp : Rect S1x1024x1792 := Rect.unit (s := S1x1024x1792) ![0, 0, 0] S1x1024x1792.size inb_S1x1024x1792_S1x1024x1792_0_0_0
abbrev rDown : Rect S1x1792x1024 := Rect.unit (s := S1x1792x1024) ![0, 0, 0] S1x1792x1024.size inb_S1x1792x1024_S1x1792x1024_0_0_0

/-! ## What a point leaves -/

/-- The rows of a tile, unpacked from their two planes. -/
def rowsOf (x : Vec F S2x1024x512 .bf16) : Vec F S1024x1024 .bf16 :=
  View.canon [⟨rAll, k0_pay6 (View.ld x rPl0) (View.ld x rPl1)⟩]

/-- The accumulator after the first half of the hidden columns. -/
def accFirst (h : Vec F S1024x1024 .bf16) (w1 w3 : Vec F S1x1024x1792 .bf16) (w2 : Vec F S1x1792x1024 .bf16) : Vec F S1024x1024 .f32 :=
  View.canon [⟨rBot, k0_pay2 (View.ld h rBot) (k0_pay10 (View.ld w1 rUp)) (View.ld w3 rUp) (View.ld w2 rDown)⟩,
    ⟨rTop, k0_pay8 (View.ld h rTop) (View.ld w1 rUp) (View.ld w3 rUp) (View.ld w2 rDown)⟩]

/-- The accumulator after the second half. -/
def accSecond (h : Vec F S1024x1024 .bf16) (a : Vec F S1024x1024 .f32) (w1 w3 : Vec F S1x1024x1792 .bf16) (w2 : Vec F S1x1792x1024 .bf16) :
    Vec F S1024x1024 .f32 :=
  View.canon [⟨rBot, k0_pay3 (View.ld h rBot) (k0_pay10 (View.ld w1 rUp)) (View.ld w3 rUp) (View.ld w2 rDown) (View.ld a rBot)⟩,
    ⟨rTop, k0_pay9 (View.ld h rTop) (View.ld w1 rUp) (View.ld w3 rUp) (View.ld w2 rDown) (View.ld a rTop)⟩]

/-- The packed rows of the result, from the accumulator. -/
def packed (a : Vec F S1024x1024 .f32) : Vec F S2x1024x512 .bf16 :=
  View.canon [⟨rPl1, k0_pay5 (View.ld a rAll)⟩, ⟨rPl0, k0_pay4 (View.ld a rAll)⟩]

/-! ## The body's conditions -/

/-- The first half of the hidden columns. -/
abbrev isFirst (i : grid0.Coords) : Prop := (Scalar.cmpi .ne (Scalar.extui (Scalar.cmpi .eq (BitVec.ofNat 32 (i 1).val) 0#32)) 0#32) = 1#1
/-- A later half. -/
abbrev isLater (i : grid0.Coords) : Prop := (Scalar.cmpi .ne (Scalar.extui (Scalar.cmpi .sgt (BitVec.ofNat 32 (i 1).val) 0#32)) 0#32) = 1#1

theorem isFirst_iff (t : Fin grid0.N) : isFirst (grid0.coords t) ↔ t.val % 2 = 0 := by
  have ht : t.val < 272 := Nat.lt_of_lt_of_eq t.isLt N_0
  have e1 : (grid0.coords t 1).val = t.val / 1 % 2 := Pipeline.Grid.coords_val t 1 (by decide) rfl
  simp only [isFirst, e1]
  word_cmp

theorem isLater_iff : ∀ t : Fin grid0.N, isLater (grid0.coords t) ↔ t.val % 2 = 1 := by
  decide +kernel

theorem isLast_iff (t : Fin grid0.N) : k0_cond7 (grid0.coords t) = 1#1 ↔ t.val % 2 = 1 := by
  have ht : t.val < 272 := Nat.lt_of_lt_of_eq t.isLt N_0
  have e1 : (grid0.coords t 1).val = t.val / 1 % 2 := Pipeline.Grid.coords_val t 1 (by decide) rfl
  simp only [k0_cond7, e1]
  word_cmp

/-! ## The tables as the body is handed them -/

/-- The table of the tiles' experts and the number of tiles in use, each its whole buffer. -/
abbrev tabE : Memref sig .tc .smem S136 .i32 := Memref.whole main_v21
abbrev tabN : Memref sig .tc .smem S1 .i32 := Memref.whole main_v23

/-- The contents of a table's buffer. -/
abbrev TabBuf (c : Dev nD) {S : Shape} {e : EltTy} (M : Memref sig .tc .smem S e) : Type := Buf (Elt F) (M.view.loc (c : Thread nD τ))
/-- The half of a table the body holds. -/
abbrev tabPt (c : Dev nD) {S : Shape} {e : EltTy} (M : Memref sig .tc .smem S e) (f : TabBuf (F := F) c M) : sProp 𝕄 :=
  M.view.loc (c : Thread nD τ) ↦{fullShare.right} f

/-- The number of tiles in use, as the body reads it. -/
abbrev nvWord (c : Dev nD) (f : TabBuf (F := F) c tabN) : BitVec 32 :=
  tabN.view.readAt (Elt F) (Rect.unit (s := S1) ![0] S1.size inb_S1_S1_0).toLoadRect f (Shape.Idx.first (numel1_S1.symm ▸ Nat.one_pos))

variable (c : Dev nD) (i : grid0.Coords) (arg4 : Memref sig .tc .vmem S2x1024x512 .bf16) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S2x1024x512 .bf16) (harg8 : arg8.IsWhole)
  (arg9 : Memref sig .tc .vmem S1024x1024 .bf16) (harg9 : arg9.IsWhole) (arg10 : Memref sig .tc .vmem S1024x1024 .f32) (harg10 : arg10.IsWhole)
  (x : Vec F S2x1024x512 .bf16) (w1 w3 : Vec F S1x1024x1792 .bf16) (w2 : Vec F S1x1792x1024 .bf16) (y : Vec F S2x1024x512 .bf16)
  (h : Vec F S1024x1024 .bf16) (a : Vec F S1024x1024 .f32) (te : TabBuf (F := F) c tabE) (nv : TabBuf (F := F) c tabN)

/-- What the body holds at a point, each buffer at its contents. -/
abbrev held (h : Vec F S1024x1024 .bf16) (a : Vec F S1024x1024 .f32) (y : Vec F S2x1024x512 .bf16) : sProp 𝕄 :=
  iprop(owns (c : Thread nD τ) arg4 fullShare x ∗ owns (c : Thread nD τ) arg5 fullShare w1 ∗ owns (c : Thread nD τ) arg6 fullShare w3
    ∗ owns (c : Thread nD τ) arg7 fullShare w2 ∗ owns (c : Thread nD τ) arg8 fullShare y ∗ owns (c : Thread nD τ) arg9 fullShare h
    ∗ owns (c : Thread nD τ) arg10 fullShare a ∗ tabPt c tabE te ∗ tabPt c tabN nv)

set_option maxHeartbeats 1000000 in
/-- A tile not in use: everything stays. -/
theorem run_unused (hu : ¬ k0_cond1 i (nvWord c nv) = 1#1) (E : Set ℕ) (K : PUnit → sProp 𝕄) :
    iprop(held c arg4 arg5 arg6 arg7 arg8 arg9 arg10 x w1 w3 w2 te nv h a y
        ∗ (held c arg4 arg5 arg6 arg7 arg8 arg9 arg10 x w1 w3 w2 te nv h a y -∗ K ⟨⟩))
      ⊢ wp frame (wpE (defs₀ (F := F)) Variants.none c none) E (cc0_moe_grouped_ffn i tabE (Memref.isWhole_whole _) tabN (Memref.isWhole_whole _)
          arg4 harg4 arg5 harg5 arg6 harg6 arg7 harg7 arg8 harg8 arg9 harg9 arg10 harg10) K := by
  simp only [cc0_moe_grouped_ffn_eq_skeleton]; unfold cc0_moe_grouped_ffn_skel
  have hu' := hu
  unfold held
  iintro ⟨⟨H0, H1, H2, H3, H4, HS0, HS1, HT0, HT1⟩, Hk⟩
  sl_exec (disch := sl_exact hu)
  sl_step
  iapply Hk
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  iexact HT1

set_option maxHeartbeats 2000000 in
/-- The first half of the hidden columns of a tile in use. -/
theorem run_first (hu : k0_cond1 i (nvWord c nv) = 1#1) (h0 : isFirst i) (h1 : ¬ isLater i) (h7 : ¬ k0_cond7 i = 1#1) (E : Set ℕ) (K : PUnit → sProp 𝕄) :
    iprop(held c arg4 arg5 arg6 arg7 arg8 arg9 arg10 x w1 w3 w2 te nv h a y
        ∗ (held c arg4 arg5 arg6 arg7 arg8 arg9 arg10 x w1 w3 w2 te nv (rowsOf x) (accFirst (rowsOf x) w1 w3 w2) y -∗ K ⟨⟩))
      ⊢ wp frame (wpE (defs₀ (F := F)) Variants.none c none) E (cc0_moe_grouped_ffn i tabE (Memref.isWhole_whole _) tabN (Memref.isWhole_whole _)
          arg4 harg4 arg5 harg5 arg6 harg6 arg7 harg7 arg8 harg8 arg9 harg9 arg10 harg10) K := by
  simp only [cc0_moe_grouped_ffn_eq_skeleton]; unfold cc0_moe_grouped_ffn_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1⟩, Hk⟩
  subst hf0 hf1 hf2 hf3 hf4
  sl_exec (disch := first | sl_exact hu | sl_exact h0 | sl_exact h1 | sl_exact h7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [HS0]
  · iexists _; isplitr
    swap; · iexact HS0
    ipureintro
    refine (View.read_writes_eq_canon (Val := Elt F) _ _ _ ?_).trans ?_
    · exact View.cover_of_tiledL _ S1024x1024.size (by sl_kernel_rfl)
    rfl
  isplitl [HS1]
  · iexists _; isplitr
    swap; · iexact HS1
    ipureintro
    refine (View.read_writes_eq_canon (Val := Elt F) _ _ _ ?_).trans ?_
    · exact View.cover_of_tiledL _ S512x1024.size (by sl_kernel_rfl)
    unfold run_first.sl.v31 run_first.sl.v7 run_first.sl.r_1 run_first.sl.HS0_1
    simp only [View.readCov_eq_canon' (Val := Elt F)]
    unfold accFirst rowsOf
    rfl
  isplitl [HT0]; · iexact HT0
  iexact HT1

set_option maxHeartbeats 2000000 in
/-- The second half of the hidden columns of a tile in use. -/
theorem run_second (hu : k0_cond1 i (nvWord c nv) = 1#1) (h0 : ¬ isFirst i) (h1 : isLater i) (h7 : k0_cond7 i = 1#1) (E : Set ℕ) (K : PUnit → sProp 𝕄) :
    iprop(held c arg4 arg5 arg6 arg7 arg8 arg9 arg10 x w1 w3 w2 te nv h a y
        ∗ (held c arg4 arg5 arg6 arg7 arg8 arg9 arg10 x w1 w3 w2 te nv h (accSecond h a w1 w3 w2) (packed (accSecond h a w1 w3 w2)) -∗ K ⟨⟩))
      ⊢ wp frame (wpE (defs₀ (F := F)) Variants.none c none) E (cc0_moe_grouped_ffn i tabE (Memref.isWhole_whole _) tabN (Memref.isWhole_whole _)
          arg4 harg4 arg5 harg5 arg6 harg6 arg7 harg7 arg8 harg8 arg9 harg9 arg10 harg10) K := by
  simp only [cc0_moe_grouped_ffn_eq_skeleton]; unfold cc0_moe_grouped_ffn_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1⟩, Hk⟩
  subst hf0 hf1 hf2 hf3 hfs0 hfs1
  sl_exec (disch := first | sl_exact hu | sl_exact h0 | sl_exact h1 | sl_exact h7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    refine (View.read_writes_eq_canon (Val := Elt F) _ _ _ ?_).trans ?_
    · exact View.cover_of_tiledL _ S1x1024x512.size (by sl_kernel_rfl)
    unfold run_second.sl.v58_1 run_second.sl.HS1_2 run_second.sl.r_1 run_second.sl.r_2 run_second.sl.v58
    simp only [View.readCov_eq_canon' (Val := Elt F)]
    unfold packed accSecond
    rfl
  isplitl [HS0]
  · iexists _; isplitr; · ipureintro; rfl
    iexact HS0
  isplitl [HS1]
  · iexists _; isplitr
    swap; · iexact HS1
    ipureintro
    refine (View.read_writes_eq_canon (Val := Elt F) _ _ _ ?_).trans ?_
    · exact View.cover_of_tiledL _ S512x1024.size (by sl_kernel_rfl)
    unfold run_second.sl.HS1_2 run_second.sl.r_1 run_second.sl.r_2 run_second.sl.v58
    unfold accSecond
    rfl
  isplitl [HT0]; · iexact HT0
  iexact HT1

end Cert.Kernel3Ideal.Moe

end
-- ==== Proof.MoeRun.lean ====
/-
  The whole run of the expert layer's call: its proof data (what each point finds and leaves), the obligation of the
  body at every point, the launch, and the frame. The second point of a tile in use leaves the tile's packed result;
  a point of a tile not in use leaves anything, which the claim says nothing of.
-/
module

public import proofs.«01_k».proof.Proof.MoeBody
public import Idealize.ShloMosaic.Lib.Claim

@[expose] public section

set_option maxRecDepth 16384

noncomputable section

namespace Cert.Kernel3Ideal.Moe

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the call -/

/-- A core's buffers when the call begins. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

set_option maxHeartbeats 800000 in
/-- The program is its host operations, then the call. -/
theorem main_shape (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; repeat' constructor) main_chain

/-- The operations the host runs before the call, as one list. -/
abbrev hostOps : List (HloOp τ sig (Elt F)) := List.flatten [hostOps0, hostOps0_1, hostOps0_2, hostOps0_3, hostOps0_4, hostOps0_5, hostOps0_6]

/-- A buffer none of the host's operations writes is found as launched. -/
theorem V_kept (c : Dev nD) {b : Ref sig .tc} (h : (hostOps (F := F)).Forall fun op => Proc.devRef .tc b ∉ op.writes) :
    V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_kept m c (by
  simp only [List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))
theorem V_arg1 (c : Dev nD) : V m c main_arg1 = m ((c : Thread nD τ).loc main_arg1) := V_kept m c (by
  simp only [List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))
theorem V_arg2 (c : Dev nD) : V m c main_arg2 = m ((c : Thread nD τ).loc main_arg2) := V_kept m c (by
  simp only [List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))
theorem V_arg3 (c : Dev nD) : V m c main_arg3 = m ((c : Thread nD τ).loc main_arg3) := V_kept m c (by
  simp only [List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))
theorem V_arg4 (c : Dev nD) : V m c main_arg4 = m ((c : Thread nD τ).loc main_arg4) := V_kept m c (by
  simp only [List.flatten_cons, List.flatten_nil, List.append_nil, List.cons_append, List.nil_append, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))

/-! ## The tables -/

/-- The tables' contents when the call begins. -/
def tabs : pre0.Contents (Elt F) := fun j => V m (0 : Dev nD) (pre0.ref j)
theorem V_tabs (c : Dev nD) (j : Fin 2) : V m c (pre0.ref j) = tabs m j := by
  obtain rfl : c = 0 := Subsingleton.elim _ _; rfl

/-- The pipeline's condition on the tables: the blocks they name lie in their arrays. -/
abbrev InRange : Prop := ok0 (F := F) (tabs m)
abbrev adm (hO : InRange m) : (pcfg0 (F := F)).Adm := ⟨tabs m, hO⟩
abbrev cfgM (hO : InRange m) : Pipeline.Cfg sig Λ₀ := cfg0 (adm m hO)

theorem tabs_held (c : Dev nD) : (Pipeline.ΦT pre0 (tabs m) c : sProp 𝕄) = iprop(tabPt c tabE (tabs m 0) ∗ tabPt c tabN (tabs m 1)) := by
  unfold Pipeline.ΦT Pipeline.prefHeld
  rw [show (Finset.univ : Finset (Fin 2)) = insert (0 : Fin 2) {(1 : Fin 2)} from by decide,
    bigSep_insert (by decide), bigSep_singleton]
  rfl

/-- Tile `n` is in use, by the number of tiles in use as the body reads it. -/
def Used (c : Dev nD) (n : ℕ) : Prop := (Scalar.cmpi .ne (Scalar.extui (Scalar.cmpi .slt (BitVec.ofNat 32 n) (nvWord (F := F) c (tabs m 1)))) 0#32) = 1#1

theorem used_iff (c : Dev nD) (t : Fin grid0.N) : k0_cond1 (grid0.coords t) (nvWord (F := F) c (tabs m 1)) = 1#1 ↔ Used m c (t.val / 2) := by
  have ht : t.val < 272 := Nat.lt_of_lt_of_eq t.isLt N_0
  have e0 : (grid0.coords t 0).val = t.val / 2 := by
    rw [show (grid0.coords t 0).val = t.val / 2 % 136 from Pipeline.Grid.coords_val t 0 (by decide) rfl]
    exact Nat.mod_eq_of_lt (Nat.div_lt_of_lt_mul ht)
  unfold Used k0_cond1
  rw [e0]

/-! ## The proof data -/

/-- Window `w`'s block at a point. -/
def blk (hO : InRange m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

variable (hO : InRange m) (c : Dev nD)

abbrev xAt (t : Fin (cfgM m hO).N) : Vec F S2x1024x512 .bf16 := blk m hO c 0 t
abbrev w1At (t : Fin (cfgM m hO).N) : Vec F S1x1024x1792 .bf16 := blk m hO c 1 t
abbrev w3At (t : Fin (cfgM m hO).N) : Vec F S1x1024x1792 .bf16 := blk m hO c 2 t
abbrev w2At (t : Fin (cfgM m hO).N) : Vec F S1x1792x1024 .bf16 := blk m hO c 3 t

/-- The accumulator after the first point of a tile. -/
def accAt (t : Fin (cfgM m hO).N) : Vec F S1024x1024 .f32 :=
  accFirst (rowsOf (xAt m hO c t)) (w1At m hO c t) (w3At m hO c t) (w2At m hO c t)

/-- The point before. -/
def before (t : Fin (cfgM m hO).N) : Fin (cfgM m hO).N := ⟨t.val - 1, Nat.lt_of_le_of_lt (Nat.sub_le _ _) t.isLt⟩

/-- What the second point of a tile leaves in the result's block. -/
def outAt (t : Fin (cfgM m hO).N) : Vec F S2x1024x512 .bf16 :=
  packed (accSecond (rowsOf (xAt m hO c (before m hO t))) (accAt m hO c (before m hO t)) (w1At m hO c t) (w3At m hO c t) (w2At m hO c t))

/-- The two scratch buffers: a tile's unpacked rows and its accumulator. -/
abbrev scRows : Memref sig .tc .vmem S1024x1024 .bf16 := Memref.whole cc0_scratch0
abbrev scAcc : Memref sig .tc .vmem S1024x1024 .f32 := Memref.whole cc0_scratch1

/-- What the scratch holds before point `n`: after the first point of a tile in use, its rows and its accumulator. -/
def Carried (n : ℕ) (h : Vec F S1024x1024 .bf16) (a : Vec F S1024x1024 .f32) : Prop :=
  ∀ t : Fin (cfgM m hO).N, t.val + 1 = n → t.val % 2 = 0 → Used m c (t.val / 2) → h = rowsOf (xAt m hO c t) ∧ a = accAt m hO c t

/-- The invariant before point `n`. -/
def Inv (n : ℕ) : sProp 𝕄 :=
  iprop((∃ h a, ⌜Carried m hO c n h a⌝ ∗ owns (c : Thread nD τ) scRows fullShare h ∗ owns (c : Thread nD τ) scAcc fullShare a)
    ∗ (∃ r, prngReg c r) ∗ Pipeline.ΦT pre0 (tabs m) c)

/-- The proof data: the inputs are left as found; the second point of a tile in use leaves its result. -/
def data : RDat τ (Elt F) Unit ℕ (UR sig nD τ) ℕ (cfgM m hO) c where
  A w := V m c (Pipeline.arrRef spec0 w)
  after := fun
    | 0 => fun _ Y X => X = Y
    | 1 => fun _ Y X => X = Y
    | 2 => fun _ Y X => X = Y
    | 3 => fun _ Y X => X = Y
    | 4 => fun t _ X => t.val % 2 = 1 → Used m c (t.val / 2) → X = outAt m hO c t
    | ⟨_ + 5, h⟩ => absurd h (Nat.not_lt.2 (Nat.le_add_left _ _))
  Φ t := Inv m hO c t.val
  q _ := fullShare
  owed _ := 0

/-- An input's buffer holds its block at every point. -/
theorem found0 (t : Fin (cfgM m hO).N) (Y) (h : (data m hO c).Finds 0 t Y) : Y = xAt m hO c t := by
  obtain ⟨d, e⟩ := (data m hO c).finds_in_eq_fetched 0 rfl (fun _ _ _ => rfl) (fun _ _ _ h => h) t Y h
  exact e.trans rfl
theorem found1 (t : Fin (cfgM m hO).N) (Y) (h : (data m hO c).Finds 1 t Y) : Y = w1At m hO c t := by
  obtain ⟨d, e⟩ := (data m hO c).finds_in_eq_fetched 1 rfl (fun _ _ _ => rfl) (fun _ _ _ h => h) t Y h
  exact e.trans rfl
theorem found2 (t : Fin (cfgM m hO).N) (Y) (h : (data m hO c).Finds 2 t Y) : Y = w3At m hO c t := by
  obtain ⟨d, e⟩ := (data m hO c).finds_in_eq_fetched 2 rfl (fun _ _ _ => rfl) (fun _ _ _ h => h) t Y h
  exact e.trans rfl
theorem found3 (t : Fin (cfgM m hO).N) (Y) (h : (data m hO c).Finds 3 t Y) : Y = w2At m hO c t := by
  obtain ⟨d, e⟩ := (data m hO c).finds_in_eq_fetched 3 rfl (fun _ _ _ => rfl) (fun _ _ _ h => h) t Y h
  exact e.trans rfl

/-! ## The body at every point -/

/-- The buffers the body is called on at a point. -/
abbrev st0 (t : Fin (cfgM m hO).N) : Memref sig .tc .vmem S2x1024x512 .bf16 := spec0_0.stage ((cfgM m hO).slots t 0)
abbrev st1 (t : Fin (cfgM m hO).N) : Memref sig .tc .vmem S1x1024x1792 .bf16 := spec0_1.stage ((cfgM m hO).slots t 1)
abbrev st2 (t : Fin (cfgM m hO).N) : Memref sig .tc .vmem S1x1024x1792 .bf16 := spec0_2.stage ((cfgM m hO).slots t 2)
abbrev st3 (t : Fin (cfgM m hO).N) : Memref sig .tc .vmem S1x1792x1024 .bf16 := spec0_3.stage ((cfgM m hO).slots t 3)
abbrev st4 (t : Fin (cfgM m hO).N) : Memref sig .tc .vmem S2x1024x512 .bf16 := spec0_4.stage ((cfgM m hO).slots t 4)

/-- The body as the pipeline calls it at a point. -/
abbrev bodyOf (t : Fin (cfgM m hO).N) : Prog (TpuEff nD τ sig (Elt F) Λ₀ .tc) PUnit :=
  cc0_moe_grouped_ffn (grid0.coords t) tabE (Memref.isWhole_whole _) tabN (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) scRows (Memref.isWhole_whole _) scAcc (Memref.isWhole_whole _)

theorem body_row (t : Fin (cfgM m hO).N) :
    defs₀ (F := F) .tc (cfgM m hO).body ((cfgM m hO).bodyArgs t ((cfgM m hO).slots t)) = bodyOf m hO t := by
  unfold defs₀; rw [Defs.onTc_tc]

/-- The buffers as the body finds them: the inputs at their blocks. -/
abbrev atEntry (t : Fin (cfgM m hO).N) (y : Vec F S2x1024x512 .bf16) : sProp 𝕄 :=
  iprop(owns (c : Thread nD τ) (st0 m hO t) fullShare (xAt m hO c t) ∗ owns (c : Thread nD τ) (st1 m hO t) fullShare (w1At m hO c t)
    ∗ owns (c : Thread nD τ) (st2 m hO t) fullShare (w3At m hO c t) ∗ owns (c : Thread nD τ) (st3 m hO t) fullShare (w2At m hO c t)
    ∗ owns (c : Thread nD τ) (st4 m hO t) fullShare y)

/-- The body at a point: from the invariant before it to the invariant after it, the result's block of a tile in use at
    its contents. -/
theorem point (t : Fin (cfgM m hO).N) (y : Vec F S2x1024x512 .bf16) :
    iprop(Inv m hO c t.val ∗ (data m hO c).owesAt () t.castSucc ∗ atEntry m hO c t y)
      ⊢ wp frame (wpE (defs₀ (F := F)) Variants.none c none) Set.univ (bodyOf m hO t) fun _ =>
        iprop(Inv m hO c (t.val + 1) ∗ (data m hO c).owesAt () t.castSucc
          ∗ (∃ y', ⌜t.val % 2 = 1 → Used m c (t.val / 2) → y' = outAt m hO c t⌝ ∗ atEntry m hO c t y')) := by
  have hN : t.val < 272 := lt_of_lt_of_eq t.isLt (show (cfgM m hO).N = 272 from N_0)
  unfold Inv
  rw [tabs_held]
  iintro ⟨⟨⟨%h, %a, %hI, HS0, HS1⟩, Hg, HT0, HT1⟩, Ho, H0, H1, H2, H3, H4⟩
  by_cases hu : k0_cond1 (grid0.coords t) (nvWord (F := F) c (tabs m 1)) = 1#1
  · by_cases h2 : t.val % 2 = 0
    · iapply (run_first c (grid0.coords t) _ _ _ _ _ _ _ _ _ _ _ _ _ _ (xAt m hO c t) (w1At m hO c t) (w3At m hO c t) (w2At m hO c t) y h a
        (tabs m 0) (tabs m 1) hu ((isFirst_iff t).mpr h2) (fun h => absurd ((isLater_iff t).mp h) (by omega)) (fun h => absurd ((isLast_iff t).mp h) (by omega)) Set.univ _)
      isplitl [H0 H1 H2 H3 H4 HS0 HS1 HT0 HT1]
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        iexact HT1
      iintro ⟨H0, H1, H2, H3, H4, HS0, HS1, HT0, HT1⟩
      isplitl [HS0 HS1 Hg HT0 HT1]
      · isplitl [HS0 HS1]
        · iexists _; iexists _
          isplitr
          swap
          · isplitl [HS0]; · iexact HS0
            iexact HS1
          ipureintro
          intro t' ht' _ _
          obtain rfl : t' = t := Fin.ext (by omega)
          exact ⟨rfl, rfl⟩
        isplitl [Hg]; · iexact Hg
        isplitl [HT0]; · iexact HT0
        iexact HT1
      isplitl [Ho]; · iexact Ho
      iexists y
      isplitr
      · ipureintro; intro h; omega
      isplitl [H0]; · iexact H0
      isplitl [H1]; · iexact H1
      isplitl [H2]; · iexact H2
      isplitl [H3]; · iexact H3
      iexact H4
    · have h1 : t.val % 2 = 1 := by omega
      have hb : h = rowsOf (xAt m hO c (before m hO t)) ∧ a = accAt m hO c (before m hO t) := by
        refine hI (before m hO t) ?_ ?_ ?_
        · show t.val - 1 + 1 = t.val; omega
        · show (t.val - 1) % 2 = 0; omega
        · have := (used_iff m c t).mp hu
          rwa [show (before m hO t).val / 2 = t.val / 2 from by show (t.val - 1) / 2 = _; omega]
      obtain ⟨rfl, rfl⟩ := hb
      iapply (run_second c (grid0.coords t) _ _ _ _ _ _ _ _ _ _ _ _ _ _ (xAt m hO c t) (w1At m hO c t) (w3At m hO c t) (w2At m hO c t) y _ _
        (tabs m 0) (tabs m 1) hu (fun h => absurd ((isFirst_iff t).mp h) (by omega)) ((isLater_iff t).mpr h1) ((isLast_iff t).mpr h1) Set.univ _)
      isplitl [H0 H1 H2 H3 H4 HS0 HS1 HT0 HT1]
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        iexact HT1
      iintro ⟨H0, H1, H2, H3, H4, HS0, HS1, HT0, HT1⟩
      isplitl [HS0 HS1 Hg HT0 HT1]
      · isplitl [HS0 HS1]
        · iexists _; iexists _
          isplitr
          swap
          · isplitl [HS0]; · iexact HS0
            iexact HS1
          ipureintro
          intro t' ht' h' _
          exact absurd h' (by omega)
        isplitl [Hg]; · iexact Hg
        isplitl [HT0]; · iexact HT0
        iexact HT1
      isplitl [Ho]; · iexact Ho
      iexists _
      isplitr
      swap
      · isplitl [H0]; · iexact H0
        isplitl [H1]; · iexact H1
        isplitl [H2]; · iexact H2
        isplitl [H3]; · iexact H3
        iexact H4
      ipureintro; intro _ _; rfl
  · have hu' : ¬ Used m c (t.val / 2) := fun h => hu ((used_iff m c t).mpr h)
    iapply (run_unused c (grid0.coords t) _ _ _ _ _ _ _ _ _ _ _ _ _ _ (xAt m hO c t) (w1At m hO c t) (w3At m hO c t) (w2At m hO c t) y h a
      (tabs m 0) (tabs m 1) hu Set.univ _)
    isplitl [H0 H1 H2 H3 H4 HS0 HS1 HT0 HT1]
    · isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      iexact HT1
    iintro ⟨H0, H1, H2, H3, H4, HS0, HS1, HT0, HT1⟩
    isplitl [HS0 HS1 Hg HT0 HT1]
    · isplitl [HS0 HS1]
      · iexists _; iexists _
        isplitr
        swap
        · isplitl [HS0]; · iexact HS0
          iexact HS1
        ipureintro
        intro t' ht' _ hv
        obtain rfl : t' = t := Fin.ext (by omega)
        exact absurd hv hu'
      isplitl [Hg]; · iexact Hg
      isplitl [HT0]; · iexact HT0
      iexact HT1
    isplitl [Ho]; · iexact Ho
    iexists y
    isplitr
    · ipureintro; intro _ h; exact absurd h hu'
    isplitl [H0]; · iexact H0
    isplitl [H1]; · iexact H1
    isplitl [H2]; · iexact H2
    isplitl [H3]; · iexact H3
    iexact H4

/-- The pipeline's obligation of the body. -/
theorem body_ok : (data (F := F) m hO c).BodyObligation (defs₀ (F := F)) Variants.none () Set.univ := fun t Y hY => by
  have e0 := found0 m hO c t (Y 0) (hY 0)
  have e1 := found1 m hO c t (Y 1) (hY 1)
  have e2 := found2 m hO c t (Y 2) (hY 2)
  have e3 := found3 m hO c t (Y 3) (hY 3)
  rw [bigSep_W0, bigSep_W0, body_row m hO, e0, e1, e2, e3]
  refine triple_restated (point m hO c t (Y 4)) rfl .rfl fun _ => ?_
  rw [show (data (F := F) m hO c).Φ t.succ = Inv m hO c (t.val + 1) from rfl]
  iintro ⟨HI, Ho, %y', %hy, H0, H1, H2, H3, H4⟩
  isplitl [HI]; · iexact HI
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  iexists y'; isplitr
  swap; · iexact H4
  ipureintro; exact hy

/-- What the launch hands over, buffer by buffer. -/
theorem handed (c : Dev nD) :
    (Pipeline.ΦA spec0 c : sProp 𝕄)
      = iprop(iprop((∃ d, owns (c : Thread nD τ) scRows fullShare d) ∗ (∃ d, owns (c : Thread nD τ) scAcc fullShare d)) ∗ (∃ r, prngReg c r)) := by
  unfold Pipeline.ΦA; rw [scopedRest0_eq]; simp only [scRows, scAcc, owns_whole]; try rfl

theorem inv_start : iprop(Pipeline.ΦA spec0 c ∗ Pipeline.ΦT pre0 (tabs m) c) ⊢ (data (F := F) m hO c).Φ 0 := by
  show _ ⊢ Inv m hO c 0
  unfold Inv
  rw [handed]
  iintro ⟨⟨⟨⟨%h, HS0⟩, ⟨%a, HS1⟩⟩, Hg⟩, HT⟩
  isplitl [HS0 HS1]
  · iexists h; iexists a
    isplitr
    · ipureintro; intro t ht; exact absurd ht (Nat.succ_ne_zero _)
    isplitl [HS0]; · iexact HS0
    iexact HS1
  isplitl [Hg]; · iexact Hg
  iexact HT

theorem inv_end : (data (F := F) m hO c).Φ (Fin.last (cfgM m hO).N) ⊢ Pipeline.ΦA spec0 c := by
  show Inv m hO c (Fin.last (cfgM m hO).N).val ⊢ _
  unfold Inv
  rw [handed]
  iintro ⟨⟨%h, %a, %hI, HS0, HS1⟩, Hg, -⟩
  isplitl [HS0 HS1]
  · isplitl [HS0]
    · iexists _; iexact HS0
    iexists _; iexact HS1
  iexact Hg

/-! ## The launch and the frame -/

set_option maxHeartbeats 2000000 in
set_option backward.isDefEq.respectTransparency.types false in
/-- Every execution ends, with each array standing as the proof data say and every semaphore at zero. -/
theorem launched : θ_run defs (onTc (τ := τ) (main (F := F))) (s₀ m ρ)
    (fun r => RDat.FramePost (cfgM m hO) (data m hO) (V m) r ∧ r.2.sem = fun _ => 0) :=
  RDat.θ_run_frameP_track (Q' := _) pcfgs (fun _ => adm m hO) (0 : Fin 1) launch0 defs₀ Variants.none (data m hO) m ρ main
    (body_ok m hO) (fun c => (data m hO c).share_full fun _ => rfl)
    (howed := fun _ _ => rfl) (V := V m) (hmain := main_shape m Variants.none) (hA := fun _ _ => rfl) (hpf := V_tabs m)
    (hin := inv_start m hO) (hout := inv_end m hO)

include hO in
/-- The argument arrays end unchanged and the semaphores at zero. -/
theorem frame_of_range : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩) (launched m ρ hO)

end Cert.Kernel3Ideal.Moe

end
-- ==== Proof.MoeTables.lean ====
module
public import proofs.«01_k».proof.Proof.MoeSpec
public import proofs.«01_k».proof.Proof.MoeRun
public import Idealize.ShloMosaic.Lib.StableHlo.Run

@[expose] public section

/-! # The tables of the tiles' experts and of the tiles in use -/

set_option maxRecDepth 16384

noncomputable section

namespace Cert.Kernel3Ideal.Moe

open Cert.Kernel3Ideal Cert.Kernel3Ideal.Gen Idealize.ShloMosaic Idealize.ShloMosaic.TcCoe Idealize.SL.Sem
open Idealize.ShloMosaic.WordCmp
open Cert.MoeSpec

variable {F : FTy → Type} [FloatOps F]

/-- The experts' rows in whole tiles, from their counts. -/
def paddedOf (n : IVec S8 32) : IVec S8 32 :=
  muli (Routing.pyDiv bcast_S_S8 (subi (addi n (broadcastInDim S8 ![] bcast_S_S8 (constantI S_ 32 1024#32))) (broadcastInDim S8 ![] bcast_S_S8 (constantI S_ 32 1#32)))
    (constantI S_ 32 1024#32)) (broadcastInDim S8 ![] bcast_S_S8 (constantI S_ 32 1024#32))

/-- Where each expert's tiles end. -/
def endsOf (n : IVec S8 32) : IVec S8 32 :=
  Host.reduceWindow IntOp.addi ![8] ![1] ![7] ![0] (paddedOf n) (broadcastInDim S_ ![] bcast_S_S_ (constantI S_ 32 0#32)) reduceWindows_S8_S8_w8s1p7_0 h_S_

/-- Whether an expert ends at or before a tile. -/
def endedOf (n : IVec S8 32) : IVec S136x8 1 :=
  cmpi .sge (broadcastInDim S136x8 ![0, 1] bcast_S136x1_S136x8_0_1 (muli (broadcastInDim S136x1 ![0] bcast_S136_S136x1_0 (iotaInDim S136 32 0))
      (broadcastInDim S136x1 ![] bcast_S_S136x1 (constantI S_ 32 1024#32))))
    (broadcastInDim S136x8 ![0, 1] bcast_S1x8_S136x8_0_1 (broadcastInDim S1x8 ![1] bcast_S8_S1x8_1 (endsOf n)))

/-- The table of the tiles' experts. -/
def tableE (n : IVec S8 32) : IVec S136 32 :=
  addi (minsi (Host.reduce IntOp.addi (extui 32 (endedOf n) natLt_1_32) (constantI S_ 32 0#32) reducesTo_S136x8_S136_d1 h_S_)
    (broadcastInDim S136 ![] bcast_S_S136 (constantI S_ 32 7#32))) (broadcastInDim S136 ![] bcast_S_S136 (constantI S_ 32 8#32))

/-- The table of the number of tiles in use. -/
def tableN (n : IVec S8 32) : IVec S1 32 :=
  Routing.pyDiv bcast_S_S1 (extractStridedSlice S1 ![7] (endsOf n) slices_S8_S1_7) (constantI S_ 32 1024#32)

variable (m : (ℓ : Loc nD τ sig) → Buf (Elt F) ℓ) (c : Dev nD)

attribute [local irreducible] Host.reduce Host.reduceWindow broadcastInDim addi subi muli minsi select cmpi andi Host.divsi Host.remsi signi extui extractStridedSlice iotaInDim constantI in
set_option maxHeartbeats 1000000 in
theorem V_v21 : V m c main_v21 = tableE (m ((c : Thread nD τ).loc main_arg1)) := by
  simp only [V, hostOps0, hostOps0_1, hostOps0_2, hostOps0_3, hostOps0_4, hostOps0_5, hostOps0_6, List.flatten_cons, List.flatten_nil, List.append_nil,
    List.cons_append, List.nil_append]
  after_results_simp
  simp only [StableHlo.TRef.ofBuf_toBuf]
  rfl
attribute [local irreducible] Host.reduce Host.reduceWindow broadcastInDim addi subi muli minsi select cmpi andi Host.divsi Host.remsi signi extui extractStridedSlice iotaInDim constantI in
set_option maxHeartbeats 1000000 in
theorem V_v23 : V m c main_v23 = tableN (m ((c : Thread nD τ).loc main_arg1)) := by
  simp only [V, hostOps0, hostOps0_1, hostOps0_2, hostOps0_3, hostOps0_4, hostOps0_5, hostOps0_6, List.flatten_cons, List.flatten_nil, List.append_nil,
    List.cons_append, List.nil_append]
  after_results_simp
  simp only [StableHlo.TRef.ofBuf_toBuf]
  rfl

/-! ## The experts of the tiles -/

/-- A 32-bit word below 2 ^ 31, of two, is the smaller one. -/
theorem smaller_word {a b : ℕ} (ha : a < 2 ^ 31) (hb : b < 2 ^ 31) : IntOp.minsi (BitVec.ofNat 32 a) (BitVec.ofNat 32 b) = BitVec.ofNat 32 (min a b) := by
  unfold IntOp.minsi
  rw [Routing.slt_ofNat32 ha hb]
  by_cases h : a < b
  · rw [min_eq_left h.le, decide_eq_true h]; rfl
  · rw [min_eq_right (by omega), decide_eq_false h]; rfl

/-- The expert's word of a tile, from the mask of the experts ended. -/
theorem expert_word (msk : IVec S136x8 1) (hr : S136x8.ReducesTo [1] S136) (hu : 0 < S_.numel) (hw : 1 < 32) (b7 b8 : IVec S136 32) (i : Fin 136)
    (Q : ℕ → Prop) [DecidablePred Q] (hQ : ∀ q : Fin 8, msk (ValueIdx.ix2 i q) = 1#1 ↔ Q q.val)
    (h7 : b7 (ValueIdx.ix1 i) = BitVec.ofNat 32 7) (h8 : b8 (ValueIdx.ix1 i) = BitVec.ofNat 32 8) :
    addi (minsi (Host.reduce IntOp.addi (extui 32 msk hw) (constantI S_ 32 0#32) hr hu) b7) b8 (ValueIdx.ix1 i)
      = BitVec.ofNat 32 (min (Nat.count Q 8) 7 + 8) := by
  have h := Routing.reduce_count (n := 136) (m := 8) (by norm_num) msk hw hr hu i Q hQ
  rw [Routing.addi_ap, h8]
  show IntOp.minsi (Host.reduce IntOp.addi (extui 32 msk hw) (constantI S_ 32 0#32) hr hu (ValueIdx.ix1 i)) (b7 (ValueIdx.ix1 i)) + _ = _
  have hc : Nat.count Q 8 ≤ 8 := Nat.count_le _
  have e : Host.reduce IntOp.addi (extui 32 msk hw) (constantI S_ 32 0#32) hr hu (ValueIdx.ix1 i) = BitVec.ofNat 32 (Nat.count Q 8) := h
  rw [e, h7, smaller_word (by omega) (by norm_num), BitVec.ofNat_add_ofNat]

theorem seven (i : Fin 136) : broadcastInDim S136 ![] bcast_S_S136 (constantI S_ 32 7#32) (ValueIdx.ix1 i) = BitVec.ofNat 32 7 := Routing.bc0 _ _ _
theorem eight (i : Fin 136) : broadcastInDim S136 ![] bcast_S_S136 (constantI S_ 32 8#32) (ValueIdx.ix1 i) = BitVec.ofNat 32 8 := Routing.bc0 _ _ _

/-- Whatever the counts, the experts' words lie between 8 and 15. -/
theorem tableE_range (n : IVec S8 32) (i : Fin 136) : ∃ k < 8, tableE n (ValueIdx.ix1 i) = BitVec.ofNat 32 (k + 8) := by
  classical
  unfold tableE
  generalize endedOf n = msk
  refine ⟨_, ?_, expert_word msk _ _ _ _ _ i (fun q => ∃ h : q < 8, msk (ValueIdx.ix2 i ⟨q, h⟩) = 1#1) (fun q => ⟨fun h => ⟨q.isLt, h⟩, fun ⟨_, h⟩ => h⟩) (seven i) (eight i)⟩
  exact lt_of_le_of_lt (min_le_right _ _) (by norm_num)

section Counts
variable (n : IVec S8 32) (f : ℕ → ℕ) (hn : ∀ e : Fin 8, n (ValueIdx.ix1 e) = BitVec.ofNat 32 (f e.val)) (hf : ∀ e, f e ≤ 131072)
include hn hf

theorem paddedOf_at (e : Fin 8) : paddedOf n (ValueIdx.ix1 e) = BitVec.ofNat 32 (tiles f e.val * 1024) := by
  have he := hf e.val
  unfold paddedOf
  rw [Routing.muli_ap]
  have hb : broadcastInDim S8 ![] bcast_S_S8 (constantI S_ 32 1024#32) (ValueIdx.ix1 e) = BitVec.ofNat 32 1024 := Routing.bc0 _ _ _
  have h1 : broadcastInDim S8 ![] bcast_S_S8 (constantI S_ 32 1#32) (ValueIdx.ix1 e) = BitVec.ofNat 32 1 := Routing.bc0 _ _ _
  rw [Routing.pyDiv_ap (a := f e.val + 1023) (b := 1024) bcast_S_S8 _ _ _ ?_ rfl (by omega) (by norm_num) (by norm_num), hb, BitVec.ofNat_mul_ofNat]
  · rfl
  · rw [Routing.subi_ap, Routing.addi_ap, hn, hb, h1, BitVec.ofNat_add_ofNat, Routing.ofNat32_sub (by omega)]
    rfl

theorem endsOf_at (e : Fin 8) : endsOf n (ValueIdx.ix1 e) = BitVec.ofNat 32 (upto f (e.val + 1) * 1024) := by
  unfold endsOf
  have h := Routing.cumsum1 (N := 8) (Nm1 := 7) rfl (paddedOf n) (fun e => tiles f e * 1024) (paddedOf_at n f hn hf)
    (broadcastInDim S_ ![] bcast_S_S_ (constantI S_ 32 0#32)) (Routing.bc0 _ _ _) reduceWindows_S8_S8_w8s1p7_0 h_S_ e
  rw [sum_rows] at h
  exact h

theorem upto_small (k : ℕ) (hk : k ≤ 8) : upto f k * 1024 < 2 ^ 31 := by
  have := upto_le f hf k
  omega

theorem endedOf_at (i : Fin 136) (q : Fin 8) : endedOf n (ValueIdx.ix2 i q) = 1#1 ↔ upto f (q.val + 1) ≤ i.val := by
  have hq := upto_small n f hn hf (q.val + 1) (by omega)
  have hi := i.isLt
  unfold endedOf
  rw [cmpi_at]
  have e1 : broadcastInDim S136x8 ![0, 1] bcast_S136x1_S136x8_0_1 (muli (broadcastInDim S136x1 ![0] bcast_S136_S136x1_0 (iotaInDim S136 32 0))
      (broadcastInDim S136x1 ![] bcast_S_S136x1 (constantI S_ 32 1024#32))) (ValueIdx.ix2 i q) = BitVec.ofNat 32 (i.val * 1024) := by
    refine (broadcastInDim_apply _ bcast_S136x1_S136x8_0_1 _ (ValueIdx.ix2 i q) (ValueIdx.ix2 i (0 : Fin 1)) fun a => ?_).trans ?_
    · match a with
      | ⟨0, _⟩ => rfl
      | ⟨1, _⟩ => rfl
    · rw [Routing.muli_ap]
      have a1 : broadcastInDim S136x1 ![0] bcast_S136_S136x1_0 (iotaInDim S136 32 0) (ValueIdx.ix2 i (0 : Fin 1)) = BitVec.ofNat 32 i.val :=
        Routing.bcCol bcast_S136_S136x1_0 _ i
      have a2 : broadcastInDim S136x1 ![] bcast_S_S136x1 (constantI S_ 32 1024#32) (ValueIdx.ix2 i (0 : Fin 1)) = BitVec.ofNat 32 1024 := Routing.bc0 _ _ _
      rw [a1, a2, BitVec.ofNat_mul_ofNat]
  have e2 : broadcastInDim S136x8 ![0, 1] bcast_S1x8_S136x8_0_1 (broadcastInDim S1x8 ![1] bcast_S8_S1x8_1 (endsOf n)) (ValueIdx.ix2 i q)
      = BitVec.ofNat 32 (upto f (q.val + 1) * 1024) := (Routing.bcCols bcast_S8_S1x8_1 bcast_S1x8_S136x8_0_1 (endsOf n) i q).trans (endsOf_at n f hn hf q)
  rw [e1, e2]
  show BitVec.ofBool ((BitVec.ofNat 32 (upto f (q.val + 1) * 1024)).sle (BitVec.ofNat 32 (i.val * 1024))) = 1#1 ↔ _
  rw [Routing.sle_ofNat32 hq (by omega)]
  by_cases h : upto f (q.val + 1) ≤ i.val
  · rw [decide_eq_true (by omega)]; simp [h]
  · rw [decide_eq_false (by omega)]; simp [h]

/-- The table's word of a tile: 8 and its expert. -/
theorem tableE_at (i : Fin 136) : tableE n (ValueIdx.ix1 i) = BitVec.ofNat 32 (min (expertOf f i.val) 7 + 8) := by
  unfold tableE
  exact expert_word _ _ _ _ _ _ i (fun e => upto f (e + 1) ≤ i.val) (endedOf_at n f hn hf i) (seven i) (eight i)

/-- The number of tiles in use. -/
theorem tableN_at : tableN n (ValueIdx.ix1 (0 : Fin 1)) = BitVec.ofNat 32 (upto f 8) := by
  unfold tableN
  have h8 := upto_small n f hn hf 8 (le_refl _)
  rw [Routing.pyDiv_ap (a := upto f 8 * 1024) (b := 1024) bcast_S_S1 _ _ _ ?_ rfl h8 (by norm_num) (by norm_num), Nat.mul_div_cancel _ (by norm_num)]
  exact (Routing.slice1 7 (endsOf n) slices_S8_S1_7 (0 : Fin 1) (by norm_num)).trans (endsOf_at n f hn hf 7)

end Counts

/-! ## The blocks the tables name -/

/-- A point's tile, as an index of the table. -/
theorem tile_lt (i : grid0.Coords) : (i 0).val < 136 := (i 0).isLt

/-- The table's word of a point's tile. -/
def wordAt (pf : pre0.Contents (Elt F)) (i : grid0.Coords) : BitVec 32 := pf 0 (ValueIdx.ix1 (⟨(i 0).val, tile_lt i⟩ : Fin 136))

theorem at_word (pf : pre0.Contents (Elt F)) (i : grid0.Coords) :
    pf.at 0 (Rect.unit (s := S136) ![(Scalar.indexCast (BitVec.ofNat 32 (i 0).val) : Index).toNat] S1.size (k0_off1_inb i)) numel1_S1 = wordAt pf i := by
  refine congrArg (pf 0) (funext fun a => Fin.ext ?_)
  have hl := tile_lt i
  match a with
  | ⟨0, _⟩ =>
    show (Scalar.indexCast (BitVec.ofNat 32 (i 0).val) : Index).toNat + 1 * 0 = (i 0).val
    show (BitVec.ofNat 32 (i 0).val).toNat + 1 * 0 = (i 0).val
    rw [BitVec.toNat_ofNat, Nat.mod_eq_of_lt (by omega), Nat.mul_zero, Nat.add_zero]

theorem half_word (i : grid0.Coords) : (BitVec.ofNat 32 (i 1).val).toNat = (i 1).val := by
  have h : (i 1).val < 2 := (i 1).isLt
  rw [BitVec.toNat_ofNat, Nat.mod_eq_of_lt (by omega)]

theorem block_1 (pf : pre0.Contents (Elt F)) (i : grid0.Coords) :
    cc0_transform_1 k0_off1_inb numel1_S1 pf i = ![(wordAt pf i).toNat, 0, (i 1).val] := by
  refine Eq.trans (b := ![BitVec.toNat (w := 32) (pf.at 0 (Rect.unit (s := S136) ![(Scalar.indexCast (BitVec.ofNat 32 (i 0).val) : Index).toNat] S1.size (k0_off1_inb i)) numel1_S1),
    0, (BitVec.ofNat 32 (i 1).val).toNat]) rfl ?_
  rw [at_word, half_word]

theorem block_2 (pf : pre0.Contents (Elt F)) (i : grid0.Coords) :
    cc0_transform_2 k0_off1_inb numel1_S1 pf i = ![(wordAt pf i).toNat, 0, (i 1).val] := block_1 pf i

theorem block_3 (pf : pre0.Contents (Elt F)) (i : grid0.Coords) :
    cc0_transform_3 k0_off1_inb numel1_S1 pf i = ![(wordAt pf i).toNat, (i 1).val, 0] := by
  refine Eq.trans (b := ![BitVec.toNat (w := 32) (pf.at 0 (Rect.unit (s := S136) ![(Scalar.indexCast (BitVec.ofNat 32 (i 0).val) : Index).toNat] S1.size (k0_off1_inb i)) numel1_S1),
    (BitVec.ofNat 32 (i 1).val).toNat, 0]) rfl ?_
  rw [at_word, half_word]

/-- With the tiles' words below 16, the weights' blocks lie inside their arrays. -/
theorem ok_of_words (pf : pre0.Contents (Elt F)) (h : ∀ i : grid0.Coords, (wordAt pf i).toNat < 16) : ok0 (F := F) pf := by
  have up : ∀ (i : grid0.Coords) (ix : Fin 3 → ℕ), ix = ![(wordAt pf i).toNat, 0, (i 1).val] →
      ∃ h : (∀ a, (ix a + 1) * S1x1024x1792.size a ≤ S16x1024x3584.size a), EltTy.bits .bf16 = 32 ∨
        (Rect.block (s := S16x1024x3584) S1x1024x1792.size ix h).WholeWords (EltTy.packing .bf16) := by
    intro i ix e
    subst e
    have h0 := h i
    have h1 : (i 1).val < 2 := (i 1).isLt
    refine ⟨fun a => ?_, Or.inr (Or.inr ⟨by decide, rfl, ?_, rfl⟩)⟩
    · match a with
      | ⟨0, _⟩ => show ((wordAt pf i).toNat + 1) * 1 ≤ 16; omega
      | ⟨1, _⟩ => show (0 + 1) * 1024 ≤ 1024; omega
      | ⟨2, _⟩ => show ((i 1).val + 1) * 1792 ≤ 3584; omega
    · show 0 * 1024 = 0; rfl
  have down : ∀ (i : grid0.Coords) (ix : Fin 3 → ℕ), ix = ![(wordAt pf i).toNat, (i 1).val, 0] →
      ∃ h : (∀ a, (ix a + 1) * S1x1792x1024.size a ≤ S16x3584x1024.size a), EltTy.bits .bf16 = 32 ∨
        (Rect.block (s := S16x3584x1024) S1x1792x1024.size ix h).WholeWords (EltTy.packing .bf16) := by
    intro i ix e
    subst e
    have h0 := h i
    have h1 : (i 1).val < 2 := (i 1).isLt
    refine ⟨fun a => ?_, Or.inr (Or.inl (Or.inr ⟨by decide, rfl, Or.inl ⟨?_, ?_⟩⟩))⟩
    · match a with
      | ⟨0, _⟩ => show ((wordAt pf i).toNat + 1) * 1 ≤ 16; omega
      | ⟨1, _⟩ => show ((i 1).val + 1) * 1792 ≤ 3584; omega
      | ⟨2, _⟩ => show (0 + 1) * 1024 ≤ 1024; omega
    · show 2 ∣ (i 1).val * 1792; exact Dvd.intro_left ((i 1).val * 896) (by ring)
    · show 2 ∣ 1792; norm_num
  exact ⟨fun i => up i _ (block_1 pf i), fun i => up i _ (block_2 pf i), fun i => down i _ (block_3 pf i)⟩

theorem wordAt_tabs (i : grid0.Coords) :
    wordAt (tabs m) i = tableE (m (((0 : Dev nD) : Thread nD τ).loc main_arg1)) (ValueIdx.ix1 (⟨(i 0).val, tile_lt i⟩ : Fin 136)) :=
  congrFun (V_v21 m (0 : Dev nD)) _

/-- The weights' blocks are inside their arrays, whatever the counts. -/
theorem in_range : InRange m := by
  refine ok_of_words _ fun i => ?_
  obtain ⟨k, hk, e⟩ := tableE_range (m (((0 : Dev nD) : Thread nD τ).loc main_arg1)) ⟨(i 0).val, tile_lt i⟩
  rw [wordAt_tabs, e, BitVec.toNat_ofNat, Nat.mod_eq_of_lt (by omega)]
  omega

/-- A tile is in use when it lies before the end of the last expert's. -/
theorem used_of_counts (n : ℕ) (hn : n < 136) (f : ℕ → ℕ) (hf : ∀ e, f e ≤ 131072)
    (hm : ∀ e : Fin 8, m (((0 : Dev nD) : Thread nD τ).loc main_arg1) (ValueIdx.ix1 e) = BitVec.ofNat 32 (f e.val)) (h : n < upto f 8) : Used m c n := by
  have hw : nvWord (F := F) c (tabs m 1) = BitVec.ofNat 32 (upto f 8) := by
    refine Eq.trans ?_ (tableN_at (m (((0 : Dev nD) : Thread nD τ).loc main_arg1)) f hm hf)
    refine Eq.trans ?_ (congrFun (V_v23 m (0 : Dev nD)) _)
    refine congrArg (tabs m 1) (funext fun a => Fin.ext ?_)
    match a with
    | ⟨0, _⟩ => rfl
  have hu := upto_small (m (((0 : Dev nD) : Thread nD τ).loc main_arg1)) f hm hf 8 (le_refl _)
  unfold Used
  rw [hw]
  have e : Scalar.cmpi .slt (BitVec.ofNat 32 n) (BitVec.ofNat 32 (upto f 8)) = 1#1 := by
    show BitVec.ofBool ((BitVec.ofNat 32 n).slt (BitVec.ofNat 32 (upto f 8))) = 1#1
    rw [Routing.slt_ofNat32 (by omega) (by omega), decide_eq_true h]; rfl
  rw [e]
  decide

end Cert.Kernel3Ideal.Moe

end
-- ==== Proof.MoeBlock.lean ====
module
public import proofs.«01_k».proof.Proof.MoeSpec
public import proofs.«01_k».proof.Proof.MoeBody
public import Idealize.ShloMosaic.Lib.Pipeline.ValueKit

@[expose] public section

/-! # What the two points of a tile compute, one element at a time -/

set_option maxRecDepth 16384

noncomputable section

namespace Cert.Kernel3Ideal.Moe

open Cert.Kernel3Ideal Cert.Kernel3Ideal.Gen Idealize.ShloMosaic Idealize.ShloMosaic.TcCoe Idealize.SL.Sem
open Cert.TailSpec Cert.MoeSpec

/-- The first half of a product's columns lies before, the second after. -/
theorem half0 (r : Fin 512) : r.val < 1024 := by omega
theorem half1 (r : Fin 512) : 512 + r.val < 1024 := by omega

/-! ## Loads -/

theorem ld_up (X : Vec Ideal S1x1024x1792 .bf16) : View.ld X rUp = X := View.ld_unit_lit _ X (by decide)
theorem ld_down (X : Vec Ideal S1x1792x1024 .bf16) : View.ld X rDown = X := View.ld_unit_lit _ X (by decide)
theorem ld_all {e : EltTy} (X : Vec Ideal S1024x1024 e) : View.ld X rAll = X := View.ld_unit_lit _ X (by decide)
theorem ld_top {e : EltTy} (X : Vec Ideal S1024x1024 e) (r : Fin 512) (c : Fin 1024) : View.ld X rTop (ix2 r c) = X (ix2 ⟨r.val, half0 r⟩ c) := by
  refine congrArg X (funext fun a => Fin.ext ?_)
  match a with
  | ⟨0, _⟩ => show 0 + 1 * r.val = r.val; omega
  | ⟨1, _⟩ => show 0 + 1 * c.val = c.val; omega
theorem ld_bot {e : EltTy} (X : Vec Ideal S1024x1024 e) (r : Fin 512) (c : Fin 1024) : View.ld X rBot (ix2 r c) = X (ix2 ⟨512 + r.val, half1 r⟩ c) := by
  refine congrArg X (funext fun a => Fin.ext ?_)
  match a with
  | ⟨0, _⟩ => show 512 + 1 * r.val = 512 + r.val; omega
  | ⟨1, _⟩ => show 0 + 1 * c.val = c.val; omega
theorem ld_pl0 (X : Vec Ideal S2x1024x512 .bf16) (r : Fin 1024) (j : Fin 512) : View.ld X rPl0 (ix3 0 r j) = X (ix3 0 r j) := by
  refine congrArg X (funext fun a => Fin.ext ?_)
  match a with
  | ⟨0, _⟩ => rfl
  | ⟨1, _⟩ => show 0 + 1 * r.val = r.val; omega
  | ⟨2, _⟩ => show 0 + 1 * j.val = j.val; omega
theorem ld_pl1 (X : Vec Ideal S2x1024x512 .bf16) (r : Fin 1024) (j : Fin 512) : View.ld X rPl1 (ix3 0 r j) = X (ix3 1 r j) := by
  refine congrArg X (funext fun a => Fin.ext ?_)
  match a with
  | ⟨0, _⟩ => rfl
  | ⟨1, _⟩ => show 0 + 1 * r.val = r.val; omega
  | ⟨2, _⟩ => show 0 + 1 * j.val = j.val; omega

/-! ## Stores in two halves -/

/-- Two halves of a tile's rows stored: the rows below hold the later store, -/
theorem halves_bot (wb wt : Vec Ideal S512x1024 .f32) (r : Fin 512) (c : Fin 1024) :
    View.canon (Val := Elt Ideal) [⟨rBot, wb⟩, ⟨rTop, wt⟩] (ix2 ⟨512 + r.val, half1 r⟩ c) = wb (ix2 r c) := by
  have e : (ix2 ⟨512 + r.val, half1 r⟩ c : S1024x1024.Idx) = rBot.emb (ix2 r c) := by
    funext a; refine Fin.ext ?_
    match a with
    | ⟨0, _⟩ => show 512 + r.val = 512 + 1 * r.val; omega
    | ⟨1, _⟩ => show c.val = 0 + 1 * c.val; omega
  rw [e]; exact View.canon_cons_emb rBot wb _ _

/-- and the rows above the earlier one. -/
theorem halves_top (wb wt : Vec Ideal S512x1024 .f32) (r : Fin 512) (c : Fin 1024) :
    View.canon (Val := Elt Ideal) [⟨rBot, wb⟩, ⟨rTop, wt⟩] (ix2 ⟨r.val, half0 r⟩ c) = wt (ix2 r c) := by
  have e : (ix2 ⟨r.val, half0 r⟩ c : S1024x1024.Idx) = rTop.emb (ix2 r c) := by
    funext a; refine Fin.ext ?_
    match a with
    | ⟨0, _⟩ => show r.val = 0 + 1 * r.val; omega
    | ⟨1, _⟩ => show c.val = 0 + 1 * c.val; omega
  refine (View.canon_cons_of_not_mem _ _ ?_).trans ?_
  · intro hm
    obtain ⟨i, hi, he⟩ := (LoadRect.mem_set _).mp hm (0 : Fin 2)
    have he' : r.val = 512 + 1 * i := he
    have := r.isLt
    omega
  · rw [e]; exact View.canon_cons_emb rTop wt _ _

/-- The two planes stored: plane 1 the later store, plane 0 the earlier. -/
theorem planes_1 (w1 w0 : Vec Ideal S1x1024x512 .bf16) (r : Fin 1024) (j : Fin 512) :
    View.canon (Val := Elt Ideal) [⟨rPl1, w1⟩, ⟨rPl0, w0⟩] (ix3 1 r j) = w1 (ix3 0 r j) := by
  have e : (ix3 1 r j : S2x1024x512.Idx) = rPl1.emb (ix3 0 r j) := by
    funext a; refine Fin.ext ?_
    match a with
    | ⟨0, _⟩ => rfl
    | ⟨1, _⟩ => show r.val = 0 + 1 * r.val; omega
    | ⟨2, _⟩ => show j.val = 0 + 1 * j.val; omega
  rw [e]; exact View.canon_cons_emb rPl1 w1 _ _
theorem planes_0 (w1 w0 : Vec Ideal S1x1024x512 .bf16) (r : Fin 1024) (j : Fin 512) :
    View.canon (Val := Elt Ideal) [⟨rPl1, w1⟩, ⟨rPl0, w0⟩] (ix3 0 r j) = w0 (ix3 0 r j) := by
  have e : (ix3 0 r j : S2x1024x512.Idx) = rPl0.emb (ix3 0 r j) := by
    funext a; refine Fin.ext ?_
    match a with
    | ⟨0, _⟩ => rfl
    | ⟨1, _⟩ => show r.val = 0 + 1 * r.val; omega
    | ⟨2, _⟩ => show j.val = 0 + 1 * j.val; omega
  refine (View.canon_cons_of_not_mem _ _ ?_).trans ?_
  · intro hm
    obtain ⟨i, hi, he⟩ := (LoadRect.mem_set _).mp hm (0 : Fin 3)
    have he' : (0 : ℕ) = 1 + 1 * i := he
    omega
  · rw [e]; exact View.canon_cons_emb rPl0 w0 _ _

/-! ## The payloads -/

/-- The rows' column `d` lies in plane `d / 512`. -/
theorem unpack_at (p0 p1 : Vec Ideal S1x1024x512 .bf16) (r d : Fin 1024) :
    (k0_pay6 p0 p1 (ix2 r d) : EReal) =
      if h : d.val < 512 then (p0 (ix3 0 r ⟨d.val, h⟩) : EReal) else p1 (ix3 0 r ⟨d.val - 512, by omega⟩) := by
  have e : (k0_pay6 p0 p1 (ix2 r d) : EReal) =
      if h0 : d.val < 256 then (p0 (ix3 0 r ⟨d.val, by omega⟩) : EReal)
      else if h1 : d.val - 256 < 256 then (p0 (ix3 0 r ⟨256 + (d.val - 256), by omega⟩) : EReal)
      else if h2 : d.val - 256 - 256 < 256 then (p1 (ix3 0 r ⟨d.val - 256 - 256, by omega⟩) : EReal)
      else (p1 (ix3 0 r ⟨256 + (d.val - 256 - 256 - 256), by omega⟩) : EReal) := by
    pointwise [k0_pay6]
  rw [e]
  split_ifs <;> first | omega | rfl | (refine congrArg _ (congrArg _ (Fin.ext ?_)); dsimp only; omega)

theorem pack0_at (a : Vec Ideal S1024x1024 .f32) (r : Fin 1024) (j : Fin 512) :
    (k0_pay4 a (ix3 0 r j) : EReal) = a (ix2 r ⟨j.val, by omega⟩) := by
  have e : (k0_pay4 a (ix3 0 r j) : EReal) =
      if h : j.val < 256 then (a (ix2 r ⟨j.val, by omega⟩) : EReal) else a (ix2 r ⟨256 + (j.val - 256), by omega⟩) := by
    pointwise [k0_pay4]
  rw [e]
  split_ifs with h
  · rfl
  · refine congrArg a ?_; congr 1; apply Fin.ext; dsimp only; omega

theorem pack1_at (a : Vec Ideal S1024x1024 .f32) (r : Fin 1024) (j : Fin 512) :
    (k0_pay5 a (ix3 0 r j) : EReal) = a (ix2 r ⟨512 + j.val, by omega⟩) := by
  have e : (k0_pay5 a (ix3 0 r j) : EReal) =
      if h : j.val < 256 then (a (ix2 r ⟨512 + j.val, by omega⟩) : EReal) else a (ix2 r ⟨768 + (j.val - 256), by omega⟩) := by
    pointwise [k0_pay5]
  rw [e]
  split_ifs with h
  · rfl
  · refine congrArg a ?_; congr 1; apply Fin.ext; dsimp only; omega

/-- The blocks of the weights as functions. -/
abbrev up (w : Vec Ideal S1x1024x1792 .bf16) : Fin 1024 → Fin 1792 → EReal := fun d k => w (ix3 0 d k)
abbrev down (w : Vec Ideal S1x1792x1024 .bf16) : Fin 1792 → Fin 1024 → EReal := fun k c => w (ix3 0 k c)

theorem pay7_at (h : Vec Ideal S512x1024 .bf16) (w1 w3 : Vec Ideal S1x1024x1792 .bf16) (w2 : Vec Ideal S1x1792x1024 .bf16)
    (r : Fin 512) (c : Fin 1024) : (k0_pay7 h w1 w3 w2 (ix2 r c) : EReal) = swiglu (up w1) (up w3) (down w2) (fun d => h (ix2 r d)) c := by
  unfold swiglu hiddenUnit
  simp only [← silu_sub]
  rw [← one_bits, ← zero_bits]
  pointwise [k0_pay7, up, down]

theorem pay1_at (h : Vec Ideal S512x1024 .bf16) (w1 w3 : Vec Ideal S1x1024x1792 .bf16) (w2 : Vec Ideal S1x1792x1024 .bf16)
    (r : Fin 512) (c : Fin 1024) : (k0_pay1 h (k0_pay10 w1) w3 w2 (ix2 r c) : EReal) = swiglu (up w1) (up w3) (down w2) (fun d => h (ix2 r d)) c := by
  unfold swiglu hiddenUnit
  simp only [← silu_sub]
  rw [← one_bits, ← zero_bits]
  pointwise [k0_pay1, k0_pay10, up, down]

theorem pay8_at (h : Vec Ideal S512x1024 .bf16) (w1 w3 : Vec Ideal S1x1024x1792 .bf16) (w2 : Vec Ideal S1x1792x1024 .bf16)
    (r : Fin 512) (c : Fin 1024) : (k0_pay8 h w1 w3 w2 (ix2 r c) : EReal) = swiglu (up w1) (up w3) (down w2) (fun d => h (ix2 r d)) c := by
  rw [← pay7_at]; unfold k0_pay8
  generalize k0_pay7 h w1 w3 w2 = y
  pointwise
theorem pay2_at (h : Vec Ideal S512x1024 .bf16) (w1 w3 : Vec Ideal S1x1024x1792 .bf16) (w2 : Vec Ideal S1x1792x1024 .bf16)
    (r : Fin 512) (c : Fin 1024) : (k0_pay2 h (k0_pay10 w1) w3 w2 (ix2 r c) : EReal) = swiglu (up w1) (up w3) (down w2) (fun d => h (ix2 r d)) c := by
  rw [← pay1_at]; unfold k0_pay2
  generalize k0_pay1 h (k0_pay10 w1) w3 w2 = y
  pointwise
theorem pay9_at (h : Vec Ideal S512x1024 .bf16) (w1 w3 : Vec Ideal S1x1024x1792 .bf16) (w2 : Vec Ideal S1x1792x1024 .bf16)
    (a : Vec Ideal S512x1024 .f32) (r : Fin 512) (c : Fin 1024) :
    (k0_pay9 h w1 w3 w2 a (ix2 r c) : EReal) = (a (ix2 r c) : EReal) + swiglu (up w1) (up w3) (down w2) (fun d => h (ix2 r d)) c := by
  rw [← pay7_at]; unfold k0_pay9
  generalize k0_pay7 h w1 w3 w2 = y
  pointwise
theorem pay3_at (h : Vec Ideal S512x1024 .bf16) (w1 w3 : Vec Ideal S1x1024x1792 .bf16) (w2 : Vec Ideal S1x1792x1024 .bf16)
    (a : Vec Ideal S512x1024 .f32) (r : Fin 512) (c : Fin 1024) :
    (k0_pay3 h (k0_pay10 w1) w3 w2 a (ix2 r c) : EReal) = (a (ix2 r c) : EReal) + swiglu (up w1) (up w3) (down w2) (fun d => h (ix2 r d)) c := by
  rw [← pay1_at]; unfold k0_pay3
  generalize k0_pay1 h (k0_pay10 w1) w3 w2 = y
  pointwise

/-! ## What a point leaves, one element at a time -/

theorem rowsOf_at (x : Vec Ideal S2x1024x512 .bf16) (r d : Fin 1024) :
    (rowsOf x (ix2 r d) : EReal) = x (ix3 ⟨d.val / 512, by omega⟩ r ⟨d.val % 512, Nat.mod_lt _ (by decide)⟩) := by
  unfold rowsOf
  rw [View.canon_cons_unit_lit _ _ [] (by decide), unpack_at]
  split_ifs with h
  · rw [ld_pl0]
    congr 1
    rw [show (⟨d.val / 512, by omega⟩ : Fin 2) = 0 from Fin.ext (by show d.val / 512 = 0; omega)]
    congr 1
    exact Fin.ext (by show d.val = d.val % 512; omega)
  · rw [ld_pl1]
    congr 1
    rw [show (⟨d.val / 512, by omega⟩ : Fin 2) = 1 from Fin.ext (by show d.val / 512 = 1; omega)]
    congr 1
    exact Fin.ext (by show d.val - 512 = d.val % 512; omega)

/-- A row of the tile lies in one half or in the other. -/
theorem row_cases (r : Fin 1024) : (∃ s : Fin 512, r = ⟨s.val, half0 s⟩) ∨ ∃ s : Fin 512, r = ⟨512 + s.val, half1 s⟩ := by
  by_cases h : r.val < 512
  · exact .inl ⟨⟨r.val, h⟩, rfl⟩
  · exact .inr ⟨⟨r.val - 512, by omega⟩, Fin.ext (by show r.val = 512 + (r.val - 512); omega)⟩

theorem accFirst_at (h : Vec Ideal S1024x1024 .bf16) (w1 w3 : Vec Ideal S1x1024x1792 .bf16) (w2 : Vec Ideal S1x1792x1024 .bf16)
    (r c : Fin 1024) : (accFirst h w1 w3 w2 (ix2 r c) : EReal) = swiglu (up w1) (up w3) (down w2) (fun d => h (ix2 r d)) c := by
  unfold accFirst
  rw [ld_up, ld_up, ld_down]
  rcases row_cases r with ⟨s, rfl⟩ | ⟨s, rfl⟩
  · rw [halves_top, pay8_at]; exact congrArg (fun f => swiglu _ _ _ f c) (funext fun d => ld_top h s d)
  · rw [halves_bot, pay2_at]; exact congrArg (fun f => swiglu _ _ _ f c) (funext fun d => ld_bot h s d)

theorem accSecond_at (h : Vec Ideal S1024x1024 .bf16) (a : Vec Ideal S1024x1024 .f32) (w1 w3 : Vec Ideal S1x1024x1792 .bf16)
    (w2 : Vec Ideal S1x1792x1024 .bf16) (r c : Fin 1024) :
    (accSecond h a w1 w3 w2 (ix2 r c) : EReal) = (a (ix2 r c) : EReal) + swiglu (up w1) (up w3) (down w2) (fun d => h (ix2 r d)) c := by
  unfold accSecond
  rw [ld_up, ld_up, ld_down]
  rcases row_cases r with ⟨s, rfl⟩ | ⟨s, rfl⟩
  · rw [halves_top, pay9_at]; exact congrArg₂ (fun (u : EReal) f => u + swiglu (up w1) (up w3) (down w2) f c) (ld_top a s c) (funext fun d => ld_top h s d)
  · rw [halves_bot, pay3_at]; exact congrArg₂ (fun (u : EReal) f => u + swiglu (up w1) (up w3) (down w2) f c) (ld_bot a s c) (funext fun d => ld_bot h s d)

theorem packed_at (a : Vec Ideal S1024x1024 .f32) (p : Fin 2) (r : Fin 1024) (j : Fin 512) :
    (packed a (ix3 p r j) : EReal) = a (ix2 r ⟨512 * p.val + j.val, by omega⟩) := by
  unfold packed
  rw [ld_all]
  match p with
  | 0 => rw [planes_0, pack0_at]; congr 2; exact Fin.ext (by show j.val = 512 * 0 + j.val; omega)
  | 1 => rw [planes_1, pack1_at]; congr 2

end Cert.Kernel3Ideal.Moe

end
-- ==== Proof.MoeArray.lean ====
module
public import proofs.«01_k».proof.Proof.MoeTables
public import proofs.«01_k».proof.Proof.MoeBlock
public import Idealize.ShloMosaic.Lib.Pipeline.ArrRel
public import Idealize.ShloMosaic.Lib.Pipeline.ValueKit

@[expose] public section

/-! # What the experts' array holds after the run, on the rows in use -/

set_option maxRecDepth 16384

noncomputable section

namespace Cert.Kernel3Ideal.Moe

open Cert.Kernel3Ideal Cert.Kernel3Ideal.Gen Idealize.ShloMosaic Idealize.ShloMosaic.TcCoe Idealize.SL.Sem
open Cert.TailSpec Cert.MoeSpec Idealize.ShloMosaic.Pipeline

variable (m : (ℓ : Loc nD τ sig) → Buf (Elt Ideal) ℓ) (c : Dev nD)

/-! ## The arrays at region entry -/

theorem V_v25 : V m c main_v25 = shapeCast S16x1024x3584 (truncf .bf16 (m ((c : Thread nD τ).loc main_arg2) : FVec Ideal S2x8x1024x3584 .f32) bitsLt_bf16_f32 : FVec Ideal S2x8x1024x3584 .bf16)
    shapeCasts_S2x8x1024x3584_S16x1024x3584 := by
  simp only [V, hostOps0, hostOps0_1, hostOps0_2, hostOps0_3, hostOps0_4, hostOps0_5, hostOps0_6, List.flatten_cons, List.flatten_nil, List.append_nil,
    List.cons_append, List.nil_append]
  after_results_simp
  rfl
theorem V_v27 : V m c main_v27 = shapeCast S16x1024x3584 (truncf .bf16 (m ((c : Thread nD τ).loc main_arg3) : FVec Ideal S2x8x1024x3584 .f32) bitsLt_bf16_f32 : FVec Ideal S2x8x1024x3584 .bf16)
    shapeCasts_S2x8x1024x3584_S16x1024x3584 := by
  simp only [V, hostOps0, hostOps0_1, hostOps0_2, hostOps0_3, hostOps0_4, hostOps0_5, hostOps0_6, List.flatten_cons, List.flatten_nil, List.append_nil,
    List.cons_append, List.nil_append]
  after_results_simp
  rfl
theorem V_v29 : V m c main_v29 = shapeCast S16x3584x1024 (truncf .bf16 (m ((c : Thread nD τ).loc main_arg4) : FVec Ideal S2x8x3584x1024 .f32) bitsLt_bf16_f32 : FVec Ideal S2x8x3584x1024 .bf16)
    shapeCasts_S2x8x3584x1024_S16x3584x1024 := by
  simp only [V, hostOps0, hostOps0_1, hostOps0_2, hostOps0_3, hostOps0_4, hostOps0_5, hostOps0_6, List.flatten_cons, List.flatten_nil, List.append_nil,
    List.cons_append, List.nil_append]
  after_results_simp
  rfl
theorem V_v32 : V m c main_v32 = transpose S2x139264x512 [1, 0, 2] (shapeCast S139264x2x512
    (truncf .bf16 (m ((c : Thread nD τ).loc main_arg0) : FVec Ideal S139264x1024 .f32) bitsLt_bf16_f32 : FVec Ideal S139264x1024 .bf16)
    shapeCasts_S139264x1024_S139264x2x512) transposes_S139264x2x512_S2x139264x512_1_0_2 := by
  simp only [V, hostOps0, hostOps0_1, hostOps0_2, hostOps0_3, hostOps0_4, hostOps0_5, hostOps0_6, List.flatten_cons, List.flatten_nil, List.append_nil,
    List.cons_append, List.nil_append]
  after_results_simp
  rfl

/-- An expert's up-weights, found eight further among the sixteen: the layer's second eight. -/
theorem up_cast (x : Vec Ideal S2x8x1024x3584 .bf16) (h : S2x8x1024x3584.ShapeCasts S16x1024x3584) (e : Fin 8) (d : Fin 1024) (k : Fin 3584) :
    shapeCast S16x1024x3584 x h (ix3 (⟨e.val + 8, by omega⟩ : Fin 16) d k) = x (ix4 (1 : Fin 2) e d k) :=
  shapeCast_apply x h _ _ (by
    rw [Shape.rowMajor_val_four, Shape.rowMajor_val_three]
    show ((1 * 8 + e.val) * 1024 + d.val) * 3584 + k.val = ((e.val + 8) * 1024 + d.val) * 3584 + k.val
    omega)
theorem down_cast (x : Vec Ideal S2x8x3584x1024 .bf16) (h : S2x8x3584x1024.ShapeCasts S16x3584x1024) (e : Fin 8) (k : Fin 3584) (d : Fin 1024) :
    shapeCast S16x3584x1024 x h (ix3 (⟨e.val + 8, by omega⟩ : Fin 16) k d) = x (ix4 (1 : Fin 2) e k d) :=
  shapeCast_apply x h _ _ (by
    rw [Shape.rowMajor_val_four, Shape.rowMajor_val_three]
    show ((1 * 8 + e.val) * 3584 + k.val) * 1024 + d.val = ((e.val + 8) * 3584 + k.val) * 1024 + d.val
    omega)
theorem planes_cast (x : Vec Ideal S139264x1024 .bf16) (h : S139264x1024.ShapeCasts S139264x2x512) (r : Fin 139264) (p : Fin 2) (j : Fin 512) :
    shapeCast S139264x2x512 x h (ix3 r p j) = x (ix2 r ⟨512 * p.val + j.val, by omega⟩) :=
  shapeCast_apply x h _ _ (by
    rw [Shape.rowMajor_val_three, Shape.rowMajor_val_two]
    show r.val * 1024 + (512 * p.val + j.val) = (r.val * 2 + p.val) * 512 + j.val
    omega)
theorem planes_at (x : Vec Ideal S139264x2x512 .bf16) (h) (r : Fin 139264) (p : Fin 2) (j : Fin 512) :
    transpose S2x139264x512 [1, 0, 2] x h (ix3 p r j) = x (ix3 r p j) := by
  refine transpose_apply _ _ h _ _ fun a => ?_
  match a with
  | ⟨0, _⟩ => rfl
  | ⟨1, _⟩ => rfl
  | ⟨2, _⟩ => rfl

/-! ## The blocks of a point -/

variable (hO : InRange m)

theorem coord0 (t : Fin grid0.N) : (grid0.coords t 0).val = t.val / 2 := by
  have ht : t.val < 272 := Nat.lt_of_lt_of_eq t.isLt N_0
  rw [show (grid0.coords t 0).val = t.val / 2 % 136 from Pipeline.Grid.coords_val t 0 (by decide) rfl]
  exact Nat.mod_eq_of_lt (Nat.div_lt_of_lt_mul ht)
theorem coord1 (t : Fin grid0.N) : (grid0.coords t 1).val = t.val % 2 := by
  rw [show (grid0.coords t 1).val = t.val / 1 % 2 from Pipeline.Grid.coords_val t 1 (by decide) rfl, Nat.div_one]

theorem tile_of (t : Fin grid0.N) : t.val / 2 < 136 := Nat.div_lt_of_lt_mul (Nat.lt_of_lt_of_eq t.isLt N_0)

theorem row_lt {n s : ℕ} (hn : n < 136) (hs : s < 1024) : 1024 * n + s < 139264 := by omega

/-- A point's rows. -/
theorem x_at (t : Fin (cfgM m hO).N) (p : Fin 2) (s : Fin 1024) (j : Fin 512) :
    (xAt m hO c t (ix3 p s j) : EReal) = m ((c : Thread nD τ).loc main_arg0)
      (ix2 (⟨1024 * (t.val / 2) + s.val, row_lt (tile_of t) s.isLt⟩ : Fin 139264) (⟨512 * p.val + j.val, by omega⟩ : Fin 1024)) := by
  have e : (xAt m hO c t (ix3 p s j) : EReal) = V m c main_v32 (ix3 p (⟨1024 * (t.val / 2) + s.val, row_lt (tile_of t) s.isLt⟩ : Fin 139264) j) := by
    refine congrArg (V m c main_v32) (funext fun a => Fin.ext ?_)
    have h0 := coord0 t
    match a with
    | ⟨0, _⟩ => show 0 * 2 + 1 * p.val = p.val; omega
    | ⟨1, _⟩ =>
      show (BitVec.ofNat 32 (grid0.coords t 0).val).toNat * 1024 + 1 * s.val = 1024 * (t.val / 2) + s.val
      have := tile_of t
      rw [h0, BitVec.toNat_ofNat, Nat.mod_eq_of_lt (by omega)]; omega
    | ⟨2, _⟩ => show 0 * 512 + 1 * j.val = j.val; omega
  rw [e, V_v32, planes_at, planes_cast]
  rfl

theorem axes_1 (pf : pre0.Contents (Elt Ideal)) (i : grid0.Coords) : cc0_transform_1 k0_off1_inb numel1_S1 pf i 0 = (wordAt pf i).toNat
    ∧ cc0_transform_1 k0_off1_inb numel1_S1 pf i 1 = 0 ∧ cc0_transform_1 k0_off1_inb numel1_S1 pf i 2 = (i 1).val := by
  rw [block_1]; exact ⟨rfl, rfl, rfl⟩
theorem axes_2 (pf : pre0.Contents (Elt Ideal)) (i : grid0.Coords) : cc0_transform_2 k0_off1_inb numel1_S1 pf i 0 = (wordAt pf i).toNat
    ∧ cc0_transform_2 k0_off1_inb numel1_S1 pf i 1 = 0 ∧ cc0_transform_2 k0_off1_inb numel1_S1 pf i 2 = (i 1).val := by
  rw [block_2]; exact ⟨rfl, rfl, rfl⟩
theorem axes_3 (pf : pre0.Contents (Elt Ideal)) (i : grid0.Coords) : cc0_transform_3 k0_off1_inb numel1_S1 pf i 0 = (wordAt pf i).toNat
    ∧ cc0_transform_3 k0_off1_inb numel1_S1 pf i 1 = (i 1).val ∧ cc0_transform_3 k0_off1_inb numel1_S1 pf i 2 = 0 := by
  rw [block_3]; exact ⟨rfl, rfl, rfl⟩

theorem plus8 (e : Fin 8) : e.val + 8 < 16 := by omega

section Expert
variable (t : Fin (cfgM m hO).N) (e : Fin 8) (he : (wordAt (tabs m) (grid0.coords t)).toNat = e.val + 8)
include he

theorem up_index (d : Fin 1024) (k : Fin 1792) (h : t.val % 2 * 1792 + k.val < 3584) :
    (w1At m hO c t (ix3 0 d k) : EReal) = m ((c : Thread nD τ).loc main_arg2) (ix4 (1 : Fin 2) e d (⟨t.val % 2 * 1792 + k.val, h⟩ : Fin 3584)) := by
  have e : (w1At m hO c t (ix3 0 d k) : EReal) = V m c main_v25 (ix3 (⟨e.val + 8, plus8 e⟩ : Fin 16) d (⟨t.val % 2 * 1792 + k.val, h⟩ : Fin 3584)) := by
    refine congrArg (V m c main_v25) (funext fun a => Fin.ext ?_)
    have h1 := coord1 t
    obtain ⟨b0, b1, b2⟩ := axes_1 (tabs m) (grid0.coords t)
    match a with
    | ⟨0, _⟩ =>
      show cc0_transform_1 k0_off1_inb numel1_S1 (tabs m) (grid0.coords t) 0 * 1 + 1 * 0 = e.val + 8
      rw [b0, he, Nat.mul_one, Nat.mul_zero, Nat.add_zero]
    | ⟨1, _⟩ =>
      show cc0_transform_1 k0_off1_inb numel1_S1 (tabs m) (grid0.coords t) 1 * 1024 + 1 * d.val = d.val
      rw [b1, Nat.zero_mul, Nat.zero_add, Nat.one_mul]
    | ⟨2, _⟩ =>
      show cc0_transform_1 k0_off1_inb numel1_S1 (tabs m) (grid0.coords t) 2 * 1792 + 1 * k.val = t.val % 2 * 1792 + k.val
      rw [b2, h1, Nat.one_mul]
  rw [e, V_v25, up_cast]
  rfl

theorem gate_index (d : Fin 1024) (k : Fin 1792) (h : t.val % 2 * 1792 + k.val < 3584) :
    (w3At m hO c t (ix3 0 d k) : EReal) = m ((c : Thread nD τ).loc main_arg3) (ix4 (1 : Fin 2) e d (⟨t.val % 2 * 1792 + k.val, h⟩ : Fin 3584)) := by
  have e : (w3At m hO c t (ix3 0 d k) : EReal) = V m c main_v27 (ix3 (⟨e.val + 8, plus8 e⟩ : Fin 16) d (⟨t.val % 2 * 1792 + k.val, h⟩ : Fin 3584)) := by
    refine congrArg (V m c main_v27) (funext fun a => Fin.ext ?_)
    have h1 := coord1 t
    obtain ⟨b0, b1, b2⟩ := axes_2 (tabs m) (grid0.coords t)
    match a with
    | ⟨0, _⟩ =>
      show cc0_transform_2 k0_off1_inb numel1_S1 (tabs m) (grid0.coords t) 0 * 1 + 1 * 0 = e.val + 8
      rw [b0, he, Nat.mul_one, Nat.mul_zero, Nat.add_zero]
    | ⟨1, _⟩ =>
      show cc0_transform_2 k0_off1_inb numel1_S1 (tabs m) (grid0.coords t) 1 * 1024 + 1 * d.val = d.val
      rw [b1, Nat.zero_mul, Nat.zero_add, Nat.one_mul]
    | ⟨2, _⟩ =>
      show cc0_transform_2 k0_off1_inb numel1_S1 (tabs m) (grid0.coords t) 2 * 1792 + 1 * k.val = t.val % 2 * 1792 + k.val
      rw [b2, h1, Nat.one_mul]
  rw [e, V_v27, up_cast]
  rfl

theorem down_index (k : Fin 1792) (d : Fin 1024) (h : t.val % 2 * 1792 + k.val < 3584) :
    (w2At m hO c t (ix3 0 k d) : EReal) = m ((c : Thread nD τ).loc main_arg4) (ix4 (1 : Fin 2) e (⟨t.val % 2 * 1792 + k.val, h⟩ : Fin 3584) d) := by
  have e : (w2At m hO c t (ix3 0 k d) : EReal) = V m c main_v29 (ix3 (⟨e.val + 8, plus8 e⟩ : Fin 16) (⟨t.val % 2 * 1792 + k.val, h⟩ : Fin 3584) d) := by
    refine congrArg (V m c main_v29) (funext fun a => Fin.ext ?_)
    have h1 := coord1 t
    obtain ⟨b0, b1, b2⟩ := axes_3 (tabs m) (grid0.coords t)
    match a with
    | ⟨0, _⟩ =>
      show cc0_transform_3 k0_off1_inb numel1_S1 (tabs m) (grid0.coords t) 0 * 1 + 1 * 0 = e.val + 8
      rw [b0, he, Nat.mul_one, Nat.mul_zero, Nat.add_zero]
    | ⟨1, _⟩ =>
      show cc0_transform_3 k0_off1_inb numel1_S1 (tabs m) (grid0.coords t) 1 * 1792 + 1 * k.val = t.val % 2 * 1792 + k.val
      rw [b1, h1, Nat.one_mul]
    | ⟨2, _⟩ =>
      show cc0_transform_3 k0_off1_inb numel1_S1 (tabs m) (grid0.coords t) 2 * 1024 + 1 * d.val = d.val
      rw [b2, Nat.zero_mul, Nat.zero_add, Nat.one_mul]
  rw [e, V_v29, down_cast]
  rfl

end Expert

/-! ## What a tile's second point leaves -/

theorem at_half {α : Type} (g : Fin 3584 → α) (b k : ℕ) (h : b * 1792 + k < 3584) (h' : k < 3584) (hb : b = 0) : g ⟨b * 1792 + k, h⟩ = g ⟨k, h'⟩ :=
  congrArg g (Fin.ext (by subst hb; show 0 * 1792 + k = k; omega))
theorem at_half' {α : Type} (g : Fin 3584 → α) (b k : ℕ) (h : b * 1792 + k < 3584) (h' : 1792 + k < 3584) (hb : b = 1) : g ⟨b * 1792 + k, h⟩ = g ⟨1792 + k, h'⟩ :=
  congrArg g (Fin.ext (by subst hb; show 1 * 1792 + k = 1792 + k; omega))

theorem in_half (b k : ℕ) (hb : b < 2) (hk : k < 1792) : b * 1792 + k < 3584 := by omega

theorem row_at (t : Fin (cfgM m hO).N) (s d : Fin 1024) :
    (rowsOf (xAt m hO c t) (ix2 s d) : EReal) = m ((c : Thread nD τ).loc main_arg0) (ix2 (⟨1024 * (t.val / 2) + s.val, row_lt (tile_of t) s.isLt⟩ : Fin 139264) d) := by
  refine (rowsOf_at _ s d).trans ((x_at m c hO t _ s _).trans ?_)
  refine congrArg (fun q => m ((c : Thread nD τ).loc main_arg0) (ix2 _ q)) (Fin.ext ?_)
  exact Nat.div_add_mod d.val 512

theorem parity (t : Fin (cfgM m hO).N) (ht : t.val % 2 = 1) : (before m hO t).val % 2 = 0 ∧ (before m hO t).val / 2 = t.val / 2 := by
  have e : (before m hO t).val = t.val - 1 := rfl
  rw [e]; constructor <;> omega

/-- A tile in use leaves its expert's rows. -/
theorem out_at (t : Fin (cfgM m hO).N) (ht : t.val % 2 = 1) (e : Fin 8) (he : (wordAt (tabs m) (grid0.coords t)).toNat = e.val + 8)
    (he' : (wordAt (tabs m) (grid0.coords (before m hO t))).toNat = e.val + 8) (p : Fin 2) (s : Fin 1024) (j : Fin 512) :
    (outAt m hO c t (ix3 p s j) : EReal) = expertAt (m ((c : Thread nD τ).loc main_arg0)) (m ((c : Thread nD τ).loc main_arg2)) (m ((c : Thread nD τ).loc main_arg3))
      (m ((c : Thread nD τ).loc main_arg4)) e ⟨1024 * (t.val / 2) + s.val, row_lt (tile_of t) s.isLt⟩ (planeCol p j) := by
  obtain ⟨hb, hd⟩ := parity m hO t ht
  have hrow : ∀ d : Fin 1024, (rowsOf (xAt m hO c (before m hO t)) (ix2 s d) : EReal)
      = m ((c : Thread nD τ).loc main_arg0) (ix2 (⟨1024 * (t.val / 2) + s.val, row_lt (tile_of t) s.isLt⟩ : Fin 139264) d) := fun d => by
    refine (row_at m c hO (before m hO t) s d).trans ?_
    exact congrArg (fun q => m ((c : Thread nD τ).loc main_arg0) (ix2 q d)) (Fin.ext (by show 1024 * ((before m hO t).val / 2) + s.val = 1024 * (t.val / 2) + s.val; rw [hd]))
  unfold outAt accAt
  refine (packed_at _ p s j).trans ((accSecond_at _ _ _ _ _ s _).trans ?_)
  unfold expertAt
  rw [swiglu_halves]
  refine congrArg₂ (· + ·) ((accFirst_at _ _ _ _ s _).trans ?_) ?_
  · have a1 : up (w1At m hO c (before m hO t)) = fun d (k : Fin 1792) => (m ((c : Thread nD τ).loc main_arg2) (ix4 (1 : Fin 2) e d ⟨k.val, by omega⟩) : EReal) :=
      funext fun d => funext fun k => (up_index m c hO (before m hO t) e he' d k (in_half _ _ (Nat.mod_lt _ (by decide)) k.isLt)).trans
        (at_half (fun q => m ((c : Thread nD τ).loc main_arg2) (ix4 (1 : Fin 2) e d q)) _ _ _ _ hb)
    have a2 : up (w3At m hO c (before m hO t)) = fun d (k : Fin 1792) => (m ((c : Thread nD τ).loc main_arg3) (ix4 (1 : Fin 2) e d ⟨k.val, by omega⟩) : EReal) :=
      funext fun d => funext fun k => (gate_index m c hO (before m hO t) e he' d k (in_half _ _ (Nat.mod_lt _ (by decide)) k.isLt)).trans
        (at_half (fun q => m ((c : Thread nD τ).loc main_arg3) (ix4 (1 : Fin 2) e d q)) _ _ _ _ hb)
    have a3 : down (w2At m hO c (before m hO t)) = fun (k : Fin 1792) d => (m ((c : Thread nD τ).loc main_arg4) (ix4 (1 : Fin 2) e ⟨k.val, by omega⟩ d) : EReal) :=
      funext fun k => funext fun d => (down_index m c hO (before m hO t) e he' k d (in_half _ _ (Nat.mod_lt _ (by decide)) k.isLt)).trans
        (at_half (fun q => m ((c : Thread nD τ).loc main_arg4) (ix4 (1 : Fin 2) e q d)) _ _ _ _ hb)
    rw [a1, a2, a3, funext hrow]
    rfl
  · have a1 : up (w1At m hO c t) = fun d (k : Fin 1792) => (m ((c : Thread nD τ).loc main_arg2) (ix4 (1 : Fin 2) e d ⟨1792 + k.val, by omega⟩) : EReal) :=
      funext fun d => funext fun k => (up_index m c hO t e he d k (in_half _ _ (Nat.mod_lt _ (by decide)) k.isLt)).trans
        (at_half' (fun q => m ((c : Thread nD τ).loc main_arg2) (ix4 (1 : Fin 2) e d q)) _ _ _ _ ht)
    have a2 : up (w3At m hO c t) = fun d (k : Fin 1792) => (m ((c : Thread nD τ).loc main_arg3) (ix4 (1 : Fin 2) e d ⟨1792 + k.val, by omega⟩) : EReal) :=
      funext fun d => funext fun k => (gate_index m c hO t e he d k (in_half _ _ (Nat.mod_lt _ (by decide)) k.isLt)).trans
        (at_half' (fun q => m ((c : Thread nD τ).loc main_arg3) (ix4 (1 : Fin 2) e d q)) _ _ _ _ ht)
    have a3 : down (w2At m hO c t) = fun (k : Fin 1792) d => (m ((c : Thread nD τ).loc main_arg4) (ix4 (1 : Fin 2) e ⟨1792 + k.val, by omega⟩ d) : EReal) :=
      funext fun k => funext fun d => (down_index m c hO t e he k d (in_half _ _ (Nat.mod_lt _ (by decide)) k.isLt)).trans
        (at_half' (fun q => m ((c : Thread nD τ).loc main_arg4) (ix4 (1 : Fin 2) e q d)) _ _ _ _ ht)
    rw [a1, a2, a3, funext hrow]
    rfl

/-! ## The array after the run -/

/-- The result's block is written back at the second point of every tile. -/
theorem flush_iff (t : Fin (cfgM m hO).N) : ((cfgM m hO).win 4).flush t = true ↔ t.val % 2 = 1 :=
  Pipeline.Window.flushOf_reads cc0_transform_4 reads0_4 hreads0_4 0 (by decide) (by decide)
    (Pipeline.Window.sep_of_coord cc0_transform_4 0 1 (fun _ => rfl) (by decide)) (P := 2) (m := 1) (by decide) rfl t

section Counts
variable (f : ℕ → ℕ) (hf : ∀ e, f e ≤ 131072) (hm : ∀ e : Fin 8, m (((0 : Dev nD) : Thread nD τ).loc main_arg1) (ix1 e) = BitVec.ofNat 32 (f e.val))

/-- The expert of a row in use. -/
def expertOfRow (f : ℕ → ℕ) (r : ℕ) : Fin 8 := ⟨min (expertOf f (r / 1024)) 7, by omega⟩

/-- What the array holds at a row in use. -/
def value (f : ℕ → ℕ) (i : S2x139264x512.Idx) : EReal :=
  expertAt (m ((c : Thread nD τ).loc main_arg0)) (m ((c : Thread nD τ).loc main_arg2)) (m ((c : Thread nD τ).loc main_arg3)) (m ((c : Thread nD τ).loc main_arg4))
    (expertOfRow f (i 1).val) (i 1) (planeCol (i 0) (i 2))

include hf hm in
theorem word_of_counts (t : Fin grid0.N) : (wordAt (tabs m) (grid0.coords t)).toNat = min (expertOf f (t.val / 2)) 7 + 8 := by
  rw [wordAt_tabs, tableE_at _ f hm hf, coord0, BitVec.toNat_ofNat]
  exact Nat.mod_eq_of_lt (by omega)

/-- Where point `t`'s block of the result places an element. -/
theorem place (t : Fin (cfgM m hO).N) (p : Fin 2) (s : Fin 1024) (j : Fin 512) :
    ((((cfgM m hO).win 4).blk t).view.emb (ix3 p s j) : S2x139264x512.Idx) = ix3 p (⟨1024 * (t.val / 2) + s.val, row_lt (tile_of t) s.isLt⟩ : Fin 139264) j := by
  funext a; refine Fin.ext ?_
  have h0 := coord0 t
  match a with
  | ⟨0, _⟩ => show 0 * 2 + 1 * p.val = p.val; omega
  | ⟨1, _⟩ =>
    show (BitVec.ofNat 32 (grid0.coords t 0).val).toNat * 1024 + 1 * s.val = 1024 * (t.val / 2) + s.val
    have := tile_of t
    rw [h0, BitVec.toNat_ofNat, Nat.mod_eq_of_lt (by omega)]; omega
  | ⟨2, _⟩ => show 0 * 512 + 1 * j.val = j.val; omega

/-- The value at given coordinates. -/
theorem value_at (p : Fin 2) (q : Fin 139264) (j : Fin 512) :
    value m c f (ix3 p q j) = expertAt (m ((c : Thread nD τ).loc main_arg0)) (m ((c : Thread nD τ).loc main_arg2)) (m ((c : Thread nD τ).loc main_arg3))
      (m ((c : Thread nD τ).loc main_arg4)) (expertOfRow f q.val) q (planeCol p j) := rfl

theorem expertOfRow_val (n s : ℕ) (hs : s < 1024) : (expertOfRow f (1024 * n + s)).val = min (expertOf f n) 7 := by
  have hrow : (1024 * n + s) / 1024 = n := by omega
  exact congrArg (fun q => min (expertOf f q) 7) hrow

include hf hm in
/-- What a point that writes back leaves, where its tile is in use. -/
theorem out_value (t : Fin (cfgM m hO).N) (hodd : t.val % 2 = 1) (p : Fin 2) (s : Fin 1024) (j : Fin 512) (i : S2x139264x512.Idx)
    (hi : i = ix3 p (⟨1024 * (t.val / 2) + s.val, row_lt (tile_of t) s.isLt⟩ : Fin 139264) j) :
    outAt m hO c t (ix3 p s j) = value m c f i := by
  refine Eq.trans ?_ ((congrArg (value m c f) hi).trans (value_at m c f p _ j)).symm
  have hd := (parity m hO t hodd).2
  have he := expertOfRow_val f (t.val / 2) s.val s.isLt
  have hw := (word_of_counts m f hf hm t).trans (congrArg (· + 8) he).symm
  have hw' := (word_of_counts m f hf hm (before m hO t)).trans ((congrArg (fun q => min (expertOf f q) 7 + 8) hd).trans (congrArg (· + 8) he).symm)
  exact out_at m c hO t hodd (expertOfRow f (1024 * (t.val / 2) + s.val)) hw hw' p s j

/-- The tile in use, read off the element's place. -/
theorem tile_in_use (t : Fin (cfgM m hO).N) (p : Fin 2) (s : Fin 1024) (j : Fin 512) (i : S2x139264x512.Idx)
    (hi : i = ix3 p (⟨1024 * (t.val / 2) + s.val, row_lt (tile_of t) s.isLt⟩ : Fin 139264) j)
    (h : (i 1).val / 1024 < upto f 8) : t.val / 2 < upto f 8 := by
  subst hi
  have hrow : (1024 * (t.val / 2) + s.val) / 1024 = t.val / 2 := by
    have := s.isLt; omega
  exact hrow ▸ h

/-- The point that writes an element back. -/
theorem point_lt (i : S2x139264x512.Idx) : 2 * ((i 1).val / 1024) + 1 < (cfgM m hO).N := by
  have hi1 : (i 1).val < 139264 := (i 1).isLt
  show _ < grid0.N
  rw [N_0]; omega

/-- Every element lies in the block of a point that writes back. -/
theorem covered (i : S2x139264x512.Idx) :
    ∃ t : Fin (cfgM m hO).N, ((cfgM m hO).win 4).flush t ∧ i ∈ (((cfgM m hO).win 4).blk t).view.set := by
  refine ⟨⟨2 * ((i 1).val / 1024) + 1, point_lt m hO i⟩, (flush_iff m hO _).mpr (by show (2 * ((i 1).val / 1024) + 1) % 2 = 1; omega), ?_⟩
  have hpl := place m hO ⟨2 * ((i 1).val / 1024) + 1, point_lt m hO i⟩ (i 0) ⟨(i 1).val % 1024, Nat.mod_lt _ (by decide)⟩ (i 2)
  have he : i = ((((cfgM m hO).win 4).blk ⟨2 * ((i 1).val / 1024) + 1, point_lt m hO i⟩).view.emb (ix3 (i 0) (⟨(i 1).val % 1024, Nat.mod_lt _ (by decide)⟩ : Fin 1024) (i 2)) : S2x139264x512.Idx) := by
    refine Eq.trans ?_ hpl.symm
    refine (eq_ix3 i).trans (congrArg (fun q : Fin 139264 => (ix3 (i 0) q (i 2) : S2x139264x512.Idx)) (Fin.ext ?_))
    show (i 1).val = 1024 * ((2 * ((i 1).val / 1024) + 1) / 2) + (i 1).val % 1024
    omega
  have hmem := View.emb_mem_set (((cfgM m hO).win 4).blk ⟨2 * ((i 1).val / 1024) + 1, point_lt m hO i⟩).view (ix3 (i 0) (⟨(i 1).val % 1024, Nat.mod_lt _ (by decide)⟩ : Fin 1024) (i 2))
  exact Eq.mp (congrArg (fun q => q ∈ (((cfgM m hO).win 4).blk ⟨2 * ((i 1).val / 1024) + 1, point_lt m hO i⟩).view.set) he.symm) hmem

/-- The array's predicate: a row in use holds its value. -/
def Holds (i : S2x139264x512.Idx) (v : EReal) : Prop := (i 1).val / 1024 < upto f 8 → v = value m c f i

include hf hm in
/-- The array after the run, at a row in use. -/
theorem array_at (r : PUnit × MemSt nD τ sig (Elt Ideal)) (h : RDat.FramePost (cfgM m hO) (data m hO) (V m) r) (i : S2x139264x512.Idx)
    (hi : (i 1).val / 1024 < upto f 8) : r.2.mem ((c : Thread nD τ).loc main_v33) i = value m c f i := by
  obtain ⟨after, hL, hA⟩ := h.exists_exact c
  refine (congrFun (hA 4) i).trans ?_
  refine Dat.arrAt_forall_of_cover (((data m hO) c).withAfter after) 4 (Holds m c f) (fun t ht y => ?_) (covered m hO) i hi
  obtain ⟨Y, -, hX⟩ := hL 4 t ht
  obtain ⟨p, s, j, hy⟩ : ∃ (p : Fin 2) (s : Fin 1024) (j : Fin 512), y = ix3 p s j :=
    ⟨_, _, _, eq_ix3 (show S2x1024x512.Idx from y)⟩
  have hodd := (flush_iff m hO t).mp ht
  intro hu
  have hpl : ((((cfgM m hO).win 4).blk t).view.emb y : S2x139264x512.Idx) = _ := (congrArg (((cfgM m hO).win 4).blk t).view.emb hy).trans (place m hO t p s j)
  have hused := tile_in_use m hO f t p s j _ hpl hu
  have hout := hX hodd (used_of_counts m c (t.val / 2) (tile_of t) f hf hm hused)
  have hval := out_value m c hO f hf hm t hodd p s j _ hpl
  refine Eq.trans ?_ hval
  refine (congrFun hout _).trans ?_
  exact congrArg (outAt m hO c t) hy

end Counts

end Cert.Kernel3Ideal.Moe

end
-- ==== Proof.MoeWords.lean ====
module
public import proofs.«01_k».proof.Proof.MoeSpec
public import Idealize.ShloMosaic.Lib.Routing.Words
public import Idealize.ShloMosaic.Lib.Pointwise

@[expose] public section

/-! # Rounding a count up to whole tiles by a negated floor division, in words -/

noncomputable section

namespace Cert.MoeWords

open Idealize.ShloMosaic Idealize.ShloMosaic.WordCmp Cert.MoeSpec

/-- The word of a negated small positive number is negative. -/
theorem msb_neg {n : ℕ} (h0 : 0 < n) (hn : n ≤ 131072) : (-(BitVec.ofNat 32 n)).msb = true := by
  have h : (-(BitVec.ofNat 32 n)).toNat = 2 ^ 32 - n := by
    rw [BitVec.toNat_neg, BitVec.toNat_ofNat, Nat.mod_eq_of_lt (by omega), Nat.mod_eq_of_lt (by omega)]
  rw [BitVec.msb_eq_true_iff_two_mul_ge, h]
  omega

theorem not_corner (x : BitVec 32) : ¬ IntOp.SDivCorner x (BitVec.ofNat 32 1024) := by
  rintro (h | ⟨_, h⟩)
  · exact Routing.ofNat32_ne_zero (by norm_num) (by norm_num) h
  · exact Routing.ofNat32_ne_neg_one (by norm_num) h

theorem div_neg {n : ℕ} (h0 : 0 < n) (hn : n ≤ 131072) :
    IntOp.divsi .host (-(BitVec.ofNat 32 n)) (BitVec.ofNat 32 1024) = -(BitVec.ofNat 32 (n / 1024)) := by
  unfold IntOp.divsi
  rw [if_neg (not_corner _), BitVec.sdiv_eq, msb_neg h0 hn, Routing.msb_ofNat32 (show 1024 < 2 ^ 31 by norm_num)]
  show -((-(-(BitVec.ofNat 32 n))).udiv (BitVec.ofNat 32 1024)) = _
  rw [neg_neg]
  exact congrArg (- ·) (Routing.udiv_ofNat32 (by omega) (by norm_num))

theorem rem_neg {n : ℕ} (h0 : 0 < n) (hn : n ≤ 131072) :
    IntOp.remsi .host (-(BitVec.ofNat 32 n)) (BitVec.ofNat 32 1024) = -(BitVec.ofNat 32 (n % 1024)) := by
  unfold IntOp.remsi
  rw [if_neg (not_corner _), BitVec.srem_eq, msb_neg h0 hn, Routing.msb_ofNat32 (show 1024 < 2 ^ 31 by norm_num)]
  show -((-(-(BitVec.ofNat 32 n))) % (BitVec.ofNat 32 1024)) = _
  rw [neg_neg]
  exact congrArg (- ·) (Routing.umod_ofNat32 (by omega) (by norm_num))

section
variable {s : Shape} (hb : Routing.shape0.BroadcastsInDim s (![] : Fin 0 → Fin s.rank))

/-- A count's rows in whole tiles, as the reference counts them: negated, divided down, negated. -/
def rowsUp (n : IVec s 32) : IVec s 32 :=
  muli (negi (Routing.pyDiv hb (negi n) (constantI Routing.shape0 32 1024#32))) (broadcastInDim s ![] hb (constantI Routing.shape0 32 1024#32))

theorem floor_neg (n : IVec s 32) (d : IVec Routing.shape0 32) (hd : d ValueIdx.ix0 = BitVec.ofNat 32 1024) (i : s.Idx) {a : ℕ}
    (hn : n i = BitVec.ofNat 32 a) (ha : a ≤ 131072) : Routing.pyDiv hb (negi n) d i = -(BitVec.ofNat 32 ((a + 1023) / 1024)) := by
  rcases Nat.eq_zero_or_pos a with h | h
  · subst h
    have hz : negi n i = BitVec.ofNat 32 0 := by rw [negi_apply, hn]; decide
    rw [Routing.pyDiv_ap (a := 0) (b := 1024) hb _ _ _ hz hd (by norm_num) (by norm_num) (by norm_num)]
    decide
  · have hx : negi n i = -(BitVec.ofNat 32 a) := by rw [negi_apply, hn]
    have hx0 : -(BitVec.ofNat 32 a) ≠ 0 := fun e => Routing.ofNat32_ne_zero h (show a < 2 ^ 32 by omega) (neg_eq_zero.mp e)
    unfold Routing.pyDiv
    simp only [select_at, cmpi_at, andi_at, Routing.subi_ap, Host.remsi_apply, Host.divsi_apply, signi_apply, Routing.bc0, constantI_at, hx, hd, div_neg h ha, rem_neg h ha, if_neg hx0,
      msb_neg h ha, if_neg (Routing.ofNat32_ne_zero (show 0 < 1024 by norm_num) (by norm_num)), Routing.msb_ofNat32 (show 1024 < 2 ^ 31 by norm_num), if_true,
      Bool.false_eq_true, if_false]
    have e : IntOp.cmpi .ne (-1 : BitVec 32) 1 = 1#1 := by decide
    rw [e]
    by_cases hr : a % 1024 = 0
    · rw [hr]
      have e2 : IntOp.cmpi .ne (-(BitVec.ofNat 32 0)) (0#32) = 0#1 := by decide
      rw [e2]
      show -(BitVec.ofNat 32 (a / 1024)) = _
      rw [show (a + 1023) / 1024 = a / 1024 by omega]
    · have hne : -(BitVec.ofNat 32 (a % 1024)) ≠ 0#32 := fun e => Routing.ofNat32_ne_zero (show 0 < a % 1024 by omega) (show a % 1024 < 2 ^ 32 by omega) (neg_eq_zero.mp e)
      have e2 : IntOp.cmpi .ne (-(BitVec.ofNat 32 (a % 1024))) (0#32) = 1#1 := by
        show BitVec.ofBool (_ != _) = 1#1
        rw [bne_iff_ne.mpr hne]; rfl
      rw [e2]
      show -(BitVec.ofNat 32 (a / 1024)) - 1#32 = _
      rw [show (a + 1023) / 1024 = a / 1024 + 1 by omega, ← BitVec.ofNat_add_ofNat, neg_add]
      exact sub_eq_add_neg _ _

theorem rowsUp_at (n : IVec s 32) (i : s.Idx) {a : ℕ} (hn : n i = BitVec.ofNat 32 a) (ha : a ≤ 131072) :
    rowsUp hb n i = BitVec.ofNat 32 ((a + 1023) / 1024 * 1024) := by
  unfold rowsUp
  rw [Routing.muli_ap, negi_apply, floor_neg hb n _ rfl i hn ha, neg_neg, Routing.bc0]
  exact BitVec.ofNat_mul_ofNat _ _
end

end Cert.MoeWords

end
-- ==== Proof.MoeRef.lean ====
module
public import proofs.«01_k».proof.Proof.MoeWords
public import proofs.«01_k».proof.Proof.Gen.Reference3Ideal.Read
public import Idealize.ShloMosaic.Lib.Pointwise

@[expose] public section

/-! # What the experts' reference computes at a row and a column -/

noncomputable section

namespace Cert.Reference3Ideal.Moe

open Idealize.ShloMosaic Idealize.ShloMosaic.WordCmp
open Cert.Reference3Ideal Cert.Reference3Ideal.Gen Cert.Reference3Ideal.Read Cert.TailSpec Cert.MoeSpec Cert.MoeWords

/-! ## One expert over all rows -/

section Expert
variable (x : FVec Ideal S139264x1024 .f32) (w1 w3 : FVec Ideal S1024x3584 .f32) (w2 : FVec Ideal S3584x1024 .f32)

/-- A product with an expert's first weights. -/
def up (w : FVec Ideal S1024x3584 .f32) : FVec Ideal S139264x3584 .f32 :=
  Host.dotGeneral dot_S139264x1024_S1024x3584_S139264x3584_1_0_0_1_n_n none x w

theorem up_at (w : FVec Ideal S1024x3584 .f32) (r : Fin 139264) (k : Fin 3584) :
    (up x w (ix2 r k) : EReal) = ∑ d : Fin 1024, (x (ix2 r d) : EReal) * w (ix2 d k) := by
  pointwise [up]

/-- The unit's activation of an array. -/
def act (y : FVec Ideal S139264x3584 .f32) : FVec Ideal S139264x3584 .f32 :=
  mulf y (Host.divf (broadcastInDim S139264x3584 ![] bcast_S_S139264x3584 (constant S_ .f32 0x3F800000#32))
    (addf (broadcastInDim S139264x3584 ![] bcast_S_S139264x3584 (constant S_ .f32 0x3F800000#32)) (Host.exp (Host.negf y))))

theorem act_at (y : FVec Ideal S139264x3584 .f32) (r : Fin 139264) (k : Fin 3584) : (act y (ix2 r k) : EReal) = silu (y (ix2 r k)) := by
  rw [← silu_mul, ← one_bits]
  pointwise [act]

/-- An expert's output over all rows. -/
def out : FVec Ideal S139264x1024 .f32 :=
  Host.dotGeneral dot_S139264x3584_S3584x1024_S139264x1024_1_0_0_1_n_n none (mulf (act (up x w1)) (up x w3)) w2

theorem out_at (r : Fin 139264) (c : Fin 1024) :
    (out x w1 w3 w2 (ix2 r c) : EReal) = swiglu (fun d k => w1 (ix2 d k)) (fun d k => w3 (ix2 d k)) (fun k c => w2 (ix2 k c)) (fun d => x (ix2 r d)) c := by
  have e : (out x w1 w3 w2 (ix2 r c) : EReal) = ∑ k : Fin 3584, ((act (up x w1) (ix2 r k) : EReal) * up x w3 (ix2 r k)) * w2 (ix2 k c) := by
    unfold out
    generalize act (up x w1) = a
    generalize up x w3 = b
    pointwise
  rw [e]
  simp only [act_at, up_at]
  rfl

end Expert

/-! ## An expert's weights, out of the stacked ones -/

theorem first_at (e : Fin 8) (off : Fin 4 → ℕ) (ho : off = ![1, e.val, 0, 0]) (w : FVec Ideal S2x8x1024x3584 .f32)
    (hs : S2x8x1024x3584.Slices off S1x1x1024x3584) (d : Fin 1024) (k : Fin 3584) :
    shapeCast S1024x3584 (extractStridedSlice S1x1x1024x3584 off w hs) shapeCasts_S1x1x1024x3584_S1024x3584 (ix2 d k) = w (ix4 (1 : Fin 2) e d k) := by
  subst ho
  refine (shapeCast_apply _ _ (ix2 d k) (ix4 (0 : Fin 1) (0 : Fin 1) d k) ?_).trans ?_
  · rw [Shape.rowMajor_val_two, Shape.rowMajor_val_four]
    show ((0 * 1 + 0) * 1024 + d.val) * 3584 + k.val = d.val * 3584 + k.val
    omega
  · refine extractStridedSlice_apply _ w hs _ (ix4 (1 : Fin 2) e d k) fun a => ?_
    match a with
    | ⟨0, _⟩ => rfl
    | ⟨1, _⟩ => rfl
    | ⟨2, _⟩ => exact (Nat.zero_add _).symm
    | ⟨3, _⟩ => exact (Nat.zero_add _).symm

theorem second_at (e : Fin 8) (off : Fin 4 → ℕ) (ho : off = ![1, e.val, 0, 0]) (w : FVec Ideal S2x8x3584x1024 .f32)
    (hs : S2x8x3584x1024.Slices off S1x1x3584x1024) (k : Fin 3584) (d : Fin 1024) :
    shapeCast S3584x1024 (extractStridedSlice S1x1x3584x1024 off w hs) shapeCasts_S1x1x3584x1024_S3584x1024 (ix2 k d) = w (ix4 (1 : Fin 2) e k d) := by
  subst ho
  refine (shapeCast_apply _ _ (ix2 k d) (ix4 (0 : Fin 1) (0 : Fin 1) k d) ?_).trans ?_
  · rw [Shape.rowMajor_val_two, Shape.rowMajor_val_four]
    show ((0 * 1 + 0) * 3584 + k.val) * 1024 + d.val = k.val * 1024 + d.val
    omega
  · refine extractStridedSlice_apply _ w hs _ (ix4 (1 : Fin 2) e k d) fun a => ?_
    match a with
    | ⟨0, _⟩ => rfl
    | ⟨1, _⟩ => rfl
    | ⟨2, _⟩ => exact (Nat.zero_add _).symm
    | ⟨3, _⟩ => exact (Nat.zero_add _).symm

section Stacked
variable (x : FVec Ideal S139264x1024 .f32) (w1 w3 : FVec Ideal S2x8x1024x3584 .f32) (w2 : FVec Ideal S2x8x3584x1024 .f32)

/-- An expert's output, its weights sliced out of the stacked ones. -/
theorem expert_at (e : Fin 8) (off : Fin 4 → ℕ) (ho : off = ![1, e.val, 0, 0]) (h1 : S2x8x1024x3584.Slices off S1x1x1024x3584)
    (h2 : S2x8x3584x1024.Slices off S1x1x3584x1024) (r : Fin 139264) (c : Fin 1024) :
    (out x (shapeCast S1024x3584 (extractStridedSlice S1x1x1024x3584 off w1 h1) shapeCasts_S1x1x1024x3584_S1024x3584)
      (shapeCast S1024x3584 (extractStridedSlice S1x1x1024x3584 off w3 h1) shapeCasts_S1x1x1024x3584_S1024x3584)
      (shapeCast S3584x1024 (extractStridedSlice S1x1x3584x1024 off w2 h2) shapeCasts_S1x1x3584x1024_S3584x1024) (ix2 r c) : EReal)
      = expertAt x w1 w3 w2 e r c := by
  rw [out_at]
  simp only [first_at e off ho, second_at e off ho]
  rfl

/-! The eight experts of the reference. -/

theorem expert0_at (r : Fin 139264) (c : Fin 1024) : (val_main_v26 (F := Ideal) x w1 w3 w2 (ix2 r c) : EReal) = expertAt x w1 w3 w2 0 r c :=
  expert_at x w1 w3 w2 0 ![1, 0, 0, 0] rfl slices_S2x8x1024x3584_S1x1x1024x3584_1_0_0_0 slices_S2x8x3584x1024_S1x1x3584x1024_1_0_0_0 r c
theorem expert1_at (r : Fin 139264) (c : Fin 1024) : (val_main_v50 (F := Ideal) x w1 w3 w2 (ix2 r c) : EReal) = expertAt x w1 w3 w2 1 r c :=
  expert_at x w1 w3 w2 1 ![1, 1, 0, 0] rfl slices_S2x8x1024x3584_S1x1x1024x3584_1_1_0_0 slices_S2x8x3584x1024_S1x1x3584x1024_1_1_0_0 r c
theorem expert2_at (r : Fin 139264) (c : Fin 1024) : (val_main_v74 (F := Ideal) x w1 w3 w2 (ix2 r c) : EReal) = expertAt x w1 w3 w2 2 r c :=
  expert_at x w1 w3 w2 2 ![1, 2, 0, 0] rfl slices_S2x8x1024x3584_S1x1x1024x3584_1_2_0_0 slices_S2x8x3584x1024_S1x1x3584x1024_1_2_0_0 r c
theorem expert3_at (r : Fin 139264) (c : Fin 1024) : (val_main_v98 (F := Ideal) x w1 w3 w2 (ix2 r c) : EReal) = expertAt x w1 w3 w2 3 r c :=
  expert_at x w1 w3 w2 3 ![1, 3, 0, 0] rfl slices_S2x8x1024x3584_S1x1x1024x3584_1_3_0_0 slices_S2x8x3584x1024_S1x1x3584x1024_1_3_0_0 r c
theorem expert4_at (r : Fin 139264) (c : Fin 1024) : (val_main_v122 (F := Ideal) x w1 w3 w2 (ix2 r c) : EReal) = expertAt x w1 w3 w2 4 r c :=
  expert_at x w1 w3 w2 4 ![1, 4, 0, 0] rfl slices_S2x8x1024x3584_S1x1x1024x3584_1_4_0_0 slices_S2x8x3584x1024_S1x1x3584x1024_1_4_0_0 r c
theorem expert5_at (r : Fin 139264) (c : Fin 1024) : (val_main_v146 (F := Ideal) x w1 w3 w2 (ix2 r c) : EReal) = expertAt x w1 w3 w2 5 r c :=
  expert_at x w1 w3 w2 5 ![1, 5, 0, 0] rfl slices_S2x8x1024x3584_S1x1x1024x3584_1_5_0_0 slices_S2x8x3584x1024_S1x1x3584x1024_1_5_0_0 r c
theorem expert6_at (r : Fin 139264) (c : Fin 1024) : (val_main_v170 (F := Ideal) x w1 w3 w2 (ix2 r c) : EReal) = expertAt x w1 w3 w2 6 r c :=
  expert_at x w1 w3 w2 6 ![1, 6, 0, 0] rfl slices_S2x8x1024x3584_S1x1x1024x3584_1_6_0_0 slices_S2x8x3584x1024_S1x1x3584x1024_1_6_0_0 r c
theorem expert7_at (r : Fin 139264) (c : Fin 1024) : (val_main_v194 (F := Ideal) x w1 w3 w2 (ix2 r c) : EReal) = expertAt x w1 w3 w2 7 r c :=
  expert_at x w1 w3 w2 7 ![1, 7, 0, 0] rfl slices_S2x8x1024x3584_S1x1x1024x3584_1_7_0_0 slices_S2x8x3584x1024_S1x1x3584x1024_1_7_0_0 r c

end Stacked

/-! ## The rows of each expert -/

/-- The rows from a start on and before an end, over all columns. -/
def inside (a b : IVec S_ 32) : IVec S139264x1024 1 :=
  broadcastInDim S139264x1024 ![0, 1] bcast_S139264x1_S139264x1024_0_1 (broadcastInDim S139264x1 ![0] bcast_S139264_S139264x1_0
    (andi (cmpi .sge (iotaInDim S139264 32 0) (broadcastInDim S139264 ![] bcast_S_S139264 a))
      (cmpi .slt (iotaInDim S139264 32 0) (broadcastInDim S139264 ![] bcast_S_S139264 b))))

theorem inside_at (a b : IVec S_ 32) (p q : ℕ) (ha : a ValueIdx.ix0 = BitVec.ofNat 32 p) (hb : b ValueIdx.ix0 = BitVec.ofNat 32 q)
    (hp : p < 2 ^ 31) (hq : q < 2 ^ 31) (r : Fin 139264) (c : Fin 1024) : inside a b (ix2 r c) = 1#1 ↔ p ≤ r.val ∧ r.val < q := by
  have hr := r.isLt
  have e : inside a b (ix2 r c) = IntOp.andi (BitVec.ofBool ((BitVec.ofNat 32 p).sle (BitVec.ofNat 32 r.val)))
      (BitVec.ofBool ((BitVec.ofNat 32 r.val).slt (BitVec.ofNat 32 q))) := by
    unfold inside
    refine (broadcastInDim_apply _ bcast_S139264x1_S139264x1024_0_1 _ (ix2 r c) (ix2 r (0 : Fin 1)) fun x => ?_).trans ?_
    · match x with
      | ⟨0, _⟩ => rfl
      | ⟨1, _⟩ => rfl
    refine (broadcastInDim_apply _ bcast_S139264_S139264x1_0 _ (ix2 r (0 : Fin 1)) (ix1 r) fun x => ?_).trans ?_
    · match x with
      | ⟨0, _⟩ => rfl
    have e1 : broadcastInDim S139264 ![] bcast_S_S139264 a (ix1 r) = BitVec.ofNat 32 p := (Routing.bc0 _ _ _).trans ha
    have e2 : broadcastInDim S139264 ![] bcast_S_S139264 b (ix1 r) = BitVec.ofNat 32 q := (Routing.bc0 _ _ _).trans hb
    rw [andi_at, cmpi_at, cmpi_at, e1, e2]
    rfl
  rw [e, Routing.sle_ofNat32 hp (by omega), Routing.slt_ofNat32 (by omega) hq]
  by_cases h1 : p ≤ r.val <;> by_cases h2 : r.val < q <;> simp [h1, h2, IntOp.andi]

/-- One entry of a vector, as a scalar. -/
theorem entry_at (e : Fin 8) (off : Fin 1 → ℕ) (ho : off = ![e.val]) (y : IVec S8 32) (hs : S8.Slices off S1) :
    shapeCast S_ (extractStridedSlice S1 off y hs) shapeCasts_S1_S_ ValueIdx.ix0 = y (ValueIdx.ix1 e) := by
  subst ho
  refine (shapeCast_apply _ _ ValueIdx.ix0 (ValueIdx.ix1 (0 : Fin 1)) ?_).trans ?_
  · rfl
  · refine extractStridedSlice_apply _ y hs _ (ValueIdx.ix1 e) fun a => ?_
    match a with
    | ⟨0, _⟩ => rfl

section Rows
variable (n : IVec S8 32) (f : ℕ → ℕ) (hn : ∀ e : Fin 8, n (ValueIdx.ix1 e) = BitVec.ofNat 32 (f e.val)) (hf : ∀ e, f e ≤ 131072)
include hn hf

/-- An expert's rows in whole tiles. -/
theorem rows_at (e : Fin 8) : val_main_v4 (F := Ideal) n (ValueIdx.ix1 e) = BitVec.ofNat 32 (tiles f e.val * 1024) :=
  rowsUp_at bcast_S_S8 n (ValueIdx.ix1 e) (hn e) (hf e.val)

/-- A start plus an expert's rows is where they end. -/
theorem end_at (e : Fin 8) (off : Fin 1 → ℕ) (ho : off = ![e.val]) (hs : S8.Slices off S1) (a : IVec S_ 32)
    (ha : a ValueIdx.ix0 = BitVec.ofNat 32 (upto f e.val * 1024)) :
    addi a (shapeCast S_ (extractStridedSlice S1 off (val_main_v4 (F := Ideal) n) hs) shapeCasts_S1_S_) ValueIdx.ix0 = BitVec.ofNat 32 (upto f (e.val + 1) * 1024) := by
  rw [Routing.addi_ap, entry_at e off ho, ha, rows_at n f hn hf, BitVec.ofNat_add_ofNat, upto_succ, Nat.add_mul]

theorem end0_at : val_main_v11 (F := Ideal) n ValueIdx.ix0 = BitVec.ofNat 32 (upto f 1 * 1024) :=
  end_at n f hn hf 0 ![0] rfl slices_S8_S1_0 _ rfl
theorem start1_at : val_main_v30 (F := Ideal) n ValueIdx.ix0 = BitVec.ofNat 32 (upto f 1 * 1024) :=
  end_at n f hn hf 0 ![0] rfl slices_S8_S1_0 _ rfl
theorem end1_at : val_main_v35 (F := Ideal) n ValueIdx.ix0 = BitVec.ofNat 32 (upto f 2 * 1024) :=
  end_at n f hn hf 1 ![1] rfl slices_S8_S1_1 _ (start1_at n f hn hf)
theorem start2_at : val_main_v54 (F := Ideal) n ValueIdx.ix0 = BitVec.ofNat 32 (upto f 2 * 1024) :=
  end_at n f hn hf 1 ![1] rfl slices_S8_S1_1 _ (start1_at n f hn hf)
theorem end2_at : val_main_v59 (F := Ideal) n ValueIdx.ix0 = BitVec.ofNat 32 (upto f 3 * 1024) :=
  end_at n f hn hf 2 ![2] rfl slices_S8_S1_2 _ (start2_at n f hn hf)
theorem start3_at : val_main_v78 (F := Ideal) n ValueIdx.ix0 = BitVec.ofNat 32 (upto f 3 * 1024) :=
  end_at n f hn hf 2 ![2] rfl slices_S8_S1_2 _ (start2_at n f hn hf)
theorem end3_at : val_main_v83 (F := Ideal) n ValueIdx.ix0 = BitVec.ofNat 32 (upto f 4 * 1024) :=
  end_at n f hn hf 3 ![3] rfl slices_S8_S1_3 _ (start3_at n f hn hf)
theorem start4_at : val_main_v102 (F := Ideal) n ValueIdx.ix0 = BitVec.ofNat 32 (upto f 4 * 1024) :=
  end_at n f hn hf 3 ![3] rfl slices_S8_S1_3 _ (start3_at n f hn hf)
theorem end4_at : val_main_v107 (F := Ideal) n ValueIdx.ix0 = BitVec.ofNat 32 (upto f 5 * 1024) :=
  end_at n f hn hf 4 ![4] rfl slices_S8_S1_4 _ (start4_at n f hn hf)
theorem start5_at : val_main_v126 (F := Ideal) n ValueIdx.ix0 = BitVec.ofNat 32 (upto f 5 * 1024) :=
  end_at n f hn hf 4 ![4] rfl slices_S8_S1_4 _ (start4_at n f hn hf)
theorem end5_at : val_main_v131 (F := Ideal) n ValueIdx.ix0 = BitVec.ofNat 32 (upto f 6 * 1024) :=
  end_at n f hn hf 5 ![5] rfl slices_S8_S1_5 _ (start5_at n f hn hf)
theorem start6_at : val_main_v150 (F := Ideal) n ValueIdx.ix0 = BitVec.ofNat 32 (upto f 6 * 1024) :=
  end_at n f hn hf 5 ![5] rfl slices_S8_S1_5 _ (start5_at n f hn hf)
theorem end6_at : val_main_v155 (F := Ideal) n ValueIdx.ix0 = BitVec.ofNat 32 (upto f 7 * 1024) :=
  end_at n f hn hf 6 ![6] rfl slices_S8_S1_6 _ (start6_at n f hn hf)
theorem start7_at : val_main_v174 (F := Ideal) n ValueIdx.ix0 = BitVec.ofNat 32 (upto f 7 * 1024) :=
  end_at n f hn hf 6 ![6] rfl slices_S8_S1_6 _ (start6_at n f hn hf)
theorem end7_at : val_main_v179 (F := Ideal) n ValueIdx.ix0 = BitVec.ofNat 32 (upto f 8 * 1024) :=
  end_at n f hn hf 7 ![7] rfl slices_S8_S1_7 _ (start7_at n f hn hf)
end Rows

/-! ## The rows of the experts, one after another -/

section Result
variable (x : FVec Ideal S139264x1024 .f32) (n : IVec S8 32) (w1 w3 : FVec Ideal S2x8x1024x3584 .f32) (w2 : FVec Ideal S2x8x3584x1024 .f32)
  (f : ℕ → ℕ) (hn : ∀ e : Fin 8, n (ValueIdx.ix1 e) = BitVec.ofNat 32 (f e.val)) (hf : ∀ e, f e ≤ 131072)

/-- An array that holds the rows of the first `k` experts. -/
def Good (k : ℕ) (y : FVec Ideal S139264x1024 .f32) : Prop :=
  ∀ (r : Fin 139264) (c : Fin 1024) (e : Fin 8), e.val < k → upto f e.val * 1024 ≤ r.val → r.val < upto f (e.val + 1) * 1024 →
    (y (ix2 r c) : EReal) = expertAt x w1 w3 w2 e r c

include hf in
/-- The next expert's rows written over. -/
theorem good_step (k : Fin 8) (a b : IVec S_ 32) (ha : a ValueIdx.ix0 = BitVec.ofNat 32 (upto f k.val * 1024))
    (hb : b ValueIdx.ix0 = BitVec.ofNat 32 (upto f (k.val + 1) * 1024)) (o y : FVec Ideal S139264x1024 .f32)
    (ho : ∀ (r : Fin 139264) (c : Fin 1024), (o (ix2 r c) : EReal) = expertAt x w1 w3 w2 k r c) (hy : Good x w1 w3 w2 f k.val y) :
    Good x w1 w3 w2 f (k.val + 1) (select (inside a b) o y) := by
  intro r c e he h1 h2
  have hk := k.isLt
  have hp := upto_le f hf k.val
  have hq := upto_le f hf (k.val + 1)
  have hin := inside_at a b _ _ ha hb (by omega) (by omega) r c
  rw [select_at]
  rcases Nat.lt_or_ge e.val k.val with h | h
  · have hm := upto_mono f (show e.val + 1 ≤ k.val by omega)
    have hnot : ¬ inside a b (ix2 r c) = 1#1 := fun h' => by have := (hin.mp h').1; omega
    exact (if_neg hnot).trans (hy r c e h h1 h2)
  · have hek : e = k := Fin.ext (by omega)
    subst hek
    exact (if_pos (hin.mpr ⟨h1, h2⟩)).trans (ho r c)

include hn hf in
/-- All experts' rows. -/
theorem good_all : Good x w1 w3 w2 f 8 (val_main_v195 (F := Ideal) x n w1 w3 w2) := by
  have g0 : Good x w1 w3 w2 f 0 (val_main_v6 (F := Ideal)) := fun r c e he => absurd he (Nat.not_lt_zero _)
  have g1 : Good x w1 w3 w2 f 1 (val_main_v27 (F := Ideal) x n w1 w3 w2) :=
    good_step x w1 w3 w2 f hf 0 (val_main_c_1 (F := Ideal)) (val_main_v11 (F := Ideal) n) rfl (end0_at n f hn hf)
      (val_main_v26 (F := Ideal) x w1 w3 w2) (val_main_v6 (F := Ideal)) (expert0_at x w1 w3 w2) g0
  have g2 : Good x w1 w3 w2 f 2 (val_main_v51 (F := Ideal) x n w1 w3 w2) :=
    good_step x w1 w3 w2 f hf 1 (val_main_v30 (F := Ideal) n) (val_main_v35 (F := Ideal) n) (start1_at n f hn hf) (end1_at n f hn hf)
      (val_main_v50 (F := Ideal) x w1 w3 w2) (val_main_v27 (F := Ideal) x n w1 w3 w2) (expert1_at x w1 w3 w2) g1
  have g3 : Good x w1 w3 w2 f 3 (val_main_v75 (F := Ideal) x n w1 w3 w2) :=
    good_step x w1 w3 w2 f hf 2 (val_main_v54 (F := Ideal) n) (val_main_v59 (F := Ideal) n) (start2_at n f hn hf) (end2_at n f hn hf)
      (val_main_v74 (F := Ideal) x w1 w3 w2) (val_main_v51 (F := Ideal) x n w1 w3 w2) (expert2_at x w1 w3 w2) g2
  have g4 : Good x w1 w3 w2 f 4 (val_main_v99 (F := Ideal) x n w1 w3 w2) :=
    good_step x w1 w3 w2 f hf 3 (val_main_v78 (F := Ideal) n) (val_main_v83 (F := Ideal) n) (start3_at n f hn hf) (end3_at n f hn hf)
      (val_main_v98 (F := Ideal) x w1 w3 w2) (val_main_v75 (F := Ideal) x n w1 w3 w2) (expert3_at x w1 w3 w2) g3
  have g5 : Good x w1 w3 w2 f 5 (val_main_v123 (F := Ideal) x n w1 w3 w2) :=
    good_step x w1 w3 w2 f hf 4 (val_main_v102 (F := Ideal) n) (val_main_v107 (F := Ideal) n) (start4_at n f hn hf) (end4_at n f hn hf)
      (val_main_v122 (F := Ideal) x w1 w3 w2) (val_main_v99 (F := Ideal) x n w1 w3 w2) (expert4_at x w1 w3 w2) g4
  have g6 : Good x w1 w3 w2 f 6 (val_main_v147 (F := Ideal) x n w1 w3 w2) :=
    good_step x w1 w3 w2 f hf 5 (val_main_v126 (F := Ideal) n) (val_main_v131 (F := Ideal) n) (start5_at n f hn hf) (end5_at n f hn hf)
      (val_main_v146 (F := Ideal) x w1 w3 w2) (val_main_v123 (F := Ideal) x n w1 w3 w2) (expert5_at x w1 w3 w2) g5
  have g7 : Good x w1 w3 w2 f 7 (val_main_v171 (F := Ideal) x n w1 w3 w2) :=
    good_step x w1 w3 w2 f hf 6 (val_main_v150 (F := Ideal) n) (val_main_v155 (F := Ideal) n) (start6_at n f hn hf) (end6_at n f hn hf)
      (val_main_v170 (F := Ideal) x w1 w3 w2) (val_main_v147 (F := Ideal) x n w1 w3 w2) (expert6_at x w1 w3 w2) g6
  have g8 : Good x w1 w3 w2 f 8 (val_main_v195 (F := Ideal) x n w1 w3 w2) :=
    good_step x w1 w3 w2 f hf 7 (val_main_v174 (F := Ideal) n) (val_main_v179 (F := Ideal) n) (start7_at n f hn hf) (end7_at n f hn hf)
      (val_main_v194 (F := Ideal) x w1 w3 w2) (val_main_v171 (F := Ideal) x n w1 w3 w2) (expert7_at x w1 w3 w2) g7
  exact g8

include hn hf in
/-- The reference's result at a row in use. -/
theorem result_at (p : Fin 2) (r : Fin 139264) (j : Fin 512) (e : Fin 8) (h1 : upto f e.val * 1024 ≤ r.val) (h2 : r.val < upto f (e.val + 1) * 1024) :
    (val_main_v201 (F := Ideal) x n w1 w3 w2 (ix3 p r j) : EReal) = expertAt x w1 w3 w2 e r (planeCol p j) := by
  refine Eq.trans ?_ (good_all x n w1 w3 w2 f hn hf r (planeCol p j) e e.isLt h1 h2)
  rw [val_main_v201_apply, val_main_v200_apply, val_main_v199_apply]
  show (val_main_v195 (F := Ideal) x n w1 w3 w2 _ : EReal) = _
  refine congrArg (val_main_v195 (F := Ideal) x n w1 w3 w2) (funext fun a => Fin.ext ?_)
  have hp := p.isLt
  have hr := r.isLt
  have hj := j.isLt
  match a with
  | ⟨0, _⟩ => show ((r.val * 2 + p.val) * 512 + j.val) / 1024 = r.val; omega
  | ⟨1, _⟩ => show ((r.val * 2 + p.val) * 512 + j.val) % 1024 = 512 * p.val + j.val; omega

end Result

end Cert.Reference3Ideal.Moe

end
-- ==== Proof.MoeMask.lean ====
module
public import proofs.«01_k».proof.Pre_counts_in_range
public import proofs.«01_k».proof.On_rows_in_use
public import proofs.«01_k».proof.Proof.MoeWords

@[expose] public section

/-! # The counts' range, and the rows in use -/

noncomputable section

namespace Cert.MoeMask

open Idealize.ShloMosaic Idealize.ShloMosaic.WordCmp Cert.MoeSpec Cert.MoeWords

/-- The side conditions the precondition states. -/
theorem pre_facts : Cert.Pre_counts_in_range.Facts where
  bcast_S_S8 := by decide

/-- The side conditions the mask states. -/
theorem mask_facts : Cert.On_rows_in_use.Facts where
  bcast_S_S8 := by decide
  reducesTo_S8_S_d0 := by decide
  h_S_ := by decide
  bcast_S_S139264 := by decide
  bcast_S139264_S1x139264x1_1 := by decide
  bcast_S1x139264x1_S2x139264x512_0_1_2 := by decide

abbrev S8 : Shape := ⟨1, ![8]⟩

/-- The counts as numbers. -/
def countOf (n : IVec S8 32) (e : ℕ) : ℕ := if h : e < 8 then (n (ValueIdx.ix1 ⟨e, h⟩)).toNat else 0

theorem count_word (n : IVec S8 32) (e : Fin 8) : n (ValueIdx.ix1 e) = BitVec.ofNat 32 (countOf n e.val) := by
  unfold countOf
  rw [dif_pos e.isLt]
  exact ((BitVec.ofNat_toNat 32 _).trans (BitVec.setWidth_eq _)).symm

section Pre
variable [Cert.Pre_counts_in_range.Facts]

theorem word_le (x : BitVec 32) (h1 : (0#32).sle x = true) (h2 : x.sle (131072#32) = true) : x.toNat ≤ 131072 := by
  have a : 0 ≤ x.toInt := by simpa [BitVec.sle] using h1
  have hx := Routing.toNat_lt_of_toInt_nonneg x a
  have b : x.toInt ≤ 131072 := by simpa [BitVec.sle] using h2
  rw [BitVec.toInt_eq_toNat_cond] at b
  split_ifs at b <;> omega

theorem count_le (x : FVec Ideal ⟨2, ![139264, 1024]⟩ .f32) (n : IVec S8 32) (w1 w3 : FVec Ideal ⟨4, ![2, 8, 1024, 3584]⟩ .f32)
    (w2 : FVec Ideal ⟨4, ![2, 8, 3584, 1024]⟩ .f32) (h : Cert.Pre_counts_in_range.fn (F := Ideal) x n w1 w3 w2 = fun _ => 1#1) (e : ℕ) :
    countOf n e ≤ 131072 := by
  unfold countOf
  split_ifs with he
  · have hb := congrFun h (ValueIdx.ix1 (⟨e, he⟩ : Fin 8))
    have hb' : IntOp.andi (BitVec.ofBool ((0#32).sle (n (ValueIdx.ix1 ⟨e, he⟩)))) (BitVec.ofBool ((n (ValueIdx.ix1 ⟨e, he⟩)).sle (131072#32))) = 1#1 := hb
    cases h1 : (0#32).sle (n (ValueIdx.ix1 ⟨e, he⟩)) <;> cases h2 : (n (ValueIdx.ix1 ⟨e, he⟩)).sle (131072#32) <;> rw [h1, h2] at hb'
    · exact absurd hb' (by decide)
    · exact absurd hb' (by decide)
    · exact absurd hb' (by decide)
    · exact word_le _ h1 h2
  · omega
end Pre

section Mask
variable [hM : Cert.On_rows_in_use.Facts]

attribute [local irreducible] Host.reduce broadcastInDim muli select cmpi andi Host.divsi Host.remsi signi negi subi iotaInDim constantI in
/-- The mask, in the words of `MoeWords`. -/
theorem mask_eq (x : FVec Ideal ⟨2, ![139264, 1024]⟩ .f32) (n : IVec S8 32) (w1 w3 : FVec Ideal ⟨4, ![2, 8, 1024, 3584]⟩ .f32)
    (w2 : FVec Ideal ⟨4, ![2, 8, 3584, 1024]⟩ .f32) : Cert.On_rows_in_use.fn (F := Ideal) x n w1 w3 w2
      = broadcastInDim Cert.On_rows_in_use.S2x139264x512 ![0, 1, 2] hM.bcast_S1x139264x1_S2x139264x512_0_1_2
          (broadcastInDim Cert.On_rows_in_use.S1x139264x1 ![1] hM.bcast_S139264_S1x139264x1_1
            (cmpi .slt (iotaInDim Cert.On_rows_in_use.S139264 32 0) (broadcastInDim Cert.On_rows_in_use.S139264 ![] hM.bcast_S_S139264
              (Host.reduce IntOp.addi (rowsUp hM.bcast_S_S8 n) (constantI Routing.shape0 32 0#32) hM.reducesTo_S8_S_d0 hM.h_S_)))) := rfl

/-- A row the mask selects lies before the end of the last expert's tiles. -/
theorem row_of_mask (x : FVec Ideal ⟨2, ![139264, 1024]⟩ .f32) (n : IVec S8 32) (w1 w3 : FVec Ideal ⟨4, ![2, 8, 1024, 3584]⟩ .f32)
    (w2 : FVec Ideal ⟨4, ![2, 8, 3584, 1024]⟩ .f32) (f : ℕ → ℕ) (hn : ∀ e : Fin 8, n (ValueIdx.ix1 e) = BitVec.ofNat 32 (f e.val)) (hf : ∀ e, f e ≤ 131072)
    (p : Fin 2) (r : Fin 139264) (j : Fin 512) (h : Cert.On_rows_in_use.fn (F := Ideal) x n w1 w3 w2 (ix3 p r j) = 1#1) : r.val < upto f 8 * 1024 := by
  have hr := r.isLt
  have hu := upto_le f hf 8
  have hs : Host.reduce IntOp.addi (rowsUp hM.bcast_S_S8 n) (constantI Routing.shape0 32 0#32) hM.reducesTo_S8_S_d0 hM.h_S_ ValueIdx.ix0
      = BitVec.ofNat 32 (upto f 8 * 1024) := by
    rw [← sum_rows]
    exact Routing.reduce_sum (N := 8) (rowsUp hM.bcast_S_S8 n) (fun e => tiles f e * 1024) (fun e => rowsUp_at hM.bcast_S_S8 n (ValueIdx.ix1 e) (hn e) (hf e.val)) _ _
  have e : Cert.On_rows_in_use.fn (F := Ideal) x n w1 w3 w2 (ix3 p r j)
      = BitVec.ofBool ((BitVec.ofNat 32 r.val).slt (BitVec.ofNat 32 (upto f 8 * 1024))) := by
    rw [mask_eq]
    refine (broadcastInDim_apply _ hM.bcast_S1x139264x1_S2x139264x512_0_1_2 _ (ix3 p r j) (ix3 (0 : Fin 1) r (0 : Fin 1)) fun a => ?_).trans ?_
    · match a with
      | ⟨0, _⟩ => rfl
      | ⟨1, _⟩ => rfl
      | ⟨2, _⟩ => rfl
    refine (broadcastInDim_apply _ hM.bcast_S139264_S1x139264x1_1 _ (ix3 (0 : Fin 1) r (0 : Fin 1)) (ix1 r) fun a => ?_).trans ?_
    · match a with
      | ⟨0, _⟩ => rfl
    have eb : broadcastInDim Cert.On_rows_in_use.S139264 ![] hM.bcast_S_S139264
        (Host.reduce IntOp.addi (rowsUp hM.bcast_S_S8 n) (constantI Routing.shape0 32 0#32) hM.reducesTo_S8_S_d0 hM.h_S_) (ix1 r)
        = BitVec.ofNat 32 (upto f 8 * 1024) := (Routing.bc0 _ _ _).trans hs
    exact congrArg (fun q => BitVec.ofBool ((BitVec.ofNat 32 r.val).slt q)) eb
  rw [e, Routing.slt_ofNat32 (by omega) (by omega)] at h
  by_contra hlt
  rw [decide_eq_false hlt] at h
  exact absurd h (by decide)
end Mask

end Cert.MoeMask

end
-- ==== Proof.MoeRawTables.lean ====
module
public import proofs.«01_k».proof.Proof.MoeSpec
public import proofs.«01_k».proof.Proof.MoeRawRun
public import Idealize.ShloMosaic.Lib.StableHlo.Run

@[expose] public section

/-! # The tables of the tiles' experts and of the tiles in use -/

set_option maxRecDepth 16384

noncomputable section

namespace Cert.Kernel3.Moe

open Cert.Kernel3 Cert.Kernel3.Gen Idealize.ShloMosaic Idealize.ShloMosaic.TcCoe Idealize.SL.Sem
open Idealize.ShloMosaic.WordCmp
open Cert.MoeSpec

variable {F : FTy → Type} [FloatOps F]

/-- The experts' rows in whole tiles, from their counts. -/
def paddedOf (n : IVec S8 32) : IVec S8 32 :=
  muli (Routing.pyDiv bcast_S_S8 (subi (addi n (broadcastInDim S8 ![] bcast_S_S8 (constantI S_ 32 1024#32))) (broadcastInDim S8 ![] bcast_S_S8 (constantI S_ 32 1#32)))
    (constantI S_ 32 1024#32)) (broadcastInDim S8 ![] bcast_S_S8 (constantI S_ 32 1024#32))

/-- Where each expert's tiles end. -/
def endsOf (n : IVec S8 32) : IVec S8 32 :=
  Host.reduceWindow IntOp.addi ![8] ![1] ![7] ![0] (paddedOf n) (broadcastInDim S_ ![] bcast_S_S_ (constantI S_ 32 0#32)) reduceWindows_S8_S8_w8s1p7_0 h_S_

/-- Whether an expert ends at or before a tile. -/
def endedOf (n : IVec S8 32) : IVec S136x8 1 :=
  cmpi .sge (broadcastInDim S136x8 ![0, 1] bcast_S136x1_S136x8_0_1 (muli (broadcastInDim S136x1 ![0] bcast_S136_S136x1_0 (iotaInDim S136 32 0))
      (broadcastInDim S136x1 ![] bcast_S_S136x1 (constantI S_ 32 1024#32))))
    (broadcastInDim S136x8 ![0, 1] bcast_S1x8_S136x8_0_1 (broadcastInDim S1x8 ![1] bcast_S8_S1x8_1 (endsOf n)))

/-- The table of the tiles' experts. -/
def tableE (n : IVec S8 32) : IVec S136 32 :=
  addi (minsi (Host.reduce IntOp.addi (extui 32 (endedOf n) natLt_1_32) (constantI S_ 32 0#32) reducesTo_S136x8_S136_d1 h_S_)
    (broadcastInDim S136 ![] bcast_S_S136 (constantI S_ 32 7#32))) (broadcastInDim S136 ![] bcast_S_S136 (constantI S_ 32 8#32))

/-- The table of the number of tiles in use. -/
def tableN (n : IVec S8 32) : IVec S1 32 :=
  Routing.pyDiv bcast_S_S1 (extractStridedSlice S1 ![7] (endsOf n) slices_S8_S1_7) (constantI S_ 32 1024#32)

variable (m : (ℓ : Loc nD τ sig) → Buf (Elt F) ℓ) (c : Dev nD)

attribute [local irreducible] Host.reduce Host.reduceWindow broadcastInDim addi subi muli minsi select cmpi andi Host.divsi Host.remsi signi extui extractStridedSlice iotaInDim constantI in
set_option maxHeartbeats 1000000 in
theorem V_v21 : V m c main_v21 = tableE (m ((c : Thread nD τ).loc main_arg1)) := by
  simp only [V, hostOps0, hostOps0_1, hostOps0_2, hostOps0_3, hostOps0_4, hostOps0_5, hostOps0_6, List.flatten_cons, List.flatten_nil, List.append_nil,
    List.cons_append, List.nil_append]
  after_results_simp
  simp only [StableHlo.TRef.ofBuf_toBuf]
  rfl
/-! ## The experts of the tiles -/

/-- A 32-bit word below 2 ^ 31, of two, is the smaller one. -/
theorem smaller_word {a b : ℕ} (ha : a < 2 ^ 31) (hb : b < 2 ^ 31) : IntOp.minsi (BitVec.ofNat 32 a) (BitVec.ofNat 32 b) = BitVec.ofNat 32 (min a b) := by
  unfold IntOp.minsi
  rw [Routing.slt_ofNat32 ha hb]
  by_cases h : a < b
  · rw [min_eq_left h.le, decide_eq_true h]; rfl
  · rw [min_eq_right (by omega), decide_eq_false h]; rfl

/-- The expert's word of a tile, from the mask of the experts ended. -/
theorem expert_word (msk : IVec S136x8 1) (hr : S136x8.ReducesTo [1] S136) (hu : 0 < S_.numel) (hw : 1 < 32) (b7 b8 : IVec S136 32) (i : Fin 136)
    (Q : ℕ → Prop) [DecidablePred Q] (hQ : ∀ q : Fin 8, msk (ValueIdx.ix2 i q) = 1#1 ↔ Q q.val)
    (h7 : b7 (ValueIdx.ix1 i) = BitVec.ofNat 32 7) (h8 : b8 (ValueIdx.ix1 i) = BitVec.ofNat 32 8) :
    addi (minsi (Host.reduce IntOp.addi (extui 32 msk hw) (constantI S_ 32 0#32) hr hu) b7) b8 (ValueIdx.ix1 i)
      = BitVec.ofNat 32 (min (Nat.count Q 8) 7 + 8) := by
  have h := Routing.reduce_count (n := 136) (m := 8) (by norm_num) msk hw hr hu i Q hQ
  rw [Routing.addi_ap, h8]
  show IntOp.minsi (Host.reduce IntOp.addi (extui 32 msk hw) (constantI S_ 32 0#32) hr hu (ValueIdx.ix1 i)) (b7 (ValueIdx.ix1 i)) + _ = _
  have hc : Nat.count Q 8 ≤ 8 := Nat.count_le _
  have e : Host.reduce IntOp.addi (extui 32 msk hw) (constantI S_ 32 0#32) hr hu (ValueIdx.ix1 i) = BitVec.ofNat 32 (Nat.count Q 8) := h
  rw [e, h7, smaller_word (by omega) (by norm_num), BitVec.ofNat_add_ofNat]

theorem seven (i : Fin 136) : broadcastInDim S136 ![] bcast_S_S136 (constantI S_ 32 7#32) (ValueIdx.ix1 i) = BitVec.ofNat 32 7 := Routing.bc0 _ _ _
theorem eight (i : Fin 136) : broadcastInDim S136 ![] bcast_S_S136 (constantI S_ 32 8#32) (ValueIdx.ix1 i) = BitVec.ofNat 32 8 := Routing.bc0 _ _ _

/-- Whatever the counts, the experts' words lie between 8 and 15. -/
theorem tableE_range (n : IVec S8 32) (i : Fin 136) : ∃ k < 8, tableE n (ValueIdx.ix1 i) = BitVec.ofNat 32 (k + 8) := by
  classical
  unfold tableE
  generalize endedOf n = msk
  refine ⟨_, ?_, expert_word msk _ _ _ _ _ i (fun q => ∃ h : q < 8, msk (ValueIdx.ix2 i ⟨q, h⟩) = 1#1) (fun q => ⟨fun h => ⟨q.isLt, h⟩, fun ⟨_, h⟩ => h⟩) (seven i) (eight i)⟩
  exact lt_of_le_of_lt (min_le_right _ _) (by norm_num)

/-! ## The blocks the tables name -/

/-- A point's tile, as an index of the table. -/
theorem tile_lt (i : grid0.Coords) : (i 0).val < 136 := (i 0).isLt

/-- The table's word of a point's tile. -/
def wordAt (pf : pre0.Contents (Elt F)) (i : grid0.Coords) : BitVec 32 := pf 0 (ValueIdx.ix1 (⟨(i 0).val, tile_lt i⟩ : Fin 136))

theorem at_word (pf : pre0.Contents (Elt F)) (i : grid0.Coords) :
    pf.at 0 (Rect.unit (s := S136) ![(Scalar.indexCast (BitVec.ofNat 32 (i 0).val) : Index).toNat] S1.size (k0_off1_inb i)) numel1_S1 = wordAt pf i := by
  refine congrArg (pf 0) (funext fun a => Fin.ext ?_)
  have hl := tile_lt i
  match a with
  | ⟨0, _⟩ =>
    show (Scalar.indexCast (BitVec.ofNat 32 (i 0).val) : Index).toNat + 1 * 0 = (i 0).val
    show (BitVec.ofNat 32 (i 0).val).toNat + 1 * 0 = (i 0).val
    rw [BitVec.toNat_ofNat, Nat.mod_eq_of_lt (by omega), Nat.mul_zero, Nat.add_zero]

theorem half_word (i : grid0.Coords) : (BitVec.ofNat 32 (i 1).val).toNat = (i 1).val := by
  have h : (i 1).val < 2 := (i 1).isLt
  rw [BitVec.toNat_ofNat, Nat.mod_eq_of_lt (by omega)]

theorem block_1 (pf : pre0.Contents (Elt F)) (i : grid0.Coords) :
    cc0_transform_1 k0_off1_inb numel1_S1 pf i = ![(wordAt pf i).toNat, 0, (i 1).val] := by
  refine Eq.trans (b := ![BitVec.toNat (w := 32) (pf.at 0 (Rect.unit (s := S136) ![(Scalar.indexCast (BitVec.ofNat 32 (i 0).val) : Index).toNat] S1.size (k0_off1_inb i)) numel1_S1),
    0, (BitVec.ofNat 32 (i 1).val).toNat]) rfl ?_
  rw [at_word, half_word]

theorem block_2 (pf : pre0.Contents (Elt F)) (i : grid0.Coords) :
    cc0_transform_2 k0_off1_inb numel1_S1 pf i = ![(wordAt pf i).toNat, 0, (i 1).val] := block_1 pf i

theorem block_3 (pf : pre0.Contents (Elt F)) (i : grid0.Coords) :
    cc0_transform_3 k0_off1_inb numel1_S1 pf i = ![(wordAt pf i).toNat, (i 1).val, 0] := by
  refine Eq.trans (b := ![BitVec.toNat (w := 32) (pf.at 0 (Rect.unit (s := S136) ![(Scalar.indexCast (BitVec.ofNat 32 (i 0).val) : Index).toNat] S1.size (k0_off1_inb i)) numel1_S1),
    (BitVec.ofNat 32 (i 1).val).toNat, 0]) rfl ?_
  rw [at_word, half_word]

/-- With the tiles' words below 16, the weights' blocks lie inside their arrays. -/
theorem ok_of_words (pf : pre0.Contents (Elt F)) (h : ∀ i : grid0.Coords, (wordAt pf i).toNat < 16) : ok0 (F := F) pf := by
  have up : ∀ (i : grid0.Coords) (ix : Fin 3 → ℕ), ix = ![(wordAt pf i).toNat, 0, (i 1).val] →
      ∃ h : (∀ a, (ix a + 1) * S1x1024x1792.size a ≤ S16x1024x3584.size a), EltTy.bits .bf16 = 32 ∨
        (Rect.block (s := S16x1024x3584) S1x1024x1792.size ix h).WholeWords (EltTy.packing .bf16) := by
    intro i ix e
    subst e
    have h0 := h i
    have h1 : (i 1).val < 2 := (i 1).isLt
    refine ⟨fun a => ?_, Or.inr (Or.inr ⟨by decide, rfl, ?_, rfl⟩)⟩
    · match a with
      | ⟨0, _⟩ => show ((wordAt pf i).toNat + 1) * 1 ≤ 16; omega
      | ⟨1, _⟩ => show (0 + 1) * 1024 ≤ 1024; omega
      | ⟨2, _⟩ => show ((i 1).val + 1) * 1792 ≤ 3584; omega
    · show 0 * 1024 = 0; rfl
  have down : ∀ (i : grid0.Coords) (ix : Fin 3 → ℕ), ix = ![(wordAt pf i).toNat, (i 1).val, 0] →
      ∃ h : (∀ a, (ix a + 1) * S1x1792x1024.size a ≤ S16x3584x1024.size a), EltTy.bits .bf16 = 32 ∨
        (Rect.block (s := S16x3584x1024) S1x1792x1024.size ix h).WholeWords (EltTy.packing .bf16) := by
    intro i ix e
    subst e
    have h0 := h i
    have h1 : (i 1).val < 2 := (i 1).isLt
    refine ⟨fun a => ?_, Or.inr (Or.inl (Or.inr ⟨by decide, rfl, Or.inl ⟨?_, ?_⟩⟩))⟩
    · match a with
      | ⟨0, _⟩ => show ((wordAt pf i).toNat + 1) * 1 ≤ 16; omega
      | ⟨1, _⟩ => show ((i 1).val + 1) * 1792 ≤ 3584; omega
      | ⟨2, _⟩ => show (0 + 1) * 1024 ≤ 1024; omega
    · show 2 ∣ (i 1).val * 1792; exact Dvd.intro_left ((i 1).val * 896) (by ring)
    · show 2 ∣ 1792; norm_num
  exact ⟨fun i => up i _ (block_1 pf i), fun i => up i _ (block_2 pf i), fun i => down i _ (block_3 pf i)⟩

theorem wordAt_tabs (i : grid0.Coords) :
    wordAt (tabs m) i = tableE (m (((0 : Dev nD) : Thread nD τ).loc main_arg1)) (ValueIdx.ix1 (⟨(i 0).val, tile_lt i⟩ : Fin 136)) :=
  congrFun (V_v21 m (0 : Dev nD)) _

/-- The weights' blocks are inside their arrays, whatever the counts. -/
theorem in_range : InRange m := by
  refine ok_of_words _ fun i => ?_
  obtain ⟨k, hk, e⟩ := tableE_range (m (((0 : Dev nD) : Thread nD τ).loc main_arg1)) ⟨(i 0).val, tile_lt i⟩
  rw [wordAt_tabs, e, BitVec.toNat_ofNat, Nat.mod_eq_of_lt (by omega)]
  omega

end Cert.Kernel3.Moe

end
-- ==== Proof.MoeClaim.lean ====
module
public import proofs.«01_k».proof.Defs
public import proofs.«01_k».proof.Proof.MoeArray
public import proofs.«01_k».proof.Proof.MoeRef
public import proofs.«01_k».proof.Proof.MoeMask
public import proofs.«01_k».proof.Proof.MoeRawTables
public import proofs.«01_k».proof.Proof.Gen.Reference3Ideal.Run
public import Idealize.ShloMosaic.Lib.Quiescent

@[expose] public section

/-! # The claims about the experts' call -/

noncomputable section

namespace Cert.Moe

open Idealize.ShloMosaic Idealize.SL.Sem Cert.MoeSpec Cert.MoeMask

/-- The kernel's frame, bit for bit: the tables it computes name blocks that exist, whatever the counts. -/
theorem kernel_kept : Cert.quiescent_Kernel3 := fun m ρ _ => Cert.Kernel3.Moe.frame_of_range m ρ (Cert.Kernel3.Moe.in_range m)

/-- The idealized kernel's frame. -/
theorem ideal_kept : Cert.quiescent_Kernel3Ideal := fun m ρ _ => Cert.Kernel3Ideal.Moe.frame_of_range m ρ (Cert.Kernel3Ideal.Moe.in_range m)

/-- The reference ends with its arguments kept; it declares no semaphore. -/
theorem reference_kept : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

section
open Cert.Kernel3Ideal Cert.Kernel3Ideal.Gen Cert.Kernel3Ideal.Moe

/-- The arguments after a run of the kernel. -/
theorem kept_of_post (m : (ℓ : Loc nD τ sig) → Buf (Elt Ideal) ℓ) (hO : InRange m) (r : PUnit × MemSt nD τ sig (Elt Ideal))
    (h : Pipeline.RDat.FramePost (cfgM m hO) (data m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_arg0 m c),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).2 main_arg3 (by decide : main_arg3 ∈ Pipeline.restRefs sig spec0)).trans (V_arg3 m c),
    ((h c).2 main_arg4 (by decide : main_arg4 ∈ Pipeline.restRefs sig spec0)).trans (V_arg4 m c)⟩

/-- The first device's counts, as numbers. -/
def counts (m : (ℓ : Loc nD τ sig) → Buf (Elt Ideal) ℓ) : ℕ → ℕ := countOf (m (((0 : Dev nD).tc : Thread nD τ).loc main_arg1))

theorem counts_word (m : (ℓ : Loc nD τ sig) → Buf (Elt Ideal) ℓ) (e : Fin 8) :
    m (((0 : Dev nD).tc : Thread nD τ).loc main_arg1) (ValueIdx.ix1 e) = BitVec.ofNat 32 (counts m e.val) :=
  count_word _ e

end

/-- A row in use lies between the bounds of its tile's expert. -/
theorem bounds (f : ℕ → ℕ) (r : ℕ) (h : r < upto f 8 * 1024) :
    upto f (min (expertOf f (r / 1024)) 7) * 1024 ≤ r ∧ r < upto f (min (expertOf f (r / 1024)) 7 + 1) * 1024 := by
  have hi : r / 1024 < upto f 8 := by omega
  obtain ⟨e, he, h1, h2⟩ := exists_expert f (r / 1024) hi
  rw [expertOf_eq f _ e he h1 h2, Nat.min_eq_left (by omega)]
  omega

variable [hPre : Cert.Pre_counts_in_range.Facts] [hOn : Cert.On_rows_in_use.Facts]

/-- Equal results on the rows in use: both arrays hold, at every plane, row and column, the row's SwiGLU by its expert. -/
theorem algebraic : Cert.algebraic_Kernel3Ideal_Reference3Ideal_on_rows_in_use_pre_counts_in_range := by
  intro m g m' g' hpre hagree
  have hf : ∀ e, counts m e ≤ 131072 := fun e => count_le _ _ _ _ _ (hpre (0 : Dev Cert.Kernel3Ideal.nD)) e
  have hm := counts_word m
  have h0 : ∀ c : Dev Cert.Kernel3Ideal.nD, c = 0 := fun c => Subsingleton.elim _ _
  refine ⟨fun c => Cert.Kernel3Ideal.Moe.value m c (counts m), ?_, ?_⟩
  · refine (θ_run Cert.Kernel3Ideal.defs _ _).mono (fun r h c => ⟨fun i hi => ?_, kept_of_post m (Cert.Kernel3Ideal.Moe.in_range m) r h.1 c⟩)
      (Cert.Kernel3Ideal.Moe.launched m g (Cert.Kernel3Ideal.Moe.in_range m))
    obtain rfl := h0 c
    rw [eq_ix3 i] at hi
    have hrow := row_of_mask _ _ _ _ _ (counts m) hm hf (i 0) (i 1) (i 2) hi
    exact Cert.Kernel3Ideal.Moe.array_at m 0 (Cert.Kernel3Ideal.Moe.in_range m) (counts m) hf hm r h.1 i (by omega)
  · refine (θ_run Cert.Reference3Ideal.defs _ _).mono (fun r h c => ⟨fun i hi => (congrFun (h c).1 i).trans ?_, (h c).2⟩)
      (Cert.Reference3Ideal.Value.run (F := Ideal) m' g')
    refine (congrFun (Cert.Reference3Ideal.Read.val_main_v201_eq (fun b => m' (c, b))) i).trans ?_
    obtain ⟨a0, a1, a2, a3, a4⟩ := hagree c
    rw [a0, a1, a2, a3, a4]
    obtain rfl := h0 c
    rw [eq_ix3 i] at hi ⊢
    have hrow := row_of_mask _ _ _ _ _ (counts m) hm hf (i 0) (i 1) (i 2) hi
    obtain ⟨b1, b2⟩ := bounds (counts m) (i 1).val hrow
    exact Cert.Reference3Ideal.Moe.result_at _ _ _ _ _ (counts m) hm hf (i 0) (i 1) (i 2) (Cert.Kernel3Ideal.Moe.expertOfRow (counts m) (i 1).val) b1 b2

end Cert.Moe

end
-- ==== Proof.MixSpec.lean ====
module
public import proofs.«01_k».proof.Proof.TailSpec

@[expose] public section

/-! # One row of the odd layer's last call, over the extended reals -/

noncomputable section

namespace Cert.MixSpec

open Idealize.ShloMosaic Cert.TailSpec

/-- A token's two experts' outputs, weighted by its gates. -/
def weighted (g1 g2 : EReal) (y1 y2 : Fin 1024 → EReal) (c : Fin 1024) : EReal := g1 * y1 c + g2 * y2 c

/-- The stream after the layer. -/
def mixRow (x : Fin 1024 → EReal) (g1 g2 : EReal) (y1 y2 : Fin 1024 → EReal) (g ga : Fin 1024 → EReal) (c : Fin 1024) : EReal :=
  x c + ga c * rms w1024 (weighted g1 g2 y1 y2) g c

end Cert.MixSpec

end
-- ==== Proof.MixBlock.lean ====
module
public import proofs.«01_k».proof.Proof.MixSpec
public import proofs.«01_k».proof.Proof.Gen.Kernel4Ideal.Frame
public import Idealize.ShloMosaic.Lib.Pipeline.ValueKit.Basic

@[expose] public section

/-! # What one block of the odd layer's last call computes -/

set_option maxRecDepth 16384

noncomputable section

namespace Cert.Kernel4Ideal.Mix

open Cert.Kernel4Ideal Cert.Kernel4Ideal.Gen Idealize.ShloMosaic Idealize.ShloMosaic.TcCoe Idealize.SL.Sem
open Cert.TailSpec Cert.MixSpec

/-- Column `d` of a row whose columns lie in two planes. -/
def unplane (p q : Fin 512 → EReal) (d : Fin 1024) : EReal :=
  if h : d.val < 512 then p ⟨d.val, h⟩ else q ⟨d.val - 512, by omega⟩

/-- The planes' quarters side by side are the planes side by side. -/
theorem quarters (p q : Fin 512 → EReal) (d : Fin 1024) :
    (if h0 : d.val < 256 then p ⟨d.val, by omega⟩
      else if h1 : d.val - 256 < 256 then p ⟨256 + (d.val - 256), by omega⟩
      else if h2 : d.val - 256 - 256 < 256 then q ⟨d.val - 256 - 256, by omega⟩
      else q ⟨256 + (d.val - 256 - 256 - 256), by omega⟩) = unplane p q d := by
  unfold unplane
  split_ifs <;> first | omega | rfl | (refine congrArg _ (Fin.ext ?_); dsimp only; omega)

/-- The gates' product with the two outputs, from their planes. -/
theorem weighted_at (g : Vec Ideal S1x512x128 .f32) (p1 q1 p2 q2 : Vec Ideal S1x1x1x512x512 .bf16) (r : Fin 512) (d : Fin 1024) :
    (k0_pay2 g p1 q1 p2 q2 (ix2 r d) : EReal) =
      weighted (g (ix3 0 r 0)) (g (ix3 0 r 1)) (unplane (fun j => p1 (ix5 0 0 0 r j)) (fun j => q1 (ix5 0 0 0 r j)))
        (unplane (fun j => p2 (ix5 0 0 0 r j)) (fun j => q2 (ix5 0 0 0 r j))) d := by
  unfold weighted
  rw [← quarters, ← quarters]
  pointwise [k0_pay2]

/-- The norm, the gate and the residual. -/
theorem out_at (y : FVec Ideal S512x1024 .f32) (x : Vec Ideal S1x512x1024 .f32) (ga : Vec Ideal S1x1x1024 .f32) (g : Vec Ideal S1x1024 .f32)
    (r : Fin 512) (c : Fin 1024) :
    (k0_pay1 y x ga g (ix3 0 r c) : EReal) =
      (x (ix3 0 r c) : EReal) + (ga (ix3 0 0 c) : EReal) * rms w1024 (fun c => (y (ix2 r c) : EReal)) (fun c => g (ix2 0 c)) c := by
  pointwise [k0_pay1, rms, w1024, eps]

/-! ## Loads -/

theorem ld_0 {e : EltTy} (X : Vec Ideal S1x512x128 e) : View.ld X r0_0 = X := View.ld_unit_lit _ X (by decide)
theorem ld_5 {e : EltTy} (X : Vec Ideal S1x512x1024 e) : View.ld X r0_5 = X := View.ld_unit_lit _ X (by decide)
theorem ld_6 {e : EltTy} (X : Vec Ideal S1x1x1024 e) : View.ld X r0_6 = X := View.ld_unit_lit _ X (by decide)
theorem ld_7 {e : EltTy} (X : Vec Ideal S1x1024 e) : View.ld X r0_7 = X := View.ld_unit_lit _ X (by decide)
theorem canon_whole (w : Vec Ideal S1x512x1024 .f32) : View.canon (Val := Elt Ideal) [⟨r0_5, w⟩] = w := View.canon_cons_unit_lit _ w [] (by decide)

theorem ld_1 (X : Vec Ideal S2x2x1x512x512 .bf16) (r j : Fin 512) : View.ld X r0_1 (ix5 0 0 0 r j) = X (ix5 0 0 0 r j) := by
  refine congrArg X (funext fun a => Fin.ext ?_)
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega
theorem ld_2 (X : Vec Ideal S2x2x1x512x512 .bf16) (r j : Fin 512) : View.ld X r0_2 (ix5 0 0 0 r j) = X (ix5 1 0 0 r j) := by
  refine congrArg X (funext fun a => Fin.ext ?_)
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega
theorem ld_3 (X : Vec Ideal S2x2x1x512x512 .bf16) (r j : Fin 512) : View.ld X r0_3 (ix5 0 0 0 r j) = X (ix5 0 1 0 r j) := by
  refine congrArg X (funext fun a => Fin.ext ?_)
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega
theorem ld_4 (X : Vec Ideal S2x2x1x512x512 .bf16) (r j : Fin 512) : View.ld X r0_4 (ix5 0 0 0 r j) = X (ix5 1 1 0 r j) := by
  refine congrArg X (funext fun a => Fin.ext ?_)
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega

/-- The block's row is the layer's row of its inputs. -/
theorem block_at (x0 : Vec Ideal S1x512x1024 .f32) (x1 : Vec Ideal S2x2x1x512x512 .bf16) (x2 : Vec Ideal S1x512x128 .f32)
    (x3 : Vec Ideal S1x1024 .f32) (x4 : Vec Ideal S1x1x1024 .f32) (r : Fin 512) (c : Fin 1024) :
    (out0_5 x0 x1 x2 x3 x4 (ix3 0 r c) : EReal) =
      mixRow (fun c => x0 (ix3 0 r c)) (x2 (ix3 0 r 0)) (x2 (ix3 0 r 1))
        (unplane (fun j => x1 (ix5 0 0 0 r j)) (fun j => x1 (ix5 1 0 0 r j)))
        (unplane (fun j => x1 (ix5 0 1 0 r j)) (fun j => x1 (ix5 1 1 0 r j))) (fun c => x3 (ix2 0 c)) (fun c => x4 (ix3 0 0 c)) c := by
  unfold out0_5
  rw [canon_whole, out_at, ld_0, ld_5, ld_6, ld_7]
  simp only [weighted_at]
  rw [← funext (ld_1 x1 r), ← funext (ld_2 x1 r), ← funext (ld_3 x1 r), ← funext (ld_4 x1 r)]
  rfl

end Cert.Kernel4Ideal.Mix

end
-- ==== Proof.MixArray.lean ====
module
public import proofs.«01_k».proof.Proof.MixBlock
public import proofs.«01_k».proof.Proof.Gen.Kernel4Ideal.Value
public import Idealize.ShloMosaic.Lib.Pipeline.ValueKit
public import Idealize.ShloMosaic.Lib.StableHlo.Run

@[expose] public section

/-! # The whole array the odd layer's last call leaves -/

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)
open Cert.TailSpec Cert.MixSpec

/-- Where each block lies: batch, and row block. -/
theorem idx : ∀ t : Fin cfg0.N, win0_0.index t = ![t.val / 16, t.val % 16, 0]
    ∧ win0_1.index t = ![0, 0, t.val / 16, t.val % 16, 0]
    ∧ win0_2.index t = ![t.val / 16, t.val % 16, 0]
    ∧ win0_3.index t = ![0, 0]
    ∧ win0_4.index t = ![t.val / 16, 0, 0]
    ∧ win0_5.index t = ![t.val / 16, t.val % 16, 0] :=
  (by decide +kernel : ∀ t : Fin grid0.N, _)

theorem point_lt (t : Fin cfg0.N) : t.val < 128 := lt_of_lt_of_eq t.isLt N_0

/-- A point's batch. -/
def bat (t : Fin cfg0.N) : Fin 8 := ⟨t.val / 16, by have := point_lt t; omega⟩
/-- A row of a point's block in the array. -/
def row (t : Fin cfg0.N) (r : Fin 512) : Fin 8192 := ⟨t.val % 16 * 512 + r.val, by omega⟩

variable (m : (ℓ : Loc nD τ sig) → Buf (Elt Ideal) ℓ) (c : Dev nD)

/-! What the host prepares. -/

/-- The experts' outputs in planes. -/
def planesOf (y : Vec Ideal S2x8x8192x1024 .bf16) : Vec Ideal S2x2x8x8192x512 .bf16 :=
  transpose S2x2x8x8192x512 [3, 0, 1, 2, 4] (shapeCast S2x8x8192x2x512 y shapeCasts_S2x8x8192x1024_S2x8x8192x2x512)
    transposes_S2x8x8192x2x512_S2x2x8x8192x512_3_0_1_2_4

/-- The gates over the lanes: the first at lane 0, the second at the others. -/
def lanesOf (g : Vec Ideal S8x8192x2 .f32) : Vec Ideal S8x8192x128 .f32 :=
  select (cmpi .eq (iotaInDim S8x8192x128 32 2) (broadcastInDim S8x8192x128 ![] bcast_S_S8x8192x128 (constantI S_ 32 0#32)))
    (broadcastInDim S8x8192x128 ![0, 1, 2] bcast_S8x8192x1_S8x8192x128_0_1_2 (extractStridedSlice S8x8192x1 ![0, 0, 0] g slices_S8x8192x2_S8x8192x1_0_0_0))
    (broadcastInDim S8x8192x128 ![0, 1, 2] bcast_S8x8192x1_S8x8192x128_0_1_2 (extractStridedSlice S8x8192x1 ![0, 0, 1] g slices_S8x8192x2_S8x8192x1_0_0_1))

theorem V_v1 : V m c main_v1 = planesOf (m ((c.tc : Thread nD τ).loc main_arg1)) := by
  simp only [V, hostOps0, hostOps0_1, hostOps0_2, List.flatten_cons, List.flatten_nil, List.append_nil, List.cons_append, List.nil_append]
  after_results_simp <;> rfl
attribute [local irreducible] broadcastInDim select cmpi iotaInDim constantI extractStridedSlice in
theorem V_v7 : V m c main_v7 = lanesOf (m ((c.tc : Thread nD τ).loc main_arg2)) := by
  simp only [V, hostOps0, hostOps0_1, hostOps0_2, List.flatten_cons, List.flatten_nil, List.append_nil, List.cons_append, List.nil_append]
  after_results_simp
  simp only [StableHlo.TRef.ofBuf_toBuf]
  rfl
theorem V_v8 : V m c main_v8 = broadcastInDim S1x1024 ![1] bcast_S1024_S1x1024_1 (m ((c.tc : Thread nD τ).loc main_arg3)) := by
  simp only [V, hostOps0, hostOps0_1, hostOps0_2, List.flatten_cons, List.flatten_nil, List.append_nil, List.cons_append, List.nil_append]
  after_results_simp <;> rfl
theorem V_v9 : V m c main_v9 = broadcastInDim S8x1x1024 ![0, 2] bcast_S8x1024_S8x1x1024_0_2 (m ((c.tc : Thread nD τ).loc main_arg4)) := by
  simp only [V, hostOps0, hostOps0_1, hostOps0_2, List.flatten_cons, List.flatten_nil, List.append_nil, List.cons_append, List.nil_append]
  after_results_simp <;> rfl

/-- Column `j` of plane `p` is the output's column `512 p + j`. -/
theorem planes_at (y : Vec Ideal S2x8x8192x1024 .bf16) (p k : Fin 2) (b : Fin 8) (r : Fin 8192) (j : Fin 512) :
    (planesOf y (ix5 p k b r j) : EReal) = y (ix4 k b r ⟨512 * p.val + j.val, by omega⟩) := by
  pointwise [planesOf]
  exact congrArg (fun d => y (ix4 k b r d)) (Fin.ext (by show p.val * 512 + j.val = 512 * p.val + j.val; omega))

theorem lane0_at (g : Vec Ideal S8x8192x2 .f32) (b : Fin 8) (r : Fin 8192) : (lanesOf g (ix3 b r 0) : EReal) = g (ix3 b r 0) := by
  pointwise [lanesOf]
theorem lane1_at (g : Vec Ideal S8x8192x2 .f32) (b : Fin 8) (r : Fin 8192) : (lanesOf g (ix3 b r 1) : EReal) = g (ix3 b r 1) := by
  pointwise [lanesOf]
  exact if_neg (by decide)

/-- The planes side by side are the output. -/
theorem unplane_eq (y : Vec Ideal S2x8x8192x1024 .bf16) (k : Fin 2) (b : Fin 8) (r : Fin 8192) :
    unplane (fun j => planesOf y (ix5 0 k b r j)) (fun j => planesOf y (ix5 1 k b r j)) = fun d => y (ix4 k b r d) := by
  funext d
  unfold unplane
  split_ifs with h
  · refine (planes_at y 0 k b r _).trans (congrArg (fun d => y (ix4 k b r d)) (Fin.ext ?_))
    show 512 * 0 + d.val = d.val
    omega
  · refine (planes_at y 1 k b r _).trans (congrArg (fun d => y (ix4 k b r d)) (Fin.ext ?_))
    show 512 * 1 + (d.val - 512) = d.val
    omega

/-! The blocks of a point. -/

theorem blk0 (t : Fin cfg0.N) (r : Fin 512) (j : Fin 1024) :
    (iblk m c 0 t (ix3 0 r j) : EReal) = (m ((c.tc : Thread nD τ).loc main_arg0)) (ix3 (bat t) (row t r) j) := by
  rw [← V_main_arg0 m c]
  blk_ext [iblk, idx t, bat, row]
theorem blk1 (t : Fin cfg0.N) (p k : Fin 2) (r j : Fin 512) :
    (iblk m c 1 t (ix5 p k 0 r j) : EReal) = planesOf (m ((c.tc : Thread nD τ).loc main_arg1)) (ix5 p k (bat t) (row t r) j) := by
  rw [← V_v1 m c]
  blk_ext [iblk, idx t, bat, row]
theorem blk2 (t : Fin cfg0.N) (r : Fin 512) (j : Fin 128) :
    (iblk m c 2 t (ix3 0 r j) : EReal) = lanesOf (m ((c.tc : Thread nD τ).loc main_arg2)) (ix3 (bat t) (row t r) j) := by
  rw [← V_v7 m c]
  blk_ext [iblk, idx t, bat, row]
theorem blk3 (t : Fin cfg0.N) (j : Fin 1024) :
    (iblk m c 3 t (ix2 0 j) : EReal) = (m ((c.tc : Thread nD τ).loc main_arg3)) (ix1 j) := by
  have e : iblk m c 3 t (ix2 0 j) = V m c main_v8 (ix2 0 j) := by blk_ext [iblk, idx t]
  rw [e, V_v8]
  pointwise
theorem blk4 (t : Fin cfg0.N) (j : Fin 1024) :
    (iblk m c 4 t (ix3 0 0 j) : EReal) = (m ((c.tc : Thread nD τ).loc main_arg4)) (ix2 (bat t) j) := by
  have e : iblk m c 4 t (ix3 0 0 j) = V m c main_v9 (ix3 (bat t) 0 j) := by blk_ext [iblk, idx t, bat]
  rw [e, V_v9]
  pointwise

/-- The array of results: batch, row and column. -/
def result : S8x8192x1024.Idx → Elt Ideal .f32 := fun i =>
  mixRow (fun c' => (m ((c.tc : Thread nD τ).loc main_arg0)) (ix3 (i 0) (i 1) c'))
    ((m ((c.tc : Thread nD τ).loc main_arg2)) (ix3 (i 0) (i 1) 0)) ((m ((c.tc : Thread nD τ).loc main_arg2)) (ix3 (i 0) (i 1) 1))
    (fun c' => (m ((c.tc : Thread nD τ).loc main_arg1)) (ix4 0 (i 0) (i 1) c')) (fun c' => (m ((c.tc : Thread nD τ).loc main_arg1)) (ix4 1 (i 0) (i 1) c'))
    (fun c' => (m ((c.tc : Thread nD τ).loc main_arg3)) (ix1 c')) (fun c' => (m ((c.tc : Thread nD τ).loc main_arg4)) (ix2 (i 0) c')) (i 2)

/-- What a point leaves at a row and a column. -/
theorem stored_at (t : Fin cfg0.N) (r : Fin 512) (j : Fin 1024) :
    ((dats m 0 c).after 5 t (ix3 0 r j) : EReal) = result m c (ix3 (bat t) (row t r) j) := by
  rw [after0_5]
  refine (block_at _ _ _ _ _ r j).trans ?_
  simp only [blk0 m c t, blk1 m c t, blk2 m c t, blk3 m c t, blk4 m c t, lane0_at, lane1_at, unplane_eq]
  rfl

/-- The array after the run. -/
theorem array : (dats m 0 c).arrAt 5 cfg0.N = result m c := by
  refine (dats m 0 c).arrAt_eq_of_covers 5 _ (by decide +kernel) fun t _ y => ?_
  have hy : y = ix3 0 (y 1) (y 2) := by
    conv_lhs => rw [eq_ix3 y]
    congr 1
    exact Subsingleton.elim (α := Fin 1) _ _
  blk_simp
  refine (congrArg ((dats m 0 c).after 5 t) hy).trans ((stored_at m c t (y 1) (y 2)).trans (congrArg (result m c) ?_))
  refine (funext fun a => Fin.ext ?_)
  match a with
  | ⟨0, _⟩ => show t.val / 16 = ((win0_5.blk t).view.emb y 0).val; rw [hy]; blk_simp [idx t]; exact (Nat.add_zero _).symm
  | ⟨1, _⟩ => show t.val % 16 * 512 + (y 1).val = ((win0_5.blk t).view.emb y 1).val; rw [hy]; blk_simp [idx t]
  | ⟨2, _⟩ => show (y 2).val = ((win0_5.blk t).view.emb y 2).val; rw [hy]; blk_simp [idx t]

end Cert.Kernel4Ideal.Mix

end
-- ==== Proof.MixRef.lean ====
module
public import proofs.«01_k».proof.Proof.MixSpec
public import proofs.«01_k».proof.Proof.Gen.Reference4Ideal.Read
public import Idealize.ShloMosaic.Lib.Pointwise

@[expose] public section

/-! # What the reference of the odd layer's last call computes, one element at a time -/

set_option maxRecDepth 16384

noncomputable section

namespace Cert.Reference4Ideal.Mix

open Cert.Reference4Ideal Cert.Reference4Ideal.Gen Cert.Reference4Ideal.Read Idealize.ShloMosaic Idealize.ShloMosaic.TcCoe Idealize.SL.Sem
open Cert.TailSpec Cert.MixSpec

variable (x0 : Vec Ideal S8x8192x1024 .f32) (x1 : Vec Ideal S2x8x8192x1024 .bf16) (x2 : Vec Ideal S8x8192x2 .f32)
  (x3 : Vec Ideal S1024 .f32) (x4 : Vec Ideal S8x1024 .f32) (b : Fin 8) (r : Fin 8192)

theorem product_at (k : Fin 2) (c : Fin 1024) : (val_main_v4 (F := Ideal) x1 x2 (ix4 k b r c) : EReal) =
    (x1 (ix4 k b r c) : EReal) * x2 (ix3 b r k) := by
  pointwise [val_main_v4, val_main_v0, val_main_v3, val_main_v2, val_main_v1]

/-- The two weighted outputs added. -/
theorem weighted_at (c : Fin 1024) : (val_main_v5 (F := Ideal) x1 x2 (ix3 b r c) : EReal) =
    weighted (x2 (ix3 b r 0)) (x2 (ix3 b r 1)) (fun c => x1 (ix4 0 b r c)) (fun c => x1 (ix4 1 b r c)) c := by
  have e : (val_main_v5 (F := Ideal) x1 x2 (ix3 b r c) : EReal) = ∑ k : Fin 2, (val_main_v4 (F := Ideal) x1 x2 (ix4 k b r c) : EReal) := by
    unfold val_main_v5
    generalize val_main_v4 (F := Ideal) x1 x2 = y
    pointwise [val_main_cst]
  rw [e, Fin.sum_univ_two, product_at, product_at, mul_comm, mul_comm (x1 (ix4 1 b r c) : EReal)]
  rfl

theorem norm_at (c : Fin 1024) : (val_main_v19 (F := Ideal) x1 x2 x3 (ix3 b r c) : EReal) =
    rms w1024 (fun c => (val_main_v5 (F := Ideal) x1 x2 (ix3 b r c) : EReal)) (fun c => x3 (ix1 c)) c := by
  unfold val_main_v19 val_main_v16 val_main_v15 val_main_v14 val_main_v13 val_main_v11 val_main_v9 val_main_v8 val_main_v7
  generalize val_main_v5 (F := Ideal) x1 x2 = y
  pointwise [val_main_v18, val_main_v17, val_main_v12, val_main_cst_2, val_main_v10, val_main_cst_1, val_main_cst_0, rms, w1024, eps]

/-- The reference's element is the layer's row. -/
theorem result_at (c : Fin 1024) : (val_main_v22 (F := Ideal) x0 x1 x2 x3 x4 (ix3 b r c) : EReal) =
    mixRow (fun c => x0 (ix3 b r c)) (x2 (ix3 b r 0)) (x2 (ix3 b r 1)) (fun c => x1 (ix4 0 b r c)) (fun c => x1 (ix4 1 b r c))
      (fun c => x3 (ix1 c)) (fun c => x4 (ix2 b c)) c := by
  have e : (val_main_v22 (F := Ideal) x0 x1 x2 x3 x4 (ix3 b r c) : EReal) =
      (x0 (ix3 b r c) : EReal) + (x4 (ix2 b c) : EReal) * val_main_v19 (F := Ideal) x1 x2 x3 (ix3 b r c) := by
    unfold val_main_v22 val_main_v21
    generalize val_main_v19 (F := Ideal) x1 x2 x3 = y
    pointwise [val_main_v20, val_main_v6]
  rw [e, norm_at]
  simp only [weighted_at]
  rfl

end Cert.Reference4Ideal.Mix

end
-- ==== Proof.MixClaim.lean ====
module
public import proofs.«01_k».proof.Defs
public import proofs.«01_k».proof.Proof.MixArray
public import proofs.«01_k».proof.Proof.MixRef
public import proofs.«01_k».proof.Proof.Gen.Reference4Ideal.Run
public import Idealize.ShloMosaic.Lib.Quiescent

@[expose] public section

/-! # The claims about the odd layer's last call -/

noncomputable section

namespace Cert.Mix

open Idealize.ShloMosaic Idealize.SL.Sem

/-- The reference ends with its arguments kept; it declares no semaphore. -/
theorem reference_kept : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Equal results: both arrays hold, at every batch, row and column, the row of `MixSpec`. -/
theorem algebraic : Cert.algebraic_Kernel4Ideal_Reference4Ideal := by
  intro m g m' g' _ hagree
  refine ⟨fun c => Cert.Kernel4Ideal.Mix.result m c, ?_, ?_⟩
  · refine (θ_run Cert.Kernel4Ideal.defs _ _).mono (fun r h c => ⟨(h c).1.trans (Cert.Kernel4Ideal.Mix.array m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    refine (Cert.Reference4Ideal.Read.val_main_v22_eq _ _ _ _ _).trans ?_
    obtain ⟨a0, a1, a2, a3, a4⟩ := hagree c
    rw [a0, a1, a2, a3, a4]
    funext i
    rw [eq_ix3 i]
    exact Cert.Reference4Ideal.Mix.result_at _ _ _ _ _ (i 0) (i 1) (i 2)

end Cert.Mix

end
-- ==== Proof.ModSpec.lean ====
module
public import proofs.«01_k».proof.Proof.TailSpec

@[expose] public section

/-! # One entry of the modulation vectors, over the extended reals -/

noncomputable section

namespace Cert.ModSpec

open Idealize.ShloMosaic Cert.TailSpec

/-- The condition through SiLU against one column of the weights, plus the bias. -/
def vec (a w : Fin 1024 → EReal) (b : EReal) : EReal := ∑ k, silu (a k) * w k + b

/-- The column's product as the kernel takes it: each factor as a high half and the remainder, without the product of the
    two remainders. -/
def halves (a w : Fin 1024 → EReal) : EReal :=
  (∑ k, silu (a k) * w k) + (∑ k, (silu (a k) - silu (a k)) * w k) + ∑ k, silu (a k) * (w k - w k)

/-- A real number. -/
def IsReal (x : EReal) : Prop := ∃ y : ℝ, x = y

/-- SiLU keeps the reals. -/
theorem silu_real {x : EReal} (h : IsReal x) : IsReal (silu x) := by
  obtain ⟨r, rfl⟩ := h
  unfold silu Ideal.div
  rw [if_neg (den_ne _)]
  have e : (1 : EReal) + Ideal.exp (-(r : EReal)) = ((1 + Real.exp (-r) : ℝ) : EReal) := rfl
  rw [e, ← EReal.coe_inv, ← EReal.coe_mul]
  exact ⟨_, rfl⟩

theorem sub_self_real {x : EReal} (h : IsReal x) : x - x = 0 := by
  obtain ⟨r, rfl⟩ := h
  rw [← EReal.coe_sub, sub_self, EReal.coe_zero]

/-- On reals the remainders are zero, and the three products are the plain one. -/
theorem halves_real (a w : Fin 1024 → EReal) (ha : ∀ k, IsReal (a k)) (hw : ∀ k, IsReal (w k)) :
    halves a w = ∑ k, silu (a k) * w k := by
  unfold halves
  have h1 : ∀ k, (silu (a k) - silu (a k)) * w k = 0 := fun k => by rw [sub_self_real (silu_real (ha k)), zero_mul]
  have h2 : ∀ k, silu (a k) * (w k - w k) = 0 := fun k => by rw [sub_self_real (hw k), mul_zero]
  simp only [h1, h2, Finset.sum_const_zero, add_zero]

end Cert.ModSpec

end
-- ==== Proof.ModBlock.lean ====
module
public import proofs.«01_k».proof.Proof.ModSpec
public import proofs.«01_k».proof.Proof.Gen.Kernel5Ideal.Skeleton
public import Idealize.ShloMosaic.Lib.Pipeline.ValueKit
public import Idealize.ShloMosaic.Lib.Pointwise

@[expose] public section

/-! # What one grid point of the modulation vectors' call computes, at an entry -/

set_option maxRecDepth 16384

noncomputable section

namespace Cert.Kernel5Ideal.Mod

open Cert.Kernel5Ideal Cert.Kernel5Ideal.Gen Idealize.ShloMosaic Idealize.ShloMosaic.TcCoe Idealize.SL.Sem
open Cert.TailSpec Cert.ModSpec

variable (x0 : Vec Ideal S16x1024 .f32) (x1 : Vec Ideal S1x1024x1536 .f32) (x2 : Vec Ideal S1x1x1536 .f32)

/-- Row `r` of the conditions against column `j` of the block's weights, plus the bias. -/
theorem entry_at (r : Fin 16) (j : Fin 1536) : (k0_pay1 x0 x1 x2 (ix3 0 r j) : EReal) =
    halves (fun k => x0 (ix2 r k)) (fun k => x1 (ix3 0 k j)) + x2 (ix3 0 0 j) := by
  unfold halves
  simp only [← silu_sub]
  rw [← one_bits]
  pointwise [k0_pay1]

end Cert.Kernel5Ideal.Mod

end
-- ==== Proof.ModRows.lean ====
module
public import proofs.«01_k».proof.Proof.ModSpec
public import proofs.«01_k».proof.Proof.Gen.Kernel5Ideal.Frame
public import Idealize.ShloMosaic.Lib.Routing.OpsPair
public import Idealize.ShloMosaic.Lib.Routing.OpsSet
public import Idealize.ShloMosaic.Lib.StableHlo.Run
public import Idealize.ShloMosaic.Lib.Pointwise

@[expose] public section

/-! # The sixteen condition rows the host lays out: the batch's, the context's, and zeros -/

set_option maxRecDepth 16384

noncomputable section

namespace Cert.Kernel5Ideal.Mod

open Cert.Kernel5Ideal Cert.Kernel5Ideal.Gen Idealize.ShloMosaic Idealize.ShloMosaic.TcCoe Idealize.SL.Sem
open Idealize.ShloMosaic.Routing Cert.TailSpec Cert.ModSpec

variable (x : Vec Ideal S8x1024 .f32) (y : Vec Ideal S1024 .f32)

/-- The one start row of a write, as a word. -/
def startRow (w : BitVec 32) : IVec S1 32 := broadcastInDim S1 ![] bcast_S_S1 (constantI S_ 32 w)

/-- Zeros with the batch's rows written at the top. -/
def topOf : Vec Ideal S16x1024 .f32 :=
  Host.scatter scatter_S16x1024_S1_S8x1024_01_n_0_0 (fun _ b => b)
    (broadcastInDim S16x1024 ![] bcast_S_S16x1024 (constant (F := Ideal) S_ .f32 0x00000000#32)) (startRow 0#32) x

/-- The context's row written below them. -/
def rowsOf : Vec Ideal S16x1024 .f32 :=
  Host.scatter scatter_S16x1024_S1_S1024_0_0_0_0 (fun _ b => b) (topOf x) (startRow 8#32) y

theorem top_start (w : BitVec 32) (k : S8x1024.Idx) :
    scatter_S16x1024_S1_S8x1024_01_n_0_0.start k (startRow w) 0 = w.toInt
      ∧ scatter_S16x1024_S1_S8x1024_01_n_0_0.start k (startRow w) 1 = 0 := ⟨rfl, rfl⟩
theorem top_window (k : S8x1024.Idx) : scatter_S16x1024_S1_S8x1024_01_n_0_0.window k 0 = (k 0).val
    ∧ scatter_S16x1024_S1_S8x1024_01_n_0_0.window k 1 = (k 1).val := ⟨rfl, rfl⟩
theorem row_start (w : BitVec 32) (k : S1024.Idx) :
    scatter_S16x1024_S1_S1024_0_0_0_0.start k (startRow w) 0 = w.toInt
      ∧ scatter_S16x1024_S1_S1024_0_0_0_0.start k (startRow w) 1 = 0 := ⟨rfl, rfl⟩
theorem row_window (k : S1024.Idx) : scatter_S16x1024_S1_S1024_0_0_0_0.window k 0 = 0
    ∧ scatter_S16x1024_S1_S1024_0_0_0_0.window k 1 = (k 0).val := ⟨rfl, rfl⟩

/-- Where an entry of the batch's rows lands. -/
theorem top_lands (k : S8x1024.Idx) (r : Fin 16) (j : Fin 1024) :
    scatter_S16x1024_S1_S8x1024_01_n_0_0.resultIdx? k (startRow 0#32) = some (ix2 r j) ↔ (k 0).val = r.val ∧ (k 1).val = j.val := by
  refine (resultIdx?_ix2 _ k _ r j).trans ?_
  rw [(top_start _ k).1, (top_start _ k).2, (top_window k).1, (top_window k).2]
  have : (0#32 : BitVec 32).toInt = 0 := by decide
  omega

/-- Where an entry of the context's row lands. -/
theorem row_lands (k : S1024.Idx) (r : Fin 16) (j : Fin 1024) :
    scatter_S16x1024_S1_S1024_0_0_0_0.resultIdx? k (startRow 8#32) = some (ix2 r j) ↔ r.val = 8 ∧ (k 0).val = j.val := by
  refine (resultIdx?_ix2 _ k _ r j).trans ?_
  rw [(row_start _ k).1, (row_start _ k).2, (row_window k).1, (row_window k).2]
  have : (8#32 : BitVec 32).toInt = 8 := by decide
  omega

theorem top_low (r : Fin 16) (h : r.val < 8) (j : Fin 1024) : (topOf x (ix2 r j) : EReal) = x (ix2 ⟨r.val, h⟩ j) := by
  refine scatter_set_hit _ _ _ _ _ _ (fun k hk => ?_) (ix2 ⟨r.val, h⟩ j) ((top_lands _ r j).2 ⟨rfl, rfl⟩)
  obtain ⟨h0, h1⟩ := (top_lands k r j).1 hk
  rw [eq_ix2 k]
  exact congrArg₂ (fun a b => x (ix2 a b)) (Fin.ext h0) (Fin.ext h1)

theorem top_high (r : Fin 16) (h : 8 ≤ r.val) (j : Fin 1024) : (topOf x (ix2 r j) : EReal) = 0 := by
  refine (scatter_set_miss _ _ _ _ _ fun k hk => ?_).trans zero_bits
  have h0 := ((top_lands k r j).1 hk).1
  have h1 : (k 0).val < 8 := (k 0).isLt
  omega

theorem rows_other (r : Fin 16) (h : r.val ≠ 8) (j : Fin 1024) : (rowsOf x y (ix2 r j) : EReal) = topOf x (ix2 r j) :=
  scatter_set_miss _ _ _ _ _ fun k hk => h ((row_lands k r j).1 hk).1

theorem rows_context (r : Fin 16) (h : r.val = 8) (j : Fin 1024) : (rowsOf x y (ix2 r j) : EReal) = y (ix1 j) := by
  refine scatter_set_hit _ _ _ _ _ _ (fun k hk => ?_) (ix1 j) ((row_lands _ r j).2 ⟨h, rfl⟩)
  rw [eq_ix1 k]
  exact congrArg (fun a => y (ix1 a)) (Fin.ext ((row_lands k r j).1 hk).2)

/-- Row `r` of the first nine: the batch's, then the context's. -/
theorem rows_nine (r : Fin 9) (j : Fin 1024) : (rowsOf x y (ix2 ⟨r.val, by omega⟩ j) : EReal) =
    if h : r.val < 8 then x (ix2 ⟨r.val, h⟩ j) else y (ix1 j) := by
  split_ifs with h
  · exact (rows_other x y _ (by show r.val ≠ 8; omega) j).trans (top_low x _ h j)
  · exact rows_context x y _ (by show r.val = 8; omega) j

/-- Real conditions give real rows. -/
theorem rows_real (hx : ∀ i, IsReal (x i)) (hy : ∀ i, IsReal (y i)) (r : Fin 16) (j : Fin 1024) :
    IsReal (rowsOf x y (ix2 r j)) := by
  by_cases h : r.val = 8
  · rw [rows_context x y r h j]; exact hy _
  · rw [rows_other x y r h j]
    by_cases h' : r.val < 8
    · rw [top_low x r h' j]; exact hx _
    · rw [top_high x r (by omega) j]; exact ⟨0, rfl⟩

variable (m : (ℓ : Loc nD τ sig) → Buf (Elt Ideal) ℓ) (c : Dev nD)

attribute [local irreducible] Host.scatter in
theorem V_v4 : V m c main_v4 = rowsOf (m ((c.tc : Thread nD τ).loc main_arg0)) (m ((c.tc : Thread nD τ).loc main_arg1)) := by
  simp only [V, V0, hostOps0, List.flatten_cons, List.flatten_nil, List.append_nil, List.cons_append, List.nil_append]
  after_results_simp <;> rfl

theorem V_v5 : V m c main_v5 = shapeCast S4x1x6144 (m ((c.tc : Thread nD τ).loc main_arg3)) shapeCasts_S4x6144_S4x1x6144 := by
  simp only [V, V0, hostOps0, List.flatten_cons, List.flatten_nil, List.append_nil, List.cons_append, List.nil_append]
  after_results_simp <;> rfl

end Cert.Kernel5Ideal.Mod

end
-- ==== Proof.ModArray.lean ====
module
public import proofs.«01_k».proof.Proof.ModBlock
public import proofs.«01_k».proof.Proof.ModRows
public import Idealize.ShloMosaic.Lib.Pipeline.ValueKit

@[expose] public section

/-! # The array of modulation vectors the call leaves -/

set_option maxRecDepth 16384

noncomputable section

namespace Cert.Kernel5Ideal.Mod

open Cert.Kernel5Ideal Cert.Kernel5Ideal.Gen Idealize.ShloMosaic Idealize.ShloMosaic.TcCoe Idealize.SL.Sem
open Idealize.ShloMosaic.Pipeline (Dat)
open Cert.TailSpec Cert.ModSpec

/-- Where each block lies: layer, and column block. -/
theorem idx : ∀ t : Fin cfg0.N, win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

theorem point_lt (t : Fin cfg0.N) : t.val < 16 := lt_of_lt_of_eq t.isLt N_0

/-- A point's layer. -/
def lay (t : Fin cfg0.N) : Fin 4 := ⟨t.val / 4, by have := point_lt t; omega⟩
/-- A column of a point's block in the array. -/
def col (t : Fin cfg0.N) (j : Fin 1536) : Fin 6144 := ⟨t.val % 4 * 1536 + j.val, by omega⟩

variable (m : (ℓ : Loc nD τ sig) → Buf (Elt Ideal) ℓ) (c : Dev nD)

/-- The conditions' rows, from the arguments. -/
def rows : Vec Ideal S16x1024 .f32 := rowsOf (m ((c.tc : Thread nD τ).loc main_arg0)) (m ((c.tc : Thread nD τ).loc main_arg1))

/-- The bias with a row axis. -/
theorem bias_at (b : Vec Ideal S4x6144 .f32) (i : Fin 4) (j : Fin 6144) :
    (shapeCast S4x1x6144 b shapeCasts_S4x6144_S4x1x6144 (ix3 i 0 j) : EReal) = b (ix2 i j) := by
  pointwise

theorem blk0 (t : Fin cfg0.N) (r : Fin 16) (k : Fin 1024) : (iblk m c 0 t (ix2 r k) : EReal) = rows m c (ix2 r k) := by
  have e : iblk m c 0 t (ix2 r k) = V m c main_v4 (ix2 r k) := by
    blk_ext [iblk, idx t]
  rw [e, V_v4]
  rfl
theorem blk1 (t : Fin cfg0.N) (k : Fin 1024) (j : Fin 1536) :
    (iblk m c 1 t (ix3 0 k j) : EReal) = (m ((c.tc : Thread nD τ).loc main_arg2)) (ix3 (lay t) k (col t j)) := by
  rw [← V_main_arg2 m c]
  blk_ext [iblk, idx t, lay, col]
theorem blk2 (t : Fin cfg0.N) (j : Fin 1536) :
    (iblk m c 2 t (ix3 0 0 j) : EReal) = (m ((c.tc : Thread nD τ).loc main_arg3)) (ix2 (lay t) (col t j)) := by
  have e : iblk m c 2 t (ix3 0 0 j) = V m c main_v5 (ix3 (lay t) 0 (col t j)) := by blk_ext [iblk, idx t, lay, col]
  rw [e, V_v5]
  exact bias_at _ _ _

/-- The sixteen rows of vectors, each layer's. -/
def wide : S4x16x6144.Idx → Elt Ideal .f32 := fun i =>
  vec (fun k => rows m c (ix2 (i 1) k)) (fun k => (m ((c.tc : Thread nD τ).loc main_arg2)) (ix3 (i 0) k (i 2)))
    ((m ((c.tc : Thread nD τ).loc main_arg3)) (ix2 (i 0) (i 2)))

theorem ld_0 (X : Vec Ideal S16x1024 .f32) : View.ld X r0_0 = X := View.ld_unit_lit _ X (by decide)
theorem ld_1 (X : Vec Ideal S1x1024x1536 .f32) : View.ld X r0_1 = X := View.ld_unit_lit _ X (by decide)
theorem ld_2 (X : Vec Ideal S1x1x1536 .f32) : View.ld X r0_2 = X := View.ld_unit_lit _ X (by decide)
theorem canon_whole (w : Vec Ideal S1x16x1536 .f32) : View.canon (Val := Elt Ideal) [⟨r0_3, w⟩] = w := View.canon_cons_unit_lit _ w [] (by decide)

/-- What a block holds. -/
theorem block_at (x0 : Vec Ideal S16x1024 .f32) (x1 : Vec Ideal S1x1024x1536 .f32) (x2 : Vec Ideal S1x1x1536 .f32) (r : Fin 16)
    (j : Fin 1536) : (out0_3 x0 x1 x2 (ix3 0 r j) : EReal) =
      halves (fun k => x0 (ix2 r k)) (fun k => x1 (ix3 0 k j)) + x2 (ix3 0 0 j) := by
  unfold out0_3
  rw [canon_whole, entry_at, ld_0, ld_1, ld_2]

section Real
variable (h0 : ∀ i, IsReal ((m ((c.tc : Thread nD τ).loc main_arg0)) i)) (h1 : ∀ i, IsReal ((m ((c.tc : Thread nD τ).loc main_arg1)) i))
  (h2 : ∀ i, IsReal ((m ((c.tc : Thread nD τ).loc main_arg2)) i))
include h0 h1 h2

/-- What a point leaves at a row and a column. -/
theorem stored_at (t : Fin cfg0.N) (r : Fin 16) (j : Fin 1536) :
    ((dats m 0 c).after 3 t (ix3 0 r j) : EReal) = wide m c (ix3 (lay t) r (col t j)) := by
  rw [after0_3]
  refine (block_at _ _ _ r j).trans ?_
  simp only [blk0 m c t, blk1 m c t, blk2 m c t]
  rw [halves_real (fun k => rows m c (ix2 r k)) (fun k => (m ((c.tc : Thread nD τ).loc main_arg2)) (ix3 (lay t) k (col t j)))
    (fun k => rows_real _ _ h0 h1 r k) (fun k => h2 _)]
  rfl

/-- The array after the region. -/
theorem array : (dats m 0 c).arrAt 3 cfg0.N = wide m c := by
  refine (dats m 0 c).arrAt_eq_of_covers 3 _ (by decide +kernel) fun t _ y => ?_
  have hy : y = ix3 0 (y 1) (y 2) := by
    conv_lhs => rw [eq_ix3 y]
    congr 1
    exact Subsingleton.elim (α := Fin 1) _ _
  blk_simp
  refine (congrArg ((dats m 0 c).after 3 t) hy).trans ((stored_at m c h0 h1 h2 t (y 1) (y 2)).trans (congrArg (wide m c) ?_))
  refine (funext fun a => Fin.ext ?_)
  match a with
  | ⟨0, _⟩ => show t.val / 4 = ((win0_3.blk t).view.emb y 0).val; rw [hy]; blk_simp [idx t]; exact (Nat.add_zero _).symm
  | ⟨1, _⟩ => show (y 1).val = ((win0_3.blk t).view.emb y 1).val; rw [hy]; blk_simp [idx t]
  | ⟨2, _⟩ => show t.val % 4 * 1536 + (y 2).val = ((win0_3.blk t).view.emb y 2).val; rw [hy]; blk_simp [idx t]

end Real

/-- What the run's end holds as the result: the first nine rows of the region's array. -/
theorem tail : Pipeline.afterTail₀ cfgs (dats m) 0 (V0 m) [hostOps1] c main_v7 =
    extractStridedSlice S4x9x6144 ![0, 0, 0] ((dats m 0 c).arrAt 3 cfg0.N) slices_S4x16x6144_S4x9x6144_0_0_0 := by
  have h := Pipeline.withArrays_arr spec0 (by decide) c (V0 m c) (fun w => (dats m 0 c).arrAt w cfg0.N) 3
  unfold Pipeline.afterTail₀
  simp only [hostOps1, List.flatten_cons, List.flatten_nil, List.append_nil]
  refine Eq.trans ?_ (congrArg (fun f => extractStridedSlice S4x9x6144 ![0, 0, 0] f slices_S4x16x6144_S4x9x6144_0_0_0) h)
  generalize Pipeline.withArrays _ c (V0 m c) _ = X
  after_results_simp <;> rfl

/-- The result: the first nine rows. -/
def result : S4x9x6144.Idx → Elt Ideal .f32 := extractStridedSlice S4x9x6144 ![0, 0, 0] (wide m c) slices_S4x16x6144_S4x9x6144_0_0_0

theorem result_at (i : Fin 4) (r : Fin 9) (j : Fin 6144) : (result m c (ix3 i r j) : EReal) =
    vec (fun k => if h : r.val < 8 then (m ((c.tc : Thread nD τ).loc main_arg0)) (ix2 ⟨r.val, h⟩ k) else (m ((c.tc : Thread nD τ).loc main_arg1)) (ix1 k))
      (fun k => (m ((c.tc : Thread nD τ).loc main_arg2)) (ix3 i k j)) ((m ((c.tc : Thread nD τ).loc main_arg3)) (ix2 i j)) := by
  have e : (result m c (ix3 i r j) : EReal) = wide m c (ix3 i ⟨r.val, by omega⟩ j) := by
    unfold result
    generalize wide m c = f
    pointwise
  rw [e]
  exact congrArg (fun a => vec a _ _) (funext fun k => rows_nine _ _ r k)

end Cert.Kernel5Ideal.Mod

end
-- ==== Proof.ModRef.lean ====
module
public import proofs.«01_k».proof.Proof.ModSpec
public import proofs.«01_k».proof.Proof.Gen.Reference5Ideal.Read
public import Idealize.ShloMosaic.Lib.Pointwise

@[expose] public section

/-! # What the reference of the modulation vectors computes, one element at a time -/

set_option maxRecDepth 16384

noncomputable section

namespace Cert.Reference5Ideal.Mod

open Cert.Reference5Ideal Cert.Reference5Ideal.Gen Cert.Reference5Ideal.Read Idealize.ShloMosaic Idealize.ShloMosaic.TcCoe Idealize.SL.Sem
open Cert.TailSpec Cert.ModSpec

variable (x0 : Vec Ideal S8x1024 .f32) (x1 : Vec Ideal S1024 .f32) (x2 : Vec Ideal S4x1024x6144 .f32) (x3 : Vec Ideal S4x6144 .f32)

/-- The conditions: the batch's, then the context's. -/
def cond (r : Fin 9) (k : Fin 1024) : EReal := if h : r.val < 8 then x0 (ix2 ⟨r.val, h⟩ k) else x1 (ix1 k)

theorem cond_at (r : Fin 9) (k : Fin 1024) : (val_main_v1 (F := Ideal) x0 x1 (ix2 r k) : EReal) = cond x0 x1 r k := by
  unfold cond
  pointwise [val_main_v1, val_main_v0]

theorem silu_at (r : Fin 9) (k : Fin 1024) : (val_main_v2 (F := Ideal) x0 x1 (ix2 r k) : EReal) = silu (cond x0 x1 r k) := by
  rw [← cond_at, ← silu_mul, ← one_bits]
  unfold val_main_v2 val_main_call0_v5 val_main_call0_v3 val_main_call0_v1 val_main_call0_v0
  generalize val_main_v1 (F := Ideal) x0 x1 = y
  pointwise [val_main_call0_v4, val_main_call0_v2, val_main_call0_cst, val_main_call0_cst_0]

/-- The reference's element is the layer's entry. -/
theorem result_at (i : Fin 4) (r : Fin 9) (j : Fin 6144) : (val_main_v7 (F := Ideal) x0 x1 x2 x3 (ix3 i r j) : EReal) =
    vec (cond x0 x1 r) (fun k => x2 (ix3 i k j)) (x3 (ix2 i j)) := by
  have e : (val_main_v7 (F := Ideal) x0 x1 x2 x3 (ix3 i r j) : EReal) =
      (∑ k : Fin 1024, (val_main_v2 (F := Ideal) x0 x1 (ix2 r k) : EReal) * x2 (ix3 i k j)) + x3 (ix2 i j) := by
    unfold val_main_v7 val_main_v4 val_main_v3
    generalize val_main_v2 (F := Ideal) x0 x1 = y
    pointwise [val_main_v6, val_main_v5]
  rw [e]
  simp only [silu_at]
  rfl

end Cert.Reference5Ideal.Mod

end
-- ==== Proof.ModClaim.lean ====
module
public import proofs.«01_k».proof.Defs
public import proofs.«01_k».proof.Proof.Finite
public import proofs.«01_k».proof.Proof.ModArray
public import proofs.«01_k».proof.Proof.ModRef
public import proofs.«01_k».proof.Proof.Gen.Reference5Ideal.Run
public import Idealize.ShloMosaic.Lib.Quiescent
public import Idealize.ShloMosaic.Lib.Claim

@[expose] public section

/-! # The claims about the modulation vectors' call -/

set_option maxRecDepth 16384

noncomputable section

namespace Cert.Mod

open Idealize.ShloMosaic Idealize.SL.Sem Cert.ModSpec

/-- The side conditions the predicate states. -/
theorem facts : Cert.Pre_finite_conditions.Facts where
  bcast_S_S8x1024 := by decide
  bcast_S_S1024 := by decide
  bcast_S_S4x1024x6144 := by decide

section Pre
open Cert.Pre_finite_conditions
variable [Cert.Pre_finite_conditions.Facts]
  (x : FVec Ideal S8x1024 .f32) (y : FVec Ideal S1024 .f32) (w : FVec Ideal S4x1024x6144 .f32) (b : FVec Ideal S4x6144 .f32)

theorem batch_real (h : (fn x y w b).1 = fun _ => 1#1) (i : S8x1024.Idx) : IsReal (x i) := by
  refine Cert.Finite.real_of_cmp _ ?_
  have := congrFun h i
  exact this
theorem context_real (h : (fn x y w b).2.1 = fun _ => 1#1) (i : S1024.Idx) : IsReal (y i) := by
  refine Cert.Finite.real_of_cmp _ ?_
  have := congrFun h i
  exact this
theorem weight_real (h : (fn x y w b).2.2 = fun _ => 1#1) (i : S4x1024x6144.Idx) : IsReal (w i) := by
  refine Cert.Finite.real_of_cmp _ ?_
  have := congrFun h i
  exact this
end Pre

/-- The reference ends with its arguments kept; it declares no semaphore. -/
theorem reference_kept : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

variable [hPre : Cert.Pre_finite_conditions.Facts]

/-- The kernel's run, with the first nine rows of what the region left. -/
theorem kernel_run (m : (ℓ : Loc Cert.Kernel5Ideal.nD Cert.Kernel5Ideal.τ Cert.Kernel5Ideal.sig) → Buf (Elt Ideal) ℓ)
    (g : Dev Cert.Kernel5Ideal.nD → PrngReg) (hpre : Cert.Pre_Kernel5Ideal_finite_conditions m) :
    θ_run (Cert.Kernel5Ideal.defs (F := Ideal)) (onTc (τ := Cert.Kernel5Ideal.τ) (Cert.Kernel5Ideal.main (F := Ideal))) ⟨m, fun _ => 0, g⟩
      (fun r => ∀ c : Dev Cert.Kernel5Ideal.nD,
        r.2.mem ((c.tc : Thread Cert.Kernel5Ideal.nD Cert.Kernel5Ideal.τ).loc Cert.Kernel5Ideal.main_v7) = Cert.Kernel5Ideal.Mod.result m c
        ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
        ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
        ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)) := by
  run_from Cert.Kernel5Ideal.Gen.run_main m g
  · obtain ⟨h1, h2, h3⟩ := hpre c
    refine (Cert.Kernel5Ideal.Mod.tail m c).trans ?_
    rw [Cert.Kernel5Ideal.Mod.array m c (batch_real _ _ _ _ h1) (context_real _ _ _ _ h2) (weight_real _ _ _ _ h3)]
    rfl
  · exact Cert.Kernel5Ideal.Gen.W_main_arg0 m (Cert.Kernel5Ideal.Gen.dats m) c
  · exact Cert.Kernel5Ideal.Gen.W_main_arg1 m (Cert.Kernel5Ideal.Gen.dats m) c
  · exact Cert.Kernel5Ideal.Gen.W_main_arg3 m (Cert.Kernel5Ideal.Gen.dats m) c

/-- Equal results: both arrays hold, at every layer, row and column, the entry of `ModSpec`. -/
theorem algebraic : Cert.algebraic_Kernel5Ideal_Reference5Ideal_pre_finite_conditions := by
  intro m g m' g' hpre hagree
  refine ⟨fun c => Cert.Kernel5Ideal.Mod.result m c, kernel_run m g hpre, ?_⟩
  refine (θ_run Cert.Reference5Ideal.defs _ _).mono (fun r h c => ⟨(h c).1.trans ?_, (h c).2⟩)
    (Cert.Reference5Ideal.Value.run (F := Ideal) m' g')
  refine (Cert.Reference5Ideal.Read.val_main_v7_eq _ _ _ _).trans ?_
  obtain ⟨a0, a1, a2, a3⟩ := hagree c
  rw [a0, a1, a2, a3]
  funext i
  rw [eq_ix3 i]
  exact (Cert.Reference5Ideal.Mod.result_at _ _ _ _ (i 0) (i 1) (i 2)).trans (Cert.Kernel5Ideal.Mod.result_at m c (i 0) (i 1) (i 2)).symm

end Cert.Mod

end
-- ==== Proof.FouSpec.lean ====
module
public import proofs.«01_k».proof.Proof.TailSpec

@[expose] public section

/-! # The Fourier mixing of one sample's context, over the extended reals -/

noncomputable section

namespace Cert.FouSpec

open Idealize.ShloMosaic Cert.TailSpec

/-- Column `k` of the group of 256 channels that holds channel `d`. -/
def near (d : Fin 1024) (k : Fin 256) : Fin 1024 := ⟨256 * (d.val / 256) + k.val, by omega⟩
/-- A channel's place in its group. -/
def place (d : Fin 1024) : Fin 256 := ⟨d.val % 256, Nat.mod_lt _ (by decide)⟩

section
variable (x : Fin 256 → Fin 1024 → EReal) (g sh sc : Fin 1024 → EReal) (re im cs sn : Fin 256 → Fin 256 → EReal)
  (wo : Fin 1024 → Fin 1024 → EReal) (gpost ga : Fin 1024 → EReal)

/-- The modulated norm. -/
def modl (p : Fin 256) (d : Fin 1024) : EReal := rms w1024 (x p) g d * (1 + sc d) + sh d

/-- A table over the positions times the rows. -/
def along (h : Fin 256 → Fin 1024 → EReal) (p : Fin 256) (d : Fin 1024) : EReal := ∑ q, re p q * h q d

/-- The transform's real part: both tables over the positions, then those over a group's channels. -/
def freq (u w : Fin 1024 → EReal) (d : Fin 1024) : EReal :=
  (∑ k, u (near d k) * cs k (place d)) + ∑ k, w (near d k) * sn k (place d)

/-- The mixer's output projection. -/
def proj (h : Fin 256 → Fin 1024 → EReal) (p : Fin 256) (c : Fin 1024) : EReal :=
  ∑ d, freq cs sn (along re h p) (along im h p) d * wo d c

/-- The stream after the mixer. -/
def mixer (p : Fin 256) (c : Fin 1024) : EReal :=
  x p c + ga c * rms w1024 (proj re im cs sn wo (modl x g sh sc) p) gpost c

end

/-! The transforms' tables, both of 256 points. -/

/-- The angle of the root of unity at a row and a column: 2 pi (p q mod 256) / 256. -/
def angle (p q : Fin 256) : EReal :=
  Ideal.div (Ideal.ofBits .f32 0x40C90FDB#32 *
    FloatOps.sitofp (F := Ideal) .f32 (IntOp.remsi .host (IntOp.muli (BitVec.ofNat 32 p.val) (BitVec.ofNat 32 q.val)) 256#32))
    (Ideal.ofBits .f32 0x43800000#32)

/-- The square root of 256. -/
def root : EReal := Ideal.ofBits .f32 0x41800000#32

def cosine (p q : Fin 256) : EReal := Ideal.div (Ideal.cos (angle p q)) root
def sine (p q : Fin 256) : EReal := Ideal.div (Ideal.sin (angle p q)) root
def minusSine (p q : Fin 256) : EReal := Ideal.div (-Ideal.sin (angle p q)) root

end Cert.FouSpec

end
-- ==== Proof.FouBlock.lean ====
module
public import proofs.«01_k».proof.Proof.FouSpec
public import proofs.«01_k».proof.Proof.Gen.Kernel6Ideal.Frame
public import Idealize.ShloMosaic.Lib.Pipeline.ValueKit
public import Idealize.ShloMosaic.Lib.Pointwise

@[expose] public section

/-! # What one block of the Fourier mixing computes -/

set_option maxRecDepth 16384

noncomputable section

namespace Cert.Kernel6Ideal.Fou

open Cert.Kernel6Ideal Cert.Kernel6Ideal.Gen Idealize.ShloMosaic Idealize.ShloMosaic.TcCoe Idealize.SL.Sem
open Cert.TailSpec Cert.FouSpec

section Positions
variable (x0 : Vec Ideal S1x256x1024 .f32) (x1 : Vec Ideal S1x1024 .f32) (x3 x2 : Vec Ideal S1x1x1024 .f32) (x4 : Vec Ideal S512x256 .bf16)

/-- Both tables over the positions, one below the other, times the modulated norm. -/
theorem tables_at (p : Fin 512) (d : Fin 1024) : (k0_pay3 x0 x1 x3 x2 x4 (ix2 p d) : EReal) =
    ∑ q : Fin 256, x4 (ix2 p q) *
      modl (fun q d => x0 (ix3 0 q d)) (fun d => x1 (ix2 0 d)) (fun d => x2 (ix3 0 0 d)) (fun d => x3 (ix3 0 0 d)) q d := by
  unfold modl
  rw [← one_bits]
  pointwise [k0_pay3, k0_pay2, rms, w1024, eps]

theorem real_at (p : Fin 256) (d : Fin 1024) : (k0_pay4 x0 x1 x3 x2 x4 (ix2 p d) : EReal) =
    k0_pay3 x0 x1 x3 x2 x4 (ix2 ⟨p.val, by omega⟩ d) := by
  unfold k0_pay4
  generalize k0_pay3 x0 x1 x3 x2 x4 = y
  pointwise

theorem imag_at (p : Fin 256) (d : Fin 1024) : (k0_pay5 x0 x1 x3 x2 x4 (ix2 p d) : EReal) =
    k0_pay3 x0 x1 x3 x2 x4 (ix2 ⟨256 + p.val, by omega⟩ d) := by
  unfold k0_pay5
  generalize k0_pay3 x0 x1 x3 x2 x4 = y
  pointwise

end Positions

/-! The groups of channels. -/

/-- A group's product with a table. -/
def times (a : FVec Ideal S256x256 .bf16) (b : Vec Ideal S256x256 .bf16) : FVec Ideal S256x256 .f32 :=
  matmul (φ₂ := .bf16) dot_S256x256_S256x256_S256x256_1_0_0_1_n_n none a
    (shapeCast (α := Elt Ideal .bf16) S256x256 b shapeCasts_S256x256_S256x256) (constant S256x256 .f32 0x00000000#32)

def cut0 (u : FVec Ideal S256x1024 .bf16) : FVec Ideal S256x256 .bf16 := extractStridedSlice S256x256 ![0, 0] u slices_S256x1024_o0_0_S256x256
def cut1 (u : FVec Ideal S256x1024 .bf16) : FVec Ideal S256x256 .bf16 := extractStridedSlice S256x256 ![0, 256] u slices_S256x1024_o0_256_S256x256
def cut2 (u : FVec Ideal S256x1024 .bf16) : FVec Ideal S256x256 .bf16 := extractStridedSlice S256x256 ![0, 512] u slices_S256x1024_o0_512_S256x256
def cut3 (u : FVec Ideal S256x1024 .bf16) : FVec Ideal S256x256 .bf16 := extractStridedSlice S256x256 ![0, 768] u slices_S256x1024_o0_768_S256x256

/-- The four groups side by side. -/
def beside (a b c d : FVec Ideal S256x256 .f32) : FVec Ideal S256x1024 .f32 :=
  concatenate S256x1024 1 [⟨S256x256, a⟩, ⟨S256x256, b⟩, ⟨S256x256, c⟩, ⟨S256x256, d⟩] concatenates_S256x256_S256x256_S256x256_S256x256_S256x1024_d1

/-- The output projection. -/
def project (f : FVec Ideal S256x1024 .f32) (w : Vec Ideal S1024x1024 .bf16) : FVec Ideal S256x1024 .f32 :=
  matmul (φ₂ := .bf16) dot_S256x1024_S1024x1024_S256x1024_1_0_0_1_n_n none (truncf .bf16 f bitsLt_bf16_f32)
    (shapeCast (α := Elt Ideal .bf16) S1024x1024 w shapeCasts_S1024x1024_S1024x1024) (constant S256x1024 .f32 0x00000000#32)

variable (u w : FVec Ideal S256x1024 .bf16) (cs sn : Vec Ideal S256x256 .bf16) (p : Fin 256)

theorem times_at (a : FVec Ideal S256x256 .bf16) (j : Fin 256) : (times a cs (ix2 p j) : EReal) = ∑ k : Fin 256, (a (ix2 p k) : EReal) * cs (ix2 k j) := by
  pointwise [times]
theorem cut0_at (k : Fin 256) : (cut0 u (ix2 p k) : EReal) = u (ix2 p ⟨k.val, by omega⟩) := by pointwise [cut0]
theorem cut1_at (k : Fin 256) : (cut1 u (ix2 p k) : EReal) = u (ix2 p ⟨256 + k.val, by omega⟩) := by pointwise [cut1]
theorem cut2_at (k : Fin 256) : (cut2 u (ix2 p k) : EReal) = u (ix2 p ⟨512 + k.val, by omega⟩) := by pointwise [cut2]
theorem cut3_at (k : Fin 256) : (cut3 u (ix2 p k) : EReal) = u (ix2 p ⟨768 + k.val, by omega⟩) := by pointwise [cut3]

theorem beside_at (a b c d : FVec Ideal S256x256 .f32) (j : Fin 1024) : (beside a b c d (ix2 p j) : EReal) =
    if h0 : j.val < 256 then (a (ix2 p ⟨j.val, h0⟩) : EReal)
    else if h1 : j.val - 256 < 256 then (b (ix2 p ⟨j.val - 256, h1⟩) : EReal)
    else if h2 : j.val - 256 - 256 < 256 then (c (ix2 p ⟨j.val - 256 - 256, h2⟩) : EReal)
    else (d (ix2 p ⟨j.val - 256 - 256 - 256, by omega⟩) : EReal) := by
  pointwise [beside]

theorem project_at (f : FVec Ideal S256x1024 .f32) (wo : Vec Ideal S1024x1024 .bf16) (c : Fin 1024) :
    (project f wo (ix2 p c) : EReal) = ∑ d : Fin 1024, (f (ix2 p d) : EReal) * wo (ix2 d c) := by
  pointwise [project]

/-- A group's two products, at the channel it holds. -/
theorem group_at (j : Fin 1024) (o : ℕ) (ho : o = 256 * (j.val / 256)) (i : Fin 256) (hi : o + i.val = j.val)
    (a b : FVec Ideal S256x256 .bf16) (ha : ∀ k : Fin 256, (a (ix2 p k) : EReal) = u (ix2 p ⟨o + k.val, by omega⟩))
    (hb : ∀ k : Fin 256, (b (ix2 p k) : EReal) = w (ix2 p ⟨o + k.val, by omega⟩)) :
    (addf (times a cs) (times b sn) (ix2 p i) : EReal) =
      freq (fun k j => cs (ix2 k j)) (fun k j => sn (ix2 k j)) (fun d => u (ix2 p d)) (fun d => w (ix2 p d)) j := by
  subst ho
  have hp : place j = i := Fin.ext (by show j.val % 256 = i.val; omega)
  show (times a cs (ix2 p i) : EReal) + times b sn (ix2 p i) = _
  rw [times_at, times_at]
  unfold freq
  rw [hp]
  simp only [ha, hb]
  rfl

/-- The four groups' products. -/
theorem groups_at (j : Fin 1024) :
    (beside (addf (times (cut0 u) cs) (times (cut0 w) sn)) (addf (times (cut1 u) cs) (times (cut1 w) sn))
        (addf (times (cut2 u) cs) (times (cut2 w) sn)) (addf (times (cut3 u) cs) (times (cut3 w) sn)) (ix2 p j) : EReal) =
      freq (fun k j => cs (ix2 k j)) (fun k j => sn (ix2 k j)) (fun d => u (ix2 p d)) (fun d => w (ix2 p d)) j := by
  have hj := j.isLt
  rw [beside_at]
  split_ifs with h0 h1 h2
  · exact group_at u w cs sn p j 0 (by omega) _ (by show 0 + j.val = j.val; omega) _ _
      (fun k => (cut0_at u p k).trans (congrArg (fun d => u (ix2 p d)) (Fin.ext (Nat.zero_add _).symm)))
      (fun k => (cut0_at w p k).trans (congrArg (fun d => w (ix2 p d)) (Fin.ext (Nat.zero_add _).symm)))
  · exact group_at u w cs sn p j 256 (by omega) _ (by show 256 + (j.val - 256) = j.val; omega) _ _ (cut1_at u p) (cut1_at w p)
  · exact group_at u w cs sn p j 512 (by omega) _ (by show 512 + (j.val - 256 - 256) = j.val; omega) _ _ (cut2_at u p) (cut2_at w p)
  · exact group_at u w cs sn p j 768 (by omega) _ (by show 768 + (j.val - 256 - 256 - 256) = j.val; omega) _ _ (cut3_at u p) (cut3_at w p)

/-- The residual, normed and gated. -/
theorem residual_at (x : FVec Ideal S256x1024 .f32) (f : FVec Ideal S256x1024 .f32) (wo : Vec Ideal S1024x1024 .bf16)
    (ga : Vec Ideal S1x1x1024 .f32) (gp : Vec Ideal S1x1024 .f32) (c : Fin 1024) :
    (k0_pay1 x (truncf .bf16 f bitsLt_bf16_f32) (k0_pay8 wo) (constant S256x1024 .f32 0x00000000#32) ga gp (ix3 0 p c) : EReal) =
      (x (ix2 p c) : EReal) + (ga (ix3 0 0 c) : EReal) * rms w1024 (fun c => (project f wo (ix2 p c) : EReal)) (fun c => gp (ix2 0 c)) c := by
  have e : matmul (φ₂ := .bf16) dot_S256x1024_S1024x1024_S256x1024_1_0_0_1_n_n none (truncf .bf16 f bitsLt_bf16_f32) (k0_pay8 wo)
      (constant S256x1024 .f32 0x00000000#32) = project f wo := rfl
  unfold k0_pay1
  simp only [e]
  generalize project f wo = y
  pointwise [rms, w1024, eps]

section Block
variable (x0 : Vec Ideal S1x256x1024 .f32) (x1 : Vec Ideal S1x1024 .f32) (x2 x3 : Vec Ideal S1x1x1024 .f32) (x4 : Vec Ideal S512x256 .bf16)
  (x5 x6 : Vec Ideal S256x256 .bf16) (x7 : Vec Ideal S1024x1024 .bf16) (x8 : Vec Ideal S1x1024 .f32) (x9 : Vec Ideal S1x1x1024 .f32)

theorem ld_0 {e : EltTy} (X : Vec Ideal S1x256x1024 e) : View.ld X r0_0 = X := View.ld_unit_lit _ X (by decide)
theorem ld_1 {e : EltTy} (X : Vec Ideal S1x1024 e) : View.ld X r0_1 = X := View.ld_unit_lit _ X (by decide)
theorem ld_2 {e : EltTy} (X : Vec Ideal S1x1x1024 e) : View.ld X r0_2 = X := View.ld_unit_lit _ X (by decide)
theorem ld_3 {e : EltTy} (X : Vec Ideal S512x256 e) : View.ld X r0_3 = X := View.ld_unit_lit _ X (by decide)
theorem ld_4 {e : EltTy} (X : Vec Ideal S256x256 e) : View.ld X r0_4 = X := View.ld_unit_lit _ X (by decide)
theorem ld_5 {e : EltTy} (X : Vec Ideal S1024x1024 e) : View.ld X r0_5 = X := View.ld_unit_lit _ X (by decide)
theorem canon_whole (w : Vec Ideal S1x256x1024 .f32) : View.canon (Val := Elt Ideal) [⟨r0_0, w⟩] = w := View.canon_cons_unit_lit _ w [] (by decide)

/-- The groups of a block. -/
def grouped : FVec Ideal S256x1024 .f32 :=
  beside
    (addf (times (cut0 (k0_pay4 x0 x1 x3 x2 x4)) x5) (times (cut0 (k0_pay5 x0 x1 x3 x2 x4)) x6))
    (addf (times (cut1 (k0_pay4 x0 x1 x3 x2 x4)) x5) (times (cut1 (k0_pay5 x0 x1 x3 x2 x4)) x6))
    (addf (times (cut2 (k0_pay4 x0 x1 x3 x2 x4)) x5) (times (cut2 (k0_pay5 x0 x1 x3 x2 x4)) x6))
    (addf (times (cut3 (k0_pay4 x0 x1 x3 x2 x4)) x5) (times (cut3 (k0_pay5 x0 x1 x3 x2 x4)) x6))

theorem out_eq : out0_10 x0 x1 x2 x3 x4 x5 x6 x7 x8 x9 =
    k0_pay1 (k0_pay2 x0) (truncf .bf16 (grouped x0 x1 x2 x3 x4 x5 x6) bitsLt_bf16_f32) (k0_pay8 x7) (constant S256x1024 .f32 0x00000000#32) x9 x8 := by
  unfold out0_10
  rw [canon_whole]
  simp only [ld_0, ld_1, ld_2, ld_3, ld_4, ld_5]
  rfl

theorem projected_at (c : Fin 1024) : (project (grouped x0 x1 x2 x3 x4 x5 x6) x7 (ix2 p c) : EReal) =
    proj (fun p q => x4 (ix2 ⟨p.val, by omega⟩ q)) (fun p q => x4 (ix2 ⟨256 + p.val, by omega⟩ q)) (fun k j => x5 (ix2 k j))
      (fun k j => x6 (ix2 k j)) (fun d c => x7 (ix2 d c))
      (modl (fun q d => x0 (ix3 0 q d)) (fun d => x1 (ix2 0 d)) (fun d => x2 (ix3 0 0 d)) (fun d => x3 (ix3 0 0 d))) p c := by
  rw [project_at]
  unfold grouped
  simp only [groups_at, real_at, imag_at, tables_at]
  rfl

/-- The block's entry is the mixer's. -/
theorem block_at (c : Fin 1024) : (out0_10 x0 x1 x2 x3 x4 x5 x6 x7 x8 x9 (ix3 0 p c) : EReal) =
    mixer (fun q d => x0 (ix3 0 q d)) (fun d => x1 (ix2 0 d)) (fun d => x2 (ix3 0 0 d)) (fun d => x3 (ix3 0 0 d))
      (fun p q => x4 (ix2 ⟨p.val, by omega⟩ q)) (fun p q => x4 (ix2 ⟨256 + p.val, by omega⟩ q)) (fun k j => x5 (ix2 k j))
      (fun k j => x6 (ix2 k j)) (fun d c => x7 (ix2 d c)) (fun c => x8 (ix2 0 c)) (fun c => x9 (ix3 0 0 c)) p c := by
  have h2 : (k0_pay2 x0 (ix2 p c) : EReal) = x0 (ix3 0 p c) := by pointwise [k0_pay2]
  rw [out_eq, residual_at, h2]
  simp only [projected_at]
  rfl

end Block

end Cert.Kernel6Ideal.Fou

end
-- ==== Proof.FouArray.lean ====
module
public import proofs.«01_k».proof.Proof.FouBlock
public import proofs.«01_k».proof.Proof.Gen.Kernel6Ideal.Value
public import Idealize.ShloMosaic.Lib.StableHlo.Run

@[expose] public section

/-! # The whole array the Fourier mixing of the context leaves -/

set_option maxRecDepth 16384

noncomputable section

namespace Cert.Kernel6Ideal.Fou

open Cert.Kernel6Ideal Cert.Kernel6Ideal.Gen Idealize.ShloMosaic Idealize.ShloMosaic.TcCoe Idealize.SL.Sem
open Idealize.ShloMosaic.Pipeline (Dat)
open Cert.TailSpec Cert.FouSpec

/-- Where each block lies: its sample. -/
theorem idx : ∀ t : Fin cfg0.N, win0_0.index t = ![t.val, 0, 0]
    ∧ win0_1.index t = ![0, 0]
    ∧ win0_2.index t = ![t.val, 0, 0]
    ∧ win0_3.index t = ![t.val, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0, 0]
    ∧ win0_10.index t = ![t.val, 0, 0] :=
  (by decide +kernel : ∀ t : Fin grid0.N, _)

/-- A point's sample. -/
def bat (t : Fin cfg0.N) : Fin 8 := ⟨t.val, lt_of_lt_of_eq t.isLt N_0⟩

variable (m : (ℓ : Loc nD τ sig) → Buf (Elt Ideal) ℓ) (c : Dev nD)

/-! What the host prepares. -/

/-- The angles: row times column modulo 256, times 2 pi, divided by 256. -/
def angles : FVec Ideal S256x256 .f32 :=
  Host.divf (mulf (broadcastInDim S256x256 ![] bcast_S_S256x256 (constant (F := Ideal) S_ .f32 0x40C90FDB#32))
    (sitofp .f32 (Host.remsi
      (muli (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))
      (broadcastInDim S256x256 ![] bcast_S_S256x256 (constantI S_ 32 256#32)))))
    (broadcastInDim S256x256 ![] bcast_S_S256x256 (constant (F := Ideal) S_ .f32 0x43800000#32))

theorem angles_at (p q : Fin 256) : (angles (ix2 p q) : EReal) = angle p q := by pointwise [angles, angle]

/-- Two tables over the positions, one below the other, divided by the root. -/
def stacked (a b : FVec Ideal S256x256 .f32) : Vec Ideal S512x256 .f32 :=
  Host.divf (concatenate S512x256 0 [⟨S256x256, a⟩, ⟨S256x256, b⟩] concatenates_S256x256_S256x256_S512x256_d0)
    (broadcastInDim S512x256 ![] bcast_S_S512x256 (constant (F := Ideal) S_ .f32 0x41800000#32))

theorem stacked_at (a b : FVec Ideal S256x256 .f32) (i : Fin 512) (q : Fin 256) : (stacked a b (ix2 i q) : EReal) =
    Ideal.div (if h : i.val < 256 then (a (ix2 ⟨i.val, h⟩ q) : EReal) else b (ix2 ⟨i.val - 256, by omega⟩ q)) root := by
  pointwise [stacked, root]
theorem stacked_low (a b : FVec Ideal S256x256 .f32) (p q : Fin 256) :
    (stacked a b (ix2 ⟨p.val, by omega⟩ q) : EReal) = Ideal.div (a (ix2 p q)) root := by
  rw [stacked_at, dif_pos p.isLt]
theorem stacked_high (a b : FVec Ideal S256x256 .f32) (p q : Fin 256) :
    (stacked a b (ix2 ⟨256 + p.val, by omega⟩ q) : EReal) = Ideal.div (b (ix2 p q)) root := by
  rw [stacked_at, dif_neg (by show ¬ 256 + p.val < 256; omega)]
  exact congrArg (fun i => Ideal.div (b (ix2 i q)) root) (Fin.ext (by show 256 + p.val - 256 = p.val; omega))

/-- The positions' tables. -/
def positions : Vec Ideal S512x256 .f32 := stacked (Host.cos angles) (Host.negf (Host.sin angles))

theorem positions_low (p q : Fin 256) : (positions (ix2 ⟨p.val, by omega⟩ q) : EReal) = cosine p q := by
  unfold positions cosine
  rw [stacked_low, ← angles_at]
  generalize angles = a
  pointwise
theorem positions_high (p q : Fin 256) : (positions (ix2 ⟨256 + p.val, by omega⟩ q) : EReal) = minusSine p q := by
  unfold positions minusSine
  rw [stacked_high, ← angles_at]
  generalize angles = a
  pointwise

/-- A table divided by the root. -/
def scaled (a : FVec Ideal S256x256 .f32) : FVec Ideal S256x256 .f32 :=
  Host.divf a (broadcastInDim S256x256 ![] bcast_S_S256x256 (constant (F := Ideal) S_ .f32 0x41800000#32))

theorem scaled_cos (p q : Fin 256) : (scaled (Host.cos angles) (ix2 p q) : EReal) = cosine p q := by
  unfold cosine
  rw [← angles_at]
  generalize angles = a
  pointwise [scaled, root]
theorem scaled_sin (p q : Fin 256) : (scaled (Host.sin angles) (ix2 p q) : EReal) = sine p q := by
  unfold sine
  rw [← angles_at]
  generalize angles = a
  pointwise [scaled, root]

/-- A vector, and one for each sample, with unit axes. -/
def lifted (g : Vec Ideal S1024 .f32) : Vec Ideal S1x1024 .f32 := broadcastInDim S1x1024 ![1] bcast_S1024_S1x1024_1 g
def each (g : Vec Ideal S8x1024 .f32) : Vec Ideal S8x1x1024 .f32 := broadcastInDim S8x1x1024 ![0, 2] bcast_S8x1024_S8x1x1024_0_2 g

theorem lifted_at (g : Vec Ideal S1024 .f32) (d : Fin 1024) : (lifted g (ix2 0 d) : EReal) = g (ix1 d) := by pointwise [lifted]
theorem each_at (g : Vec Ideal S8x1024 .f32) (b : Fin 8) (d : Fin 1024) : (each g (ix3 b 0 d) : EReal) = g (ix2 b d) := by pointwise [each]

theorem V_v0 : V m c main_v0 = lifted (m ((c.tc : Thread nD τ).loc main_arg1)) := by unfold V; after_results_simp <;> rfl
theorem V_v1 : V m c main_v1 = each (m ((c.tc : Thread nD τ).loc main_arg2)) := by unfold V; after_results_simp <;> rfl
theorem V_v2 : V m c main_v2 = each (m ((c.tc : Thread nD τ).loc main_arg3)) := by unfold V; after_results_simp <;> rfl
theorem V_v3 : (V m c main_v3 : S1024x1024.Idx → EReal) = m ((c.tc : Thread nD τ).loc main_arg4) := by unfold V; after_results_simp <;> rfl
theorem V_v4 : V m c main_v4 = lifted (m ((c.tc : Thread nD τ).loc main_arg5)) := by unfold V; after_results_simp <;> rfl
theorem V_v5 : V m c main_v5 = each (m ((c.tc : Thread nD τ).loc main_arg6)) := by unfold V; after_results_simp <;> rfl
theorem V_v40 : (V m c main_v40 : S512x256.Idx → EReal) = positions := by unfold V; after_results_simp <;> rfl
theorem V_v43 : (V m c main_v43 : S256x256.Idx → EReal) = scaled (Host.cos angles) := by unfold V; after_results_simp <;> rfl
theorem V_v46 : (V m c main_v46 : S256x256.Idx → EReal) = scaled (Host.sin angles) := by unfold V; after_results_simp <;> rfl

/-! The blocks of a point. -/

theorem blk0 (t : Fin cfg0.N) (p : Fin 256) (d : Fin 1024) :
    (iblk m c 0 t (ix3 0 p d) : EReal) = (m ((c.tc : Thread nD τ).loc main_arg0)) (ix3 (bat t) p d) := by
  rw [← V_main_arg0 m c]
  blk_ext [iblk, idx t, bat]
theorem blk1 (t : Fin cfg0.N) (d : Fin 1024) : (iblk m c 1 t (ix2 0 d) : EReal) = (m ((c.tc : Thread nD τ).loc main_arg1)) (ix1 d) := by
  have e : iblk m c 1 t (ix2 0 d) = V m c main_v0 (ix2 0 d) := by blk_ext [iblk, idx t]
  rw [e, V_v0]
  exact lifted_at _ d
theorem blk2 (t : Fin cfg0.N) (d : Fin 1024) : (iblk m c 2 t (ix3 0 0 d) : EReal) = (m ((c.tc : Thread nD τ).loc main_arg2)) (ix2 (bat t) d) := by
  have e : iblk m c 2 t (ix3 0 0 d) = V m c main_v1 (ix3 (bat t) 0 d) := by blk_ext [iblk, idx t, bat]
  rw [e, V_v1]
  exact each_at _ _ d
theorem blk3 (t : Fin cfg0.N) (d : Fin 1024) : (iblk m c 3 t (ix3 0 0 d) : EReal) = (m ((c.tc : Thread nD τ).loc main_arg3)) (ix2 (bat t) d) := by
  have e : iblk m c 3 t (ix3 0 0 d) = V m c main_v2 (ix3 (bat t) 0 d) := by blk_ext [iblk, idx t, bat]
  rw [e, V_v2]
  exact each_at _ _ d
theorem blk4 (t : Fin cfg0.N) (p : Fin 512) (q : Fin 256) : (iblk m c 4 t (ix2 p q) : EReal) = positions (ix2 p q) := by
  have e : iblk m c 4 t (ix2 p q) = V m c main_v40 (ix2 p q) := by blk_ext [iblk, idx t]
  rw [e]
  exact congrFun (V_v40 m c) _
theorem blk5 (t : Fin cfg0.N) (p : Fin 256) (q : Fin 256) : (iblk m c 5 t (ix2 p q) : EReal) = cosine p q := by
  have e : iblk m c 5 t (ix2 p q) = V m c main_v43 (ix2 p q) := by blk_ext [iblk, idx t]
  rw [e]
  exact (congrFun (V_v43 m c) _).trans (scaled_cos p q)
theorem blk6 (t : Fin cfg0.N) (p : Fin 256) (q : Fin 256) : (iblk m c 6 t (ix2 p q) : EReal) = sine p q := by
  have e : iblk m c 6 t (ix2 p q) = V m c main_v46 (ix2 p q) := by blk_ext [iblk, idx t]
  rw [e]
  exact (congrFun (V_v46 m c) _).trans (scaled_sin p q)
theorem blk7 (t : Fin cfg0.N) (d e : Fin 1024) : (iblk m c 7 t (ix2 d e) : EReal) = (m ((c.tc : Thread nD τ).loc main_arg4)) (ix2 d e) := by
  have h : iblk m c 7 t (ix2 d e) = V m c main_v3 (ix2 d e) := by blk_ext [iblk, idx t]
  rw [h]
  exact congrFun (V_v3 m c) _
theorem blk8 (t : Fin cfg0.N) (d : Fin 1024) : (iblk m c 8 t (ix2 0 d) : EReal) = (m ((c.tc : Thread nD τ).loc main_arg5)) (ix1 d) := by
  have e : iblk m c 8 t (ix2 0 d) = V m c main_v4 (ix2 0 d) := by blk_ext [iblk, idx t]
  rw [e, V_v4]
  exact lifted_at _ d
theorem blk9 (t : Fin cfg0.N) (d : Fin 1024) : (iblk m c 9 t (ix3 0 0 d) : EReal) = (m ((c.tc : Thread nD τ).loc main_arg6)) (ix2 (bat t) d) := by
  have e : iblk m c 9 t (ix3 0 0 d) = V m c main_v5 (ix3 (bat t) 0 d) := by blk_ext [iblk, idx t, bat]
  rw [e, V_v5]
  exact each_at _ _ d

/-- The array of results: sample, position and channel. -/
def result : S8x256x1024.Idx → Elt Ideal .f32 := fun i =>
  mixer (fun p d => (m ((c.tc : Thread nD τ).loc main_arg0)) (ix3 (i 0) p d)) (fun d => (m ((c.tc : Thread nD τ).loc main_arg1)) (ix1 d))
    (fun d => (m ((c.tc : Thread nD τ).loc main_arg2)) (ix2 (i 0) d)) (fun d => (m ((c.tc : Thread nD τ).loc main_arg3)) (ix2 (i 0) d))
    cosine minusSine cosine sine (fun d e => (m ((c.tc : Thread nD τ).loc main_arg4)) (ix2 d e)) (fun d => (m ((c.tc : Thread nD τ).loc main_arg5)) (ix1 d))
    (fun d => (m ((c.tc : Thread nD τ).loc main_arg6)) (ix2 (i 0) d)) (i 1) (i 2)

/-- What a point leaves at a position and a channel. -/
theorem stored_at (t : Fin cfg0.N) (p : Fin 256) (j : Fin 1024) :
    ((dats m 0 c).after 10 t (ix3 0 p j) : EReal) = result m c (ix3 (bat t) p j) := by
  rw [after0_10]
  refine (block_at p _ _ _ _ _ _ _ _ _ _ j).trans ?_
  simp only [blk0 m c t, blk1 m c t, blk2 m c t, blk3 m c t, blk4 m c t, blk5 m c t, blk6 m c t, blk7 m c t, blk8 m c t, blk9 m c t,
    positions_low, positions_high]
  rfl

/-- The array after the run. -/
theorem array : (dats m 0 c).arrAt 10 cfg0.N = result m c := by
  refine (dats m 0 c).arrAt_eq_of_covers 10 _ (by decide +kernel) fun t _ y => ?_
  have hy : y = ix3 0 (y 1) (y 2) := by
    conv_lhs => rw [eq_ix3 y]
    congr 1
    exact Subsingleton.elim (α := Fin 1) _ _
  blk_simp
  refine (congrArg ((dats m 0 c).after 10 t) hy).trans ((stored_at m c t (y 1) (y 2)).trans (congrArg (result m c) ?_))
  refine (funext fun a => Fin.ext ?_)
  match a with
  | ⟨0, _⟩ => show t.val = ((win0_10.blk t).view.emb y 0).val; rw [hy]; blk_simp [idx t]; exact (Nat.add_zero _).symm
  | ⟨1, _⟩ => show (y 1).val = ((win0_10.blk t).view.emb y 1).val; rw [hy]; blk_simp [idx t]
  | ⟨2, _⟩ => show (y 2).val = ((win0_10.blk t).view.emb y 2).val; rw [hy]; blk_simp [idx t]

end Cert.Kernel6Ideal.Fou

end
-- ==== Proof.FouRef.lean ====
module
public import proofs.«01_k».proof.Proof.FouSpec
public import proofs.«01_k».proof.Proof.Gen.Reference6Ideal.Read
public import Idealize.ShloMosaic.Lib.Pointwise

@[expose] public section

/-! # What the reference of the Fourier mixing computes, one element at a time -/

set_option maxRecDepth 16384

noncomputable section

namespace Cert.Reference6Ideal.Fou

open Cert.Reference6Ideal Cert.Reference6Ideal.Gen Cert.Reference6Ideal.Read Idealize.ShloMosaic Idealize.ShloMosaic.TcCoe Idealize.SL.Sem
open Cert.TailSpec Cert.FouSpec

variable (x0 : Vec Ideal S8x256x1024 .f32) (x1 : Vec Ideal S1024 .f32) (x2 x3 : Vec Ideal S8x1024 .f32)
  (x4 : Vec Ideal S1024x1024 .f32) (x5 : Vec Ideal S1024 .f32) (x6 : Vec Ideal S8x1024 .f32)
  (b : Fin 8)

/-- The modulated norm of a sample. -/
theorem modl_at (p : Fin 256) (d : Fin 1024) : (val_main_v20 (F := Ideal) x0 x1 x2 x3 (ix3 b p d) : EReal) =
    modl (fun p d => x0 (ix3 b p d)) (fun d => x1 (ix1 d)) (fun d => x2 (ix2 b d)) (fun d => x3 (ix2 b d)) p d := by
  unfold modl
  rw [← one_bits]
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, rms, w1024, eps]

/-- The positions' table, real part. -/
theorem table36 (p q : Fin 256) : (val_main_v36 (F := Ideal) (ix2 p q) : EReal) = cosine p q := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_c, val_main_cst_3, val_main_cst_4, val_main_cst_5, cosine, angle, root]

/-- The positions' table, imaginary part. -/
theorem table56 (p q : Fin 256) : (val_main_v56 (F := Ideal) (ix2 p q) : EReal) = minusSine p q := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_c_6, val_main_cst_7, val_main_cst_8, val_main_cst_9, minusSine, angle, root]

/-- The channels' cosines. -/
theorem table75 (p q : Fin 256) : (val_main_v75 (F := Ideal) (ix2 p q) : EReal) = cosine p q := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_c_10, val_main_cst_11, val_main_cst_12, val_main_cst_13, cosine, angle, root]

/-- The channels' sines. -/
theorem table92 (p q : Fin 256) : (val_main_v92 (F := Ideal) (ix2 p q) : EReal) = sine p q := by
  pointwise [val_main_v92, val_main_v91, val_main_v90, val_main_v89, val_main_v88, val_main_v87, val_main_v86, val_main_v85, val_main_v84, val_main_v83, val_main_v82, val_main_v81, val_main_v80, val_main_v79, val_main_v78, val_main_v77, val_main_c_14, val_main_cst_15, val_main_cst_16, val_main_cst_17, sine, angle, root]

/-- The rows through the positions' real table, at a group's channel. -/
theorem real_at (p : Fin 256) (g : Fin 4) (k : Fin 256) : (val_main_v39 (F := Ideal) x0 x1 x2 x3 (ix4 b p g k) : EReal) =
    ∑ q : Fin 256, cosine p q * (val_main_v20 (F := Ideal) x0 x1 x2 x3 (ix3 b q ⟨256 * g.val + k.val, by omega⟩) : EReal) := by
  simp only [← table36]
  unfold val_main_v39 val_main_v38 val_main_v37
  generalize val_main_v20 (F := Ideal) x0 x1 x2 x3 = y
  generalize val_main_v36 (F := Ideal) = a
  pointwise
  simp only [Nat.mul_comm _ 256]

/-- The rows through the positions' imaginary table, at a group's channel. -/
theorem imag_at (p : Fin 256) (g : Fin 4) (k : Fin 256) : (val_main_v59 (F := Ideal) x0 x1 x2 x3 (ix4 b p g k) : EReal) =
    ∑ q : Fin 256, minusSine p q * (val_main_v20 (F := Ideal) x0 x1 x2 x3 (ix3 b q ⟨256 * g.val + k.val, by omega⟩) : EReal) := by
  simp only [← table56]
  unfold val_main_v59 val_main_v58 val_main_v57
  generalize val_main_v20 (F := Ideal) x0 x1 x2 x3 = y
  generalize val_main_v56 (F := Ideal) = a
  pointwise
  simp only [Nat.mul_comm _ 256]

/-- The transform's real part. -/
theorem freq_at (p : Fin 256) (d : Fin 1024) : (val_main_v95 (F := Ideal) x0 x1 x2 x3 (ix3 b p d) : EReal) =
    (∑ k : Fin 256, (val_main_v39 (F := Ideal) x0 x1 x2 x3 (ix4 b p ⟨d.val / 256, by omega⟩ k) : EReal) * cosine k (place d)) +
      ∑ k : Fin 256, (val_main_v59 (F := Ideal) x0 x1 x2 x3 (ix4 b p ⟨d.val / 256, by omega⟩ k) : EReal) * sine k (place d) := by
  simp only [← table75, ← table92]
  unfold val_main_v95 val_main_v94 val_main_v93 val_main_v76
  generalize val_main_v39 (F := Ideal) x0 x1 x2 x3 = y
  generalize val_main_v59 (F := Ideal) x0 x1 x2 x3 = z
  generalize val_main_v75 (F := Ideal) = cs
  generalize val_main_v92 (F := Ideal) = sn
  pointwise [place]

/-- The output projection. -/
theorem proj_at (p : Fin 256) (c : Fin 1024) : (val_main_v96 (F := Ideal) x0 x1 x2 x3 x4 (ix3 b p c) : EReal) =
    proj cosine minusSine cosine sine (fun d c => x4 (ix2 d c))
      (modl (fun p d => x0 (ix3 b p d)) (fun d => x1 (ix1 d)) (fun d => x2 (ix2 b d)) (fun d => x3 (ix2 b d))) p c := by
  have e : (val_main_v96 (F := Ideal) x0 x1 x2 x3 x4 (ix3 b p c) : EReal) =
      ∑ d : Fin 1024, (val_main_v95 (F := Ideal) x0 x1 x2 x3 (ix3 b p d) : EReal) * x4 (ix2 d c) := by
    unfold val_main_v96
    generalize val_main_v95 (F := Ideal) x0 x1 x2 x3 = y
    pointwise
  rw [e]
  simp only [freq_at, real_at, imag_at, modl_at]
  rfl

theorem norm_at (p : Fin 256) (c : Fin 1024) : (val_main_v110 (F := Ideal) x0 x1 x2 x3 x4 x5 (ix3 b p c) : EReal) =
    rms w1024 (fun c => (val_main_v96 (F := Ideal) x0 x1 x2 x3 x4 (ix3 b p c) : EReal)) (fun c => x5 (ix1 c)) c := by
  unfold val_main_v110 val_main_v107 val_main_v106 val_main_v105 val_main_v104 val_main_v102 val_main_v100 val_main_v99 val_main_v98
  generalize val_main_v96 (F := Ideal) x0 x1 x2 x3 x4 = y
  pointwise [val_main_v109, val_main_v108, val_main_v103, val_main_v101, val_main_cst_18, val_main_cst_19, val_main_cst_20, rms, w1024, eps]

/-- The reference's element is the mixer's. -/
theorem result_at (p : Fin 256) (c : Fin 1024) : (val_main_v113 (F := Ideal) x0 x1 x2 x3 x4 x5 x6 (ix3 b p c) : EReal) =
    mixer (fun p d => x0 (ix3 b p d)) (fun d => x1 (ix1 d)) (fun d => x2 (ix2 b d)) (fun d => x3 (ix2 b d))
      cosine minusSine cosine sine (fun d c => x4 (ix2 d c))
      (fun c => x5 (ix1 c)) (fun c => x6 (ix2 b c)) p c := by
  have e : (val_main_v113 (F := Ideal) x0 x1 x2 x3 x4 x5 x6 (ix3 b p c) : EReal) =
      (x0 (ix3 b p c) : EReal) + (x6 (ix2 b c) : EReal) * val_main_v110 (F := Ideal) x0 x1 x2 x3 x4 x5 (ix3 b p c) := by
    unfold val_main_v113 val_main_v112
    generalize val_main_v110 (F := Ideal) x0 x1 x2 x3 x4 x5 = y
    pointwise [val_main_v111, val_main_v97]
  rw [e, norm_at]
  simp only [proj_at]
  rfl

end Cert.Reference6Ideal.Fou

end
-- ==== Proof.FouClaim.lean ====
module
public import proofs.«01_k».proof.Defs
public import proofs.«01_k».proof.Proof.FouArray
public import proofs.«01_k».proof.Proof.FouRef
public import proofs.«01_k».proof.Proof.Gen.Reference6Ideal.Run
public import Idealize.ShloMosaic.Lib.Quiescent

@[expose] public section

/-! # The claims about the Fourier mixing of the context -/

noncomputable section

namespace Cert.Fou

open Idealize.ShloMosaic Idealize.SL.Sem

/-- The reference ends with its arguments kept; it declares no semaphore. -/
theorem reference_kept : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Equal results: both arrays hold the mixer of `FouSpec` at every sample, position and channel. -/
theorem algebraic : Cert.algebraic_Kernel6Ideal_Reference6Ideal := by
  intro m g m' g' _ hagree
  refine ⟨fun c => Cert.Kernel6Ideal.Fou.result m c, ?_, ?_⟩
  · refine (θ_run Cert.Kernel6Ideal.defs _ _).mono (fun r h c => ⟨(h c).1.trans (Cert.Kernel6Ideal.Fou.array m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    rw [Cert.Reference6Ideal.Read.val_main_v113_eq m' c]
    obtain ⟨a0, a1, a2, a3, a4, a5, a6⟩ := hagree c
    rw [a0, a1, a2, a3, a4, a5, a6]
    funext i
    rw [eq_ix3 i]
    exact Cert.Reference6Ideal.Fou.result_at _ _ _ _ _ _ _ (i 0) (i 1) (i 2)

end Cert.Fou

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AttnClaim
public import proofs.«01_k».proof.Proof.TailClaim
public import proofs.«01_k».proof.Proof.MoeClaim
public import proofs.«01_k».proof.Proof.MixClaim
public import proofs.«01_k».proof.Proof.ModClaim
public import proofs.«01_k».proof.Proof.FouClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Finite.facts, Cert.MoeMask.pre_facts, Cert.Mod.facts, Cert.MoeMask.mask_facts,
    fun m ρ _ => Cert.Kernel.Gen.frame m ρ,
    fun m ρ _ => Cert.KernelIdeal.Gen.frame m ρ,
    fun m ρ _ => Cert.KernelIdeal.Gen.frame m ρ,
    Cert.Attn.reference_kept,
    fun m ρ _ => Cert.Attn.reference_kept m ρ trivial,
    fun m ρ _ => Cert.Kernel2.Gen.frame m ρ,
    fun m ρ _ => Cert.Kernel2Ideal.Gen.frame m ρ,
    Cert.Tail.reference_kept,
    Cert.Moe.kernel_kept, Cert.Moe.ideal_kept, fun m ρ _ => Cert.Moe.ideal_kept m ρ trivial, Cert.Moe.reference_kept,
    fun m ρ _ => Cert.Moe.reference_kept m ρ trivial,
    fun m ρ _ => Cert.Kernel4.Gen.frame m ρ, fun m ρ _ => Cert.Kernel4Ideal.Gen.frame m ρ, Cert.Mix.reference_kept,
    fun m ρ _ => Cert.Kernel5.Gen.frame m ρ, fun m ρ _ => Cert.Kernel5Ideal.Gen.frame m ρ,
    fun m ρ _ => Cert.Kernel5Ideal.Gen.frame m ρ, Cert.Mod.reference_kept, fun m ρ _ => Cert.Mod.reference_kept m ρ trivial,
    fun m ρ _ => Cert.Kernel6.Gen.frame m ρ, fun m ρ _ => Cert.Kernel6Ideal.Gen.frame m ρ, Cert.Fou.reference_kept,
    trivial,
    Cert.Attn.algebraic (hPre := Cert.Finite.facts),
    trivial,
    Cert.Tail.algebraic,
    trivial,
    Cert.Moe.algebraic (hPre := Cert.MoeMask.pre_facts) (hOn := Cert.MoeMask.mask_facts),
    trivial,
    Cert.Mix.algebraic,
    trivial,
    Cert.Mod.algebraic (hPre := Cert.Mod.facts),
    trivial,
    Cert.Fou.algebraic⟩

end Cert.Proof

end
